-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v62_0)) (v1 : (c : Dev Cert.KernelIdeal.nD) → Buf (Elt Ideal) ((c.tc : Thread Cert.KernelIdeal.nD Cert.KernelIdeal.τ).loc Cert.KernelIdeal.main_v62_1)) (v2 : (c : Dev Cert.KernelIdeal.nD) → Buf (Elt Ideal) ((c.tc : Thread Cert.KernelIdeal.nD Cert.KernelIdeal.τ).loc Cert.KernelIdeal.main_v23)) (v3 : (c : Dev Cert.KernelIdeal.nD) → Buf (Elt Ideal) ((c.tc : Thread Cert.KernelIdeal.nD Cert.KernelIdeal.τ).loc Cert.KernelIdeal.main_v56)) (v4 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62_0) = v0 c
          ∧ r.2.mem ((c.tc : Thread Cert.KernelIdeal.nD Cert.KernelIdeal.τ).loc Cert.KernelIdeal.main_v62_1) = v1 c
          ∧ r.2.mem ((c.tc : Thread Cert.KernelIdeal.nD Cert.KernelIdeal.τ).loc Cert.KernelIdeal.main_v23) = v2 c
          ∧ r.2.mem ((c.tc : Thread Cert.KernelIdeal.nD Cert.KernelIdeal.τ).loc Cert.KernelIdeal.main_v56) = v3 c
          ∧ r.2.mem ((c.tc : Thread Cert.KernelIdeal.nD Cert.KernelIdeal.τ).loc Cert.KernelIdeal.main_v50) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39_0) = v0 c
          ∧ r.2.mem ((c.tc : Thread Cert.ReferenceIdeal.nD Cert.ReferenceIdeal.τ).loc Cert.ReferenceIdeal.main_v39_1) = v1 c
          ∧ r.2.mem ((c.tc : Thread Cert.ReferenceIdeal.nD Cert.ReferenceIdeal.τ).loc Cert.ReferenceIdeal.main_v16) = v2 c
          ∧ r.2.mem ((c.tc : Thread Cert.ReferenceIdeal.nD Cert.ReferenceIdeal.τ).loc Cert.ReferenceIdeal.main_v39_2) = v3 c
          ∧ r.2.mem ((c.tc : Thread Cert.ReferenceIdeal.nD Cert.ReferenceIdeal.τ).loc Cert.ReferenceIdeal.main_v33) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6x3072x35840 : Shape := ⟨3, ![6, 3072, 35840]⟩
abbrev S5120x35840 : Shape := ⟨2, ![5120, 35840]⟩
abbrev S18432x35840 : Shape := ⟨2, ![18432, 35840]⟩
abbrev S1x1 : Shape := ⟨2, ![1, 1]⟩
abbrev S1024x3584 : Shape := ⟨2, ![1024, 3584]⟩
abbrev S16x3584 : Shape := ⟨2, ![16, 3584]⟩
abbrev S64x16x3584 : Shape := ⟨3, ![64, 16, 3584]⟩
abbrev S1x16x3584 : Shape := ⟨3, ![1, 16, 3584]⟩
abbrev S1 : Shape := ⟨1, ![1]⟩
abbrev S1x1x1 : Shape := ⟨3, ![1, 1, 1]⟩
abbrev S_ : Shape := ⟨0, ![]⟩
abbrev S254 : Shape := ⟨1, ![254]⟩
abbrev S512x3584 : Shape := ⟨2, ![512, 3584]⟩
abbrev S8x3584 : Shape := ⟨2, ![8, 3584]⟩
abbrev S64x8x3584 : Shape := ⟨3, ![64, 8, 3584]⟩
abbrev S1x8x3584 : Shape := ⟨3, ![1, 8, 3584]⟩
abbrev S2 : Shape := ⟨1, ![2]⟩
abbrev S1x2 : Shape := ⟨2, ![1, 2]⟩
abbrev S6x3072x5120 : Shape := ⟨3, ![6, 3072, 5120]⟩
abbrev S1x1024x1024 : Shape := ⟨3, ![1, 1024, 1024]⟩
abbrev S5120x1024 : Shape := ⟨2, ![5120, 1024]⟩
abbrev S1x1024x5120 : Shape := ⟨3, ![1, 1024, 5120]⟩
abbrev S1024x5120 : Shape := ⟨2, ![1024, 5120]⟩
abbrev S1024x1024 : Shape := ⟨2, ![1024, 1024]⟩

abbrev nBuf : Space → Nat
  | .hbm => 96
  | .vmem => 19
  | .smem => 4
  | _ => 0

abbrev bufTy : (tb : Table) → Fin (tcTables nBuf tb) → BufTy
  | .hbm, ⟨0, _⟩ => ⟨S6x3072x35840, .bf16⟩
  | .hbm, ⟨1, _⟩ => ⟨S5120x35840, .f32⟩
  | .hbm, ⟨2, _⟩ => ⟨S18432x35840, .bf16⟩
  | .hbm, ⟨3, _⟩ => ⟨S1x1, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S254, .i32⟩
  | .hbm, ⟨8, _⟩ => ⟨S_, .i32⟩
  | .hbm, ⟨9, _⟩ => ⟨S254, .i32⟩
  | .hbm, ⟨10, _⟩ => ⟨S254, .i32⟩
  | .hbm, ⟨11, _⟩ => ⟨S_, .i32⟩
  | .hbm, ⟨12, _⟩ => ⟨S254, .i32⟩
  | .hbm, ⟨13, _⟩ => ⟨S254, .i32⟩
  | .hbm, ⟨14, _⟩ => ⟨S254, .f32⟩
  | .hbm, ⟨15, _⟩ => ⟨S_, .f32⟩
  | .hbm, ⟨16, _⟩ => ⟨S_, .i1⟩
  | .hbm, ⟨17, _⟩ => ⟨S_, .f32⟩
  | .hbm, ⟨18, _⟩ => ⟨S_, .i1⟩
  | .hbm, ⟨19, _⟩ => ⟨S_, .i1⟩
  | .hbm, ⟨20, _⟩ => ⟨S254, .f32⟩
  | .hbm, ⟨21, _⟩ => ⟨S254, .i1⟩
  | .hbm, ⟨22, _⟩ => ⟨S254, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .f32⟩
  | .hbm, ⟨31, _⟩ => ⟨S_, .i1⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S_, .f32⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S_, .f32⟩
  | .hbm, ⟨45, _⟩ => ⟨S1x1, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S254, .i32⟩
  | .hbm, ⟨50, _⟩ => ⟨S_, .i32⟩
  | .hbm, ⟨51, _⟩ => ⟨S254, .i32⟩
  | .hbm, ⟨52, _⟩ => ⟨S254, .i32⟩
  | .hbm, ⟨53, _⟩ => ⟨S_, .i32⟩
  | .hbm, ⟨54, _⟩ => ⟨S254, .i32⟩
  | .hbm, ⟨55, _⟩ => ⟨S254, .i32⟩
  | .hbm, ⟨56, _⟩ => ⟨S254, .f32⟩
  | .hbm, ⟨57, _⟩ => ⟨S_, .f32⟩
  | .hbm, ⟨58, _⟩ => ⟨S_, .i1⟩
  | .hbm, ⟨59, _⟩ => ⟨S_, .f32⟩
  | .hbm, ⟨60, _⟩ => ⟨S_, .i1⟩
  | .hbm, ⟨61, _⟩ => ⟨S_, .i1⟩
  | .hbm, ⟨62, _⟩ => ⟨S254, .f32⟩
  | .hbm, ⟨63, _⟩ => ⟨S254, .i1⟩
  | .hbm, ⟨64, _⟩ => ⟨S254, .i32⟩
  | .hbm, ⟨65, _⟩ => ⟨S_, .i32⟩
  | .hbm, ⟨66, _⟩ => ⟨S_, .i32⟩
  | .hbm, ⟨67, _⟩ => ⟨S_, .i32⟩
  | .hbm, ⟨68, _⟩ => ⟨S_, .i32⟩
  | .hbm, ⟨69, _⟩ => ⟨S_, .i32⟩
  | .hbm, ⟨70, _⟩ => ⟨S_, .i32⟩
  | .hbm, ⟨71, _⟩ => ⟨S_, .i32⟩
  | .hbm, ⟨72, _⟩ => ⟨S_, .f32⟩
  | .hbm, ⟨73, _⟩ => ⟨S_, .i1⟩
  | .hbm, ⟨74, _⟩ => ⟨S_, .i32⟩
  | .hbm, ⟨75, _⟩ => ⟨S_, .i32⟩
  | .hbm, ⟨76, _⟩ => ⟨S_, .i32⟩
  | .hbm, ⟨77, _⟩ => ⟨S_, .i32⟩
  | .hbm, ⟨78, _⟩ => ⟨S_, .i32⟩
  | .hbm, ⟨79, _⟩ => ⟨S_, .i32⟩
  | .hbm, ⟨80, _⟩ => ⟨S_, .f32⟩
  | .hbm, ⟨81, _⟩ => ⟨S_, .i32⟩
  | .hbm, ⟨82, _⟩ => ⟨S_, .i32⟩
  | .hbm, ⟨83, _⟩ => ⟨S_, .i32⟩
  | .hbm, ⟨84, _⟩ => ⟨S_, .i32⟩
  | .hbm, ⟨85, _⟩ => ⟨S_, .i32⟩
  | .hbm, ⟨86, _⟩ => ⟨S_, .f32⟩
  | .hbm, ⟨87, _⟩ => ⟨S1x1, .f32⟩
  | .hbm, ⟨88, _⟩ => ⟨S5120x35840, .fp8e4m3⟩
  | .hbm, ⟨89, _⟩ => ⟨S_, .f32⟩
  | .hbm, ⟨90, _⟩ => ⟨S1, .f32⟩
  | .hbm, ⟨91, _⟩ => ⟨S1, .f32⟩
  | .hbm, ⟨92, _⟩ => ⟨S2, .f32⟩
  | .hbm, ⟨93, _⟩ => ⟨S1x2, .f32⟩
  | .hbm, ⟨94, _⟩ => ⟨S6x3072x5120, .bf16⟩
  | .hbm, ⟨95, _⟩ => ⟨S6x3072x35840, .fp8e5m2⟩
  | .local _ .vmem, ⟨0, _⟩ => ⟨S1024x3584, .bf16⟩
  | .local _ .vmem, ⟨1, _⟩ => ⟨S1024x3584, .bf16⟩
  | .local _ .vmem, ⟨2, _⟩ => ⟨S16x3584, .bf16⟩
  | .local _ .vmem, ⟨3, _⟩ => ⟨S512x3584, .f32⟩
  | .local _ .vmem, ⟨4, _⟩ => ⟨S512x3584, .f32⟩
  | .local _ .vmem, ⟨5, _⟩ => ⟨S8x3584, .f32⟩
  | .local _ .vmem, ⟨6, _⟩ => ⟨S512x3584, .f32⟩
  | .local _ .vmem, ⟨7, _⟩ => ⟨S512x3584, .f32⟩
  | .local _ .vmem, ⟨8, _⟩ => ⟨S512x3584, .fp8e4m3⟩
  | .local _ .vmem, ⟨9, _⟩ => ⟨S512x3584, .fp8e4m3⟩
  | .local _ .vmem, ⟨10, _⟩ => ⟨S1x1024x1024, .bf16⟩
  | .local _ .vmem, ⟨11, _⟩ => ⟨S1x1024x1024, .bf16⟩
  | .local _ .vmem, ⟨12, _⟩ => ⟨S5120x1024, .fp8e4m3⟩
  | .local _ .vmem, ⟨13, _⟩ => ⟨S5120x1024, .fp8e4m3⟩
  | .local _ .vmem, ⟨14, _⟩ => ⟨S1x1024x5120, .bf16⟩
  | .local _ .vmem, ⟨15, _⟩ => ⟨S1x1024x5120, .bf16⟩
  | .local _ .vmem, ⟨16, _⟩ => ⟨S1x1024x1024, .fp8e5m2⟩
  | .local _ .vmem, ⟨17, _⟩ => ⟨S1x1024x1024, .fp8e5m2⟩
  | .local _ .vmem, ⟨18, _⟩ => ⟨S1024x5120, .f32⟩
  | .local _ .smem, ⟨0, _⟩ => ⟨S1x1, .f32⟩
  | .local _ .smem, ⟨1, _⟩ => ⟨S1x1, .f32⟩
  | .local _ .smem, ⟨2, _⟩ => ⟨S1x1, .f32⟩
  | .local _ .smem, ⟨3, _⟩ => ⟨S1x2, .f32⟩
  | _, _ => ⟨S6x3072x35840, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c_3 : Ref sig .tc := ⟨.hbm, 23, rfl⟩
abbrev main_v16 : Ref sig .tc := ⟨.hbm, 24, rfl⟩
abbrev main_c_4 : Ref sig .tc := ⟨.hbm, 25, rfl⟩
abbrev main_v17 : Ref sig .tc := ⟨.hbm, 26, rfl⟩
abbrev main_c_5 : Ref sig .tc := ⟨.hbm, 27, rfl⟩
abbrev main_call0_v0 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_c_7 : Ref sig .tc := ⟨.hbm, 32, rfl⟩
abbrev main_v20 : Ref sig .tc := ⟨.hbm, 33, rfl⟩
abbrev main_c_8 : Ref sig .tc := ⟨.hbm, 34, rfl⟩
abbrev main_v21 : Ref sig .tc := ⟨.hbm, 35, rfl⟩
abbrev main_c_9 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_10 : Ref sig .tc := ⟨.hbm, 40, rfl⟩
abbrev main_v25 : Ref sig .tc := ⟨.hbm, 41, rfl⟩
abbrev main_c_11 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_12 : Ref sig .tc := ⟨.hbm, 47, rfl⟩
abbrev main_v30 : Ref sig .tc := ⟨.hbm, 48, rfl⟩
abbrev main_v31 : Ref sig .tc := ⟨.hbm, 49, rfl⟩
abbrev main_c_13 : Ref sig .tc := ⟨.hbm, 50, rfl⟩
abbrev main_v32 : Ref sig .tc := ⟨.hbm, 51, rfl⟩
abbrev main_v33 : Ref sig .tc := ⟨.hbm, 52, rfl⟩
abbrev main_c_14 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_15 : Ref sig .tc := ⟨.hbm, 57, rfl⟩
abbrev main_v37 : Ref sig .tc := ⟨.hbm, 58, rfl⟩
abbrev main_cst_16 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_c_17 : Ref sig .tc := ⟨.hbm, 65, rfl⟩
abbrev main_v43 : Ref sig .tc := ⟨.hbm, 66, rfl⟩
abbrev main_c_18 : Ref sig .tc := ⟨.hbm, 67, rfl⟩
abbrev main_v44 : Ref sig .tc := ⟨.hbm, 68, rfl⟩
abbrev main_c_19 : Ref sig .tc := ⟨.hbm, 69, rfl⟩
abbrev main_call2_v0 : Ref sig .tc := ⟨.hbm, 70, rfl⟩
abbrev main_v45 : Ref sig .tc := ⟨.hbm, 71, rfl⟩
abbrev main_cst_20 : Ref sig .tc := ⟨.hbm, 72, rfl⟩
abbrev main_v46 : Ref sig .tc := ⟨.hbm, 73, rfl⟩
abbrev main_c_21 : Ref sig .tc := ⟨.hbm, 74, rfl⟩
abbrev main_v47 : Ref sig .tc := ⟨.hbm, 75, rfl⟩
abbrev main_c_22 : Ref sig .tc := ⟨.hbm, 76, rfl⟩
abbrev main_v48 : Ref sig .tc := ⟨.hbm, 77, rfl⟩
abbrev main_c_23 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_c_24 : Ref sig .tc := ⟨.hbm, 82, rfl⟩
abbrev main_v52 : Ref sig .tc := ⟨.hbm, 83, rfl⟩
abbrev main_c_25 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62_0 : Ref sig .tc := ⟨.hbm, 94, rfl⟩
abbrev main_v62_1 : Ref sig .tc := ⟨.hbm, 95, rfl⟩
abbrev cc0_stg0_0 : Ref sig .tc := ⟨.vmem, 0, rfl⟩
abbrev cc0_stg0_1 : Ref sig .tc := ⟨.vmem, 1, rfl⟩
abbrev cc0_scratch0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_scratch0 : Ref sig .tc := ⟨.vmem, 5, rfl⟩
abbrev cc2_stg1_0 : Ref sig .tc := ⟨.vmem, 6, rfl⟩
abbrev cc2_stg1_1 : Ref sig .tc := ⟨.vmem, 7, rfl⟩
abbrev cc2_stg2_0 : Ref sig .tc := ⟨.vmem, 8, rfl⟩
abbrev cc2_stg2_1 : Ref sig .tc := ⟨.vmem, 9, rfl⟩
abbrev cc3_stg1_0 : Ref sig .tc := ⟨.vmem, 10, rfl⟩
abbrev cc3_stg1_1 : Ref sig .tc := ⟨.vmem, 11, rfl⟩
abbrev cc3_stg2_0 : Ref sig .tc := ⟨.vmem, 12, rfl⟩
abbrev cc3_stg2_1 : Ref sig .tc := ⟨.vmem, 13, rfl⟩
abbrev cc3_stg3_0 : Ref sig .tc := ⟨.vmem, 14, rfl⟩
abbrev cc3_stg3_1 : Ref sig .tc := ⟨.vmem, 15, rfl⟩
abbrev cc3_stg4_0 : Ref sig .tc := ⟨.vmem, 16, rfl⟩
abbrev cc3_stg4_1 : Ref sig .tc := ⟨.vmem, 17, rfl⟩
abbrev cc3_scratch0 : Ref sig .tc := ⟨.vmem, 18, rfl⟩
abbrev cc0_stg1_0 : Ref sig .tc := ⟨.smem, 0, rfl⟩
abbrev cc1_stg1_0 : Ref sig .tc := ⟨.smem, 1, rfl⟩
abbrev cc2_stg0_0 : Ref sig .tc := ⟨.smem, 2, rfl⟩
abbrev cc3_stg0_0 : Ref sig .tc := ⟨.smem, 3, rfl⟩
abbrev cc0_sem0_0 : DmaSem sig := 0
abbrev cc0_sem0_1 : DmaSem sig := 1
abbrev cc0_sem1_0 : DmaSem sig := 2
abbrev cc1_sem0_0 : DmaSem sig := 3
abbrev cc1_sem0_1 : DmaSem sig := 4
abbrev cc1_sem1_0 : DmaSem sig := 5
abbrev cc2_sem0_0 : DmaSem sig := 6
abbrev cc2_sem1_0 : DmaSem sig := 7
abbrev cc2_sem1_1 : DmaSem sig := 8
abbrev cc2_sem2_0 : DmaSem sig := 9
abbrev cc2_sem2_1 : DmaSem sig := 10
abbrev cc3_sem0_0 : DmaSem sig := 11
abbrev cc3_sem1_0 : DmaSem sig := 12
abbrev cc3_sem1_1 : DmaSem sig := 13
abbrev cc3_sem2_0 : DmaSem sig := 14
abbrev cc3_sem2_1 : DmaSem sig := 15
abbrev cc3_sem3_0 : DmaSem sig := 16
abbrev cc3_sem3_1 : DmaSem sig := 17
abbrev cc3_sem4_0 : DmaSem sig := 18
abbrev cc3_sem4_1 : DmaSem sig := 19

abbrev nD : Nat := 1
abbrev τ : Topo := Topo.v7x

variable {F : FTy → Type} [FloatOps F]

abbrev grid0 : Pipeline.Grid := ⟨2, ![18, 10], ![false, false]⟩

def k0_cond3 (i : grid0.Coords) : BitVec 1 :=
  let arg0 : BitVec 32 := BitVec.ofNat 32 (i 0).val
  let c17_i32 : BitVec 32 := 17#32
  let v3 : BitVec 1 := Scalar.cmpi .eq arg0 c17_i32
  let arg1 : BitVec 32 := BitVec.ofNat 32 (i 1).val
  let c9_i32 : BitVec 32 := 9#32
  let v4 : BitVec 1 := Scalar.cmpi .eq arg1 c9_i32
  let v5 : BitVec 1 := Scalar.andi v3 v4
  let v16 : BitVec 32 := Scalar.extui v5
  let c0_i32_4 : BitVec 32 := 0#32
  let v17 : BitVec 1 := Scalar.cmpi .ne v16 c0_i32_4
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .smem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev grid1 : Pipeline.Grid := ⟨2, ![10, 10], ![false, false]⟩

def k1_cond3 (i : grid1.Coords) : BitVec 1 :=
  let arg0 : BitVec 32 := BitVec.ofNat 32 (i 0).val
  let c9_i32 : BitVec 32 := 9#32
  let v3 : BitVec 1 := Scalar.cmpi .eq arg0 c9_i32
  let arg1 : BitVec 32 := BitVec.ofNat 32 (i 1).val
  let c9_i32_1 : BitVec 32 := 9#32
  let v4 : BitVec 1 := Scalar.cmpi .eq arg1 c9_i32_1
  let v5 : BitVec 1 := Scalar.andi v3 v4
  let v15 : BitVec 32 := Scalar.extui v5
  let c0_i32_5 : BitVec 32 := 0#32
  let v16 : BitVec 1 := Scalar.cmpi .ne v15 c0_i32_5
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x3584 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .smem S1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev grid2 : Pipeline.Grid := ⟨2, ![10, 10], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 1 → Memref sig .tc .smem S1x1 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false, false]

abbrev stage2_1 : Fin 2 → Memref sig .tc .vmem S512x3584 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S512x3584 .fp8e4m3 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![18, 35], ![false, false]⟩

def k3_cond2 (i : grid3.Coords) : BitVec 1 :=
  let arg1 : BitVec 32 := BitVec.ofNat 32 (i 1).val
  let c34_i32 : BitVec 32 := 34#32
  let v28 : BitVec 1 := Scalar.cmpi .eq arg1 c34_i32
  let v29 : BitVec 32 := Scalar.extui v28
  let c0_i32_19 : BitVec 32 := 0#32
  let v30 : BitVec 1 := Scalar.cmpi .ne v29 c0_i32_19
  v30

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, v26.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_3 (i : grid3.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc3_transform_4 (i : grid3.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, v26.toNat, arg1.toNat]

abbrev stage3_0 : Fin 1 → Memref sig .tc .smem S1x2 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false, false]

abbrev stage3_1 : Fin 2 → Memref sig .tc .vmem S1x1024x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S5120x1024 .fp8e4m3 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true]

abbrev stage3_3 : Fin 2 → Memref sig .tc .vmem S1x1024x5120 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev stage3_4 : Fin 2 → Memref sig .tc .vmem S1x1024x1024 .fp8e5m2 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]
-- ==== ReferenceIdeal.lean ====
abbrev S6x3072x35840 : Shape := ⟨3, ![6, 3072, 35840]⟩
abbrev S5120x35840 : Shape := ⟨2, ![5120, 35840]⟩
abbrev S_ : Shape := ⟨0, ![]⟩
abbrev S253 : Shape := ⟨1, ![253]⟩
abbrev S1x1 : Shape := ⟨2, ![1, 1]⟩
abbrev S6x3072x5120 : Shape := ⟨3, ![6, 3072, 5120]⟩
abbrev S1x1x1 : Shape := ⟨3, ![1, 1, 1]⟩
abbrev S18432x35840 : Shape := ⟨2, ![18432, 35840]⟩
abbrev S18432x5120 : Shape := ⟨2, ![18432, 5120]⟩

abbrev nBuf : Space → Nat
  | .hbm => 70
  | .vmem => 8
  | .smem => 0
  | _ => 0

abbrev bufTy : (tb : Table) → Fin (tcTables nBuf tb) → BufTy
  | .hbm, ⟨0, _⟩ => ⟨S6x3072x35840, .bf16⟩
  | .hbm, ⟨1, _⟩ => ⟨S5120x35840, .f32⟩
  | .hbm, ⟨2, _⟩ => ⟨S6x3072x35840, .bf16⟩
  | .hbm, ⟨3, _⟩ => ⟨S_, .bf16⟩
  | .hbm, ⟨4, _⟩ => ⟨S_, .bf16⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .i1⟩
  | .hbm, ⟨10, _⟩ => ⟨S_, .f32⟩
  | .hbm, ⟨11, _⟩ => ⟨S_, .i1⟩
  | .hbm, ⟨12, _⟩ => ⟨S_, .i1⟩
  | .hbm, ⟨13, _⟩ => ⟨S253, .f32⟩
  | .hbm, ⟨14, _⟩ => ⟨S_, .f32⟩
  | .hbm, ⟨15, _⟩ => ⟨S253, .f32⟩
  | .hbm, ⟨16, _⟩ => ⟨S253, .f32⟩
  | .hbm, ⟨17, _⟩ => ⟨S_, .f32⟩
  | .hbm, ⟨18, _⟩ => ⟨S253, .f32⟩
  | .hbm, ⟨19, _⟩ => ⟨S253, .f32⟩
  | .hbm, ⟨20, _⟩ => ⟨S253, .f32⟩
  | .hbm, ⟨21, _⟩ => ⟨S253, .i1⟩
  | .hbm, ⟨22, _⟩ => ⟨S_, .f32⟩
  | .hbm, ⟨23, _⟩ => ⟨S_, .f32⟩
  | .hbm, ⟨24, _⟩ => ⟨S253, .f32⟩
  | .hbm, ⟨25, _⟩ => ⟨S253, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S5120x35840, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .i1⟩
  | .hbm, ⟨40, _⟩ => ⟨S_, .f32⟩
  | .hbm, ⟨41, _⟩ => ⟨S_, .i1⟩
  | .hbm, ⟨42, _⟩ => ⟨S_, .i1⟩
  | .hbm, ⟨43, _⟩ => ⟨S253, .f32⟩
  | .hbm, ⟨44, _⟩ => ⟨S_, .f32⟩
  | .hbm, ⟨45, _⟩ => ⟨S253, .f32⟩
  | .hbm, ⟨46, _⟩ => ⟨S253, .f32⟩
  | .hbm, ⟨47, _⟩ => ⟨S_, .f32⟩
  | .hbm, ⟨48, _⟩ => ⟨S253, .f32⟩
  | .hbm, ⟨49, _⟩ => ⟨S253, .f32⟩
  | .hbm, ⟨50, _⟩ => ⟨S253, .f32⟩
  | .hbm, ⟨51, _⟩ => ⟨S253, .i1⟩
  | .hbm, ⟨52, _⟩ => ⟨S_, .f32⟩
  | .hbm, ⟨53, _⟩ => ⟨S_, .f32⟩
  | .hbm, ⟨54, _⟩ => ⟨S253, .f32⟩
  | .hbm, ⟨55, _⟩ => ⟨S253, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S1x1, .f32⟩
  | .hbm, ⟨64, _⟩ => ⟨S1x1, .f32⟩
  | .hbm, ⟨65, _⟩ => ⟨S_, .f32⟩
  | .hbm, ⟨66, _⟩ => ⟨S1x1, .f32⟩
  | .hbm, ⟨67, _⟩ => ⟨S6x3072x5120, .bf16⟩
  | .hbm, ⟨68, _⟩ => ⟨S6x3072x35840, .fp8e5m2⟩
  | .hbm, ⟨69, _⟩ => ⟨S5120x35840, .fp8e4m3⟩
  | .local _ .vmem, ⟨0, _⟩ => ⟨S6x3072x35840, .bf16⟩
  | .local _ .vmem, ⟨1, _⟩ => ⟨S5120x35840, .f32⟩
  | .local _ .vmem, ⟨2, _⟩ => ⟨S1x1, .f32⟩
  | .local _ .vmem, ⟨3, _⟩ => ⟨S1x1, .f32⟩
  | .local _ .vmem, ⟨4, _⟩ => ⟨S1x1, .f32⟩
  | .local _ .vmem, ⟨5, _⟩ => ⟨S6x3072x5120, .bf16⟩
  | .local _ .vmem, ⟨6, _⟩ => ⟨S6x3072x35840, .fp8e5m2⟩
  | .local _ .vmem, ⟨7, _⟩ => ⟨S5120x35840, .fp8e4m3⟩
  | _, _ => ⟨S6x3072x35840, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_cst_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_v9 : Ref sig .tc := ⟨.hbm, 16, rfl⟩
abbrev main_cst_4 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_5 : Ref sig .tc := ⟨.hbm, 22, rfl⟩
abbrev main_call0_v0 : Ref sig .tc := ⟨.hbm, 23, rfl⟩
abbrev main_call0_v1 : Ref sig .tc := ⟨.hbm, 24, rfl⟩
abbrev main_v14 : Ref sig .tc := ⟨.hbm, 25, rfl⟩
abbrev main_cst_6 : Ref sig .tc := ⟨.hbm, 26, rfl⟩
abbrev main_v15 : Ref sig .tc := ⟨.hbm, 27, rfl⟩
abbrev main_cst_7 : Ref sig .tc := ⟨.hbm, 28, rfl⟩
abbrev main_call1_v0 : Ref sig .tc := ⟨.hbm, 29, rfl⟩
abbrev main_v16 : Ref sig .tc := ⟨.hbm, 30, rfl⟩
abbrev main_cst_8 : Ref sig .tc := ⟨.hbm, 31, rfl⟩
abbrev main_v17 : Ref sig .tc := ⟨.hbm, 32, rfl⟩
abbrev main_v18 : Ref sig .tc := ⟨.hbm, 33, rfl⟩
abbrev main_cst_9 : Ref sig .tc := ⟨.hbm, 34, rfl⟩
abbrev main_v19 : Ref sig .tc := ⟨.hbm, 35, rfl⟩
abbrev main_cst_10 : Ref sig .tc := ⟨.hbm, 36, rfl⟩
abbrev main_v20 : Ref sig .tc := ⟨.hbm, 37, rfl⟩
abbrev main_cst_11 : Ref sig .tc := ⟨.hbm, 38, rfl⟩
abbrev main_v21 : Ref sig .tc := ⟨.hbm, 39, rfl⟩
abbrev main_cst_12 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_13 : Ref sig .tc := ⟨.hbm, 44, rfl⟩
abbrev main_v25 : Ref sig .tc := ⟨.hbm, 45, rfl⟩
abbrev main_v26 : Ref sig .tc := ⟨.hbm, 46, rfl⟩
abbrev main_cst_14 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_15 : Ref sig .tc := ⟨.hbm, 52, rfl⟩
abbrev main_call2_v0 : Ref sig .tc := ⟨.hbm, 53, rfl⟩
abbrev main_call2_v1 : Ref sig .tc := ⟨.hbm, 54, rfl⟩
abbrev main_v31 : Ref sig .tc := ⟨.hbm, 55, rfl⟩
abbrev main_cst_16 : Ref sig .tc := ⟨.hbm, 56, rfl⟩
abbrev main_v32 : Ref sig .tc := ⟨.hbm, 57, rfl⟩
abbrev main_cst_17 : Ref sig .tc := ⟨.hbm, 58, rfl⟩
abbrev main_call3_v0 : Ref sig .tc := ⟨.hbm, 59, rfl⟩
abbrev main_v33 : Ref sig .tc := ⟨.hbm, 60, rfl⟩
abbrev main_cst_18 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39_0 : Ref sig .tc := ⟨.hbm, 67, rfl⟩
abbrev main_v39_1 : Ref sig .tc := ⟨.hbm, 68, rfl⟩
abbrev main_v39_2 : Ref sig .tc := ⟨.hbm, 69, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S6x3072x35840 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5120x35840 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6x3072x5120 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6x3072x35840 .fp8e5m2 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S5120x35840 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Whole.Region0.lean ====
/- The first call (largest magnitude of dy): its blocks, its body at each point, the scratch carried between points. Laid out as the generated frame of a one-call program is; a call that carries
   scratch between points keeps that scratch in its invariant. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0_amax_bfloat16` (pipeline 0), at the entry contents `V` -/

/-! ## The windows' blocks -/

/-- Window `w`'s block at point `t`, read off its array as the region finds it (`V`). -/
noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only — by arithmetic of the point. -/
theorem hcond0_0 : ∀ t : Fin cfg0.N, cond0_0 (grid0.coords t) ↔ t.val % 180 = 0 :=
  (fun t => by
    have ht : t.val < 180 := Nat.lt_of_lt_of_eq t.isLt N_0
    have e0 : (grid0.coords t 0).val = t.val / 10 % 18 := Pipeline.Grid.coords_val t 0 (by decide) rfl
    have e1 : (grid0.coords t 1).val = t.val / 1 % 10 := Pipeline.Grid.coords_val t 1 (by decide) rfl
    simp only [cond0_0, e0, e1]
    word_cmp
   : ∀ t : Fin grid0.N, cond0_0 (grid0.coords t) ↔ t.val % 180 = 0)

/-- The condition of the body's `scf.if` 1 (`k0_h2`), from the grid coordinates (the skeleton's scalar
    chain substituted). -/
abbrev cond0_1 (i : grid0.Coords) : Prop := (Scalar.cmpi .ne (Scalar.extui (Scalar.xori (Scalar.andi (Scalar.cmpi .eq (BitVec.ofNat 32 (i 0).val) 0#32) (Scalar.cmpi .eq (BitVec.ofNat 32 (i 1).val) 0#32)) 1#1)) 0#32) = 1#1
/-- It holds at the points from point 1 on — decided over the grid. -/
theorem hcond0_1 : ∀ t : Fin cfg0.N, cond0_1 (grid0.coords t) ↔ 1 ≤ t.val :=
  (by decide +kernel : ∀ t : Fin grid0.N, cond0_1 (grid0.coords t) ↔ 1 ≤ t.val)

/-- The condition of the body's `scf.if` 2 (`k0_h3`), from the grid coordinates (the skeleton's scalar
    chain substituted). -/
abbrev cond0_2 (i : grid0.Coords) : Prop := k0_cond3 i = 1#1
/-- It holds at the last point only — by arithmetic of the point. -/
theorem hcond0_2 : ∀ t : Fin cfg0.N, cond0_2 (grid0.coords t) ↔ t.val % 180 = 179 :=
  (fun t => by
    have ht : t.val < 180 := Nat.lt_of_lt_of_eq t.isLt N_0
    have e0 : (grid0.coords t 0).val = t.val / 10 % 18 := Pipeline.Grid.coords_val t 0 (by decide) rfl
    have e1 : (grid0.coords t 1).val = t.val / 1 % 10 := Pipeline.Grid.coords_val t 1 (by decide) rfl
    simp only [cond0_2, k0_cond3, e0, e1]
    word_cmp
   : ∀ t : Fin grid0.N, cond0_2 (grid0.coords t) ↔ t.val % 180 = 179)

/-! ## Where the windows are idle (the printed configuration's table `Cfg.idle`) -/

/-- Window 0 is never idle (an input). -/
theorem liveAt0_0 : ∀ t : Fin cfg0.N, cfg0.idle 0 (grid0.coords t) = false := fun _ => rfl
/-- At the points of case A the printed configuration (`Cfg.idle`) calls output 1 idle: the case stores nothing into it. -/
theorem idleAt0_1_A : ∀ t : Fin cfg0.N, cond0_0 (grid0.coords t) → ¬cond0_1 (grid0.coords t) → ¬cond0_2 (grid0.coords t) → cfg0.idle 1 (grid0.coords t) = true := by decide +kernel
/-- At the points of case A the pipeline does not write output 1's block back. -/
theorem noFlush0_1_A : ∀ t : Fin cfg0.N, cond0_0 (grid0.coords t) → ¬cond0_1 (grid0.coords t) → ¬cond0_2 (grid0.coords t) → (cfg0.win 1).flush t = false := by decide +kernel
/-- At the points of case B the printed configuration (`Cfg.idle`) calls output 1 idle: the case stores nothing into it. -/
theorem idleAt0_1_B : ∀ t : Fin cfg0.N, ¬cond0_0 (grid0.coords t) → cond0_1 (grid0.coords t) → ¬cond0_2 (grid0.coords t) → cfg0.idle 1 (grid0.coords t) = true := by decide +kernel
/-- At the points of case B the pipeline does not write output 1's block back. -/
theorem noFlush0_1_B : ∀ t : Fin cfg0.N, ¬cond0_0 (grid0.coords t) → cond0_1 (grid0.coords t) → ¬cond0_2 (grid0.coords t) → (cfg0.win 1).flush t = false := by decide +kernel
/-- At the points of case C the printed configuration (`Cfg.idle`) calls output 1 live: the case stores into it. -/
theorem liveAt0_1_C : ∀ t : Fin cfg0.N, ¬cond0_0 (grid0.coords t) → cond0_1 (grid0.coords t) → cond0_2 (grid0.coords t) → cfg0.idle 1 (grid0.coords t) = false := by decide +kernel

/-! ## The kernel body on any staging memrefs: a subtype the run finds -/

/-- One staging buffer of output window 1, through which its contents are stated (`View.read_writes_of_cover`: the
    choice does not matter). -/
abbrev VO0_1 : View sig .tc .smem S1x1 .f32 := (Memref.whole cc0_stg1_0 : Memref sig .tc .smem S1x1 .f32).view
/-- Each window's current staging memref at point `t`, spelled as the pipeline passes it (`bodyAt0`), and its wholeness. -/
abbrev ms0_0 (t : Fin cfg0.N) : Memref sig .tc .vmem S1024x3584 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S1x1 .f32 := win0_1.stage (cfg0.slots t 1)
abbrev hs0_1 (t : Fin cfg0.N) : (ms0_1 t).IsWhole := hstage0_1 ((cfg0.slots t 1).cast nbuf0_1)
/-- The scratch operands: whole scoped buffers of the kernel's own, passed beside the windows. -/
abbrev scM0_0 : Memref sig .tc .vmem S16x3584 .bf16 := Memref.whole cc0_scratch0
/-- The scratch `arg4` the kernel carries between points, as a view: what it holds is stated through it. -/
abbrev VS0_0 : View sig .tc .vmem S16x3584 .bf16 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc3_stg1_0), ((c : Thread nD τ).loc cc3_stg1_0) ↦{fullShare} f) ∗ (∃ f : Buf (Elt F) ((c : Thread nD τ).loc cc3_stg1_1), ((c : Thread nD τ).loc cc3_stg1_1) ↦{fullShare} f) ∗ (∃ f : Buf (Elt F) ((c : Thread nD τ).loc cc3_stg2_0), ((c : Thread nD τ).loc cc3_stg2_0) ↦{fullShare} f) ∗ (∃ f : Buf (Elt F) ((c : Thread nD τ).loc cc3_stg2_1), ((c : Thread nD τ).loc cc3_stg2_1) ↦{fullShare} f) ∗ (∃ f : Buf (Elt F) ((c : Thread nD τ).loc cc3_stg3_0), ((c : Thread nD τ).loc cc3_stg3_0) ↦{fullShare} f) ∗ (∃ f : Buf (Elt F) ((c : Thread nD τ).loc cc3_stg3_1), ((c : Thread nD τ).loc cc3_stg3_1) ↦{fullShare} f) ∗ (∃ f : Buf (Elt F) ((c : Thread nD τ).loc cc3_stg4_0), ((c : Thread nD τ).loc cc3_stg4_0) ↦{fullShare} f) ∗ (∃ f : Buf (Elt F) ((c : Thread nD τ).loc cc3_stg4_1), ((c : Thread nD τ).loc cc3_stg4_1) ↦{fullShare} f) ∗ (∃ f : Buf (Elt F) ((c : Thread nD τ).loc cc3_scratch0), ((c : Thread nD τ).loc cc3_scratch0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc3_stg0_0), ((c : Thread nD τ).loc cc3_stg0_0) ↦{fullShare} f)) ∗ (∃ r, prngReg c r)) := by
  unfold Pipeline.ΦA; rw [scopedRest0_eq]; simp only [scM0_0, owns_whole]; try rfl

-- (the run's proof term is large: the definition's epilogue — `abstractNestedProofs` — walks it past the default budget)
set_option maxHeartbeats 1000000 in
/-- What the body's stores leave in each output's staging memref, as pieces (last first) IN CASE A (`scf.if` 0 taken, `scf.if` 1 not taken, `scf.if` 2 not taken: points 0), WITH the
    proof that on whole staging memrefs — the inputs' at their contents, the outputs it leaves idle (1: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .vmem S1024x3584 .bf16) (harg2 : arg2.IsWhole) (arg3 : Memref sig .tc .smem S1x1 .f32) (harg3 : arg3.IsWhole) (arg4 : Memref sig .tc .vmem S16x3584 .bf16) (harg4 : arg4.IsWhole) (hc0 : cond0_0 i) (hc1 : ¬cond0_1 i) (hc2 : ¬cond0_2 i)
    (x0 : Vec F S1024x3584 .bf16) :
    Σ' (L1 : List (View.Piece (Elt F) S1x1 .f32)), { LS0 : List (View.Piece (Elt F) S16x3584 .bf16) //
      ∀ (xi1 : Vec F S1x1 .f32) (E : Set ℕ) (K : PUnit → sProp 𝕄),
        iprop(owns (c : Thread nD τ) arg2 fullShare x0 ∗ owns (c : Thread nD τ) arg3 fullShare xi1 ∗ (∃ d, owns (c : Thread nD τ) arg4 fullShare d)
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0_amax_bfloat16 i arg2 harg2 arg3 harg3 arg4 harg4) K } := by
  refine ⟨[], ?_, fun xi1 E K => ?run⟩
  case run =>
    simp only [cc0_amax_bfloat16_eq_skeleton]; unfold cc0_amax_bfloat16_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

/-- Case A stores nothing into output 1 (the window is idle at its points and not written back there):
    no pieces — a placeholder (junk read back) that nothing consults, since at these points the window is neither
    written back nor read at the next point (Lib/Pipeline.lean "Idle points"). -/
def out0_A_1 (c : Dev nD) (i : grid0.Coords) (arg2 : Memref sig .tc .vmem S1024x3584 .bf16) (harg2 : arg2.IsWhole) (arg3 : Memref sig .tc .smem S1x1 .f32) (harg3 : arg3.IsWhole) (arg4 : Memref sig .tc .vmem S16x3584 .bf16) (harg4 : arg4.IsWhole) (hc0 : cond0_0 i) (hc1 : ¬cond0_1 i) (hc2 : ¬cond0_2 i)
    (x0 : Vec F S1024x3584 .bf16) : Vec F S1x1 .f32 :=
  VO0_1.read (Elt F) (VO0_1.writes (Elt F) VO0_1.junk (kernelRun0_A c i arg2 harg2 arg3 harg3 arg4 harg4 hc0 hc1 hc2 x0).1)

/-- Case A's pieces for scratch `arg4`, which the kernel carries between points, cover it: 1 piece of `S16x3584` tiling it (Lib/Ring.lean `Piece.tiledL`). -/
theorem scover0_A_0 (c : Dev nD) (i : grid0.Coords) (arg2 : Memref sig .tc .vmem S1024x3584 .bf16) (harg2 : arg2.IsWhole) (arg3 : Memref sig .tc .smem S1x1 .f32) (harg3 : arg3.IsWhole) (arg4 : Memref sig .tc .vmem S16x3584 .bf16) (harg4 : arg4.IsWhole) (hc0 : cond0_0 i) (hc1 : ¬cond0_1 i) (hc2 : ¬cond0_2 i)
    (x0 : Vec F S1024x3584 .bf16) (y : S16x3584.Idx) :
    ∃ pc ∈ (kernelRun0_A c i arg2 harg2 arg3 harg3 arg4 harg4 hc0 hc1 hc2 x0).2.1, y ∈ pc.1.set :=
  View.cover_of_tiledL (kernelRun0_A c i arg2 harg2 arg3 harg3 arg4 harg4 hc0 hc1 hc2 x0).2.1 S16x3584.size (by sl_kernel_rfl) y

/-- What case A leaves in scratch `arg4`: its pieces read back over junk. -/
def sout0_A_0 (c : Dev nD) (i : grid0.Coords) (arg2 : Memref sig .tc .vmem S1024x3584 .bf16) (harg2 : arg2.IsWhole) (arg3 : Memref sig .tc .smem S1x1 .f32) (harg3 : arg3.IsWhole) (arg4 : Memref sig .tc .vmem S16x3584 .bf16) (harg4 : arg4.IsWhole) (hc0 : cond0_0 i) (hc1 : ¬cond0_1 i) (hc2 : ¬cond0_2 i)
    (x0 : Vec F S1024x3584 .bf16) : Vec F S16x3584 .bf16 :=
  VS0_0.read (Elt F) (VS0_0.writes (Elt F) VS0_0.junk (kernelRun0_A c i arg2 harg2 arg3 harg3 arg4 harg4 hc0 hc1 hc2 x0).2.1)

-- (the run's proof term is large: the definition's epilogue — `abstractNestedProofs` — walks it past the default budget)
set_option maxHeartbeats 1000000 in
/-- What the body's stores leave in each output's staging memref, as pieces (last first) IN CASE B (`scf.if` 0 not taken, `scf.if` 1 taken, `scf.if` 2 not taken: points 1, 2, … 178: 178 of 180), WITH the
    proof that on whole staging memrefs — the inputs' at their contents, the outputs it leaves idle (1: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .vmem S1024x3584 .bf16) (harg2 : arg2.IsWhole) (arg3 : Memref sig .tc .smem S1x1 .f32) (harg3 : arg3.IsWhole) (arg4 : Memref sig .tc .vmem S16x3584 .bf16) (harg4 : arg4.IsWhole) (hc0 : ¬cond0_0 i) (hc1 : cond0_1 i) (hc2 : ¬cond0_2 i)
    (x0 : Vec F S1024x3584 .bf16) (xs0 : Vec F S16x3584 .bf16) :
    Σ' (L1 : List (View.Piece (Elt F) S1x1 .f32)), { LS0 : List (View.Piece (Elt F) S16x3584 .bf16) //
      ∀ (xi1 : Vec F S1x1 .f32) (E : Set ℕ) (K : PUnit → sProp 𝕄),
        iprop(owns (c : Thread nD τ) arg2 fullShare x0 ∗ owns (c : Thread nD τ) arg3 fullShare xi1 ∗ owns (c : Thread nD τ) arg4 fullShare xs0
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0_amax_bfloat16 i arg2 harg2 arg3 harg3 arg4 harg4) K } := by
  refine ⟨[], ?_, fun xi1 E K => ?run⟩
  case run =>
    simp only [cc0_amax_bfloat16_eq_skeleton]; unfold cc0_amax_bfloat16_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg4.eq_unread hfs0
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

/-- Case B stores nothing into output 1 (the window is idle at its points and not written back there):
    no pieces — a placeholder (junk read back) that nothing consults, since at these points the window is neither
    written back nor read at the next point (Lib/Pipeline.lean "Idle points"). -/
def out0_B_1 (c : Dev nD) (i : grid0.Coords) (arg2 : Memref sig .tc .vmem S1024x3584 .bf16) (harg2 : arg2.IsWhole) (arg3 : Memref sig .tc .smem S1x1 .f32) (harg3 : arg3.IsWhole) (arg4 : Memref sig .tc .vmem S16x3584 .bf16) (harg4 : arg4.IsWhole) (hc0 : ¬cond0_0 i) (hc1 : cond0_1 i) (hc2 : ¬cond0_2 i)
    (x0 : Vec F S1024x3584 .bf16) (xs0 : Vec F S16x3584 .bf16) : Vec F S1x1 .f32 :=
  VO0_1.read (Elt F) (VO0_1.writes (Elt F) VO0_1.junk (kernelRun0_B c i arg2 harg2 arg3 harg3 arg4 harg4 hc0 hc1 hc2 x0 xs0).1)

/-- Case B's pieces for scratch `arg4`, which the kernel carries between points, cover it: 1 piece of `S16x3584` tiling it (Lib/Ring.lean `Piece.tiledL`). -/
theorem scover0_B_0 (c : Dev nD) (i : grid0.Coords) (arg2 : Memref sig .tc .vmem S1024x3584 .bf16) (harg2 : arg2.IsWhole) (arg3 : Memref sig .tc .smem S1x1 .f32) (harg3 : arg3.IsWhole) (arg4 : Memref sig .tc .vmem S16x3584 .bf16) (harg4 : arg4.IsWhole) (hc0 : ¬cond0_0 i) (hc1 : cond0_1 i) (hc2 : ¬cond0_2 i)
    (x0 : Vec F S1024x3584 .bf16) (xs0 : Vec F S16x3584 .bf16) (y : S16x3584.Idx) :
    ∃ pc ∈ (kernelRun0_B c i arg2 harg2 arg3 harg3 arg4 harg4 hc0 hc1 hc2 x0 xs0).2.1, y ∈ pc.1.set :=
  View.cover_of_tiledL (kernelRun0_B c i arg2 harg2 arg3 harg3 arg4 harg4 hc0 hc1 hc2 x0 xs0).2.1 S16x3584.size (by sl_kernel_rfl) y

/-- What case B leaves in scratch `arg4`: its pieces read back over junk. -/
def sout0_B_0 (c : Dev nD) (i : grid0.Coords) (arg2 : Memref sig .tc .vmem S1024x3584 .bf16) (harg2 : arg2.IsWhole) (arg3 : Memref sig .tc .smem S1x1 .f32) (harg3 : arg3.IsWhole) (arg4 : Memref sig .tc .vmem S16x3584 .bf16) (harg4 : arg4.IsWhole) (hc0 : ¬cond0_0 i) (hc1 : cond0_1 i) (hc2 : ¬cond0_2 i)
    (x0 : Vec F S1024x3584 .bf16) (xs0 : Vec F S16x3584 .bf16) : Vec F S16x3584 .bf16 :=
  VS0_0.read (Elt F) (VS0_0.writes (Elt F) VS0_0.junk (kernelRun0_B c i arg2 harg2 arg3 harg3 arg4 harg4 hc0 hc1 hc2 x0 xs0).2.1)

-- (the run's proof term is large: the definition's epilogue — `abstractNestedProofs` — walks it past the default budget)
set_option maxHeartbeats 1000000 in
/-- What the body's stores leave in each output's staging memref, as pieces (last first) IN CASE C (`scf.if` 0 not taken, `scf.if` 1 taken, `scf.if` 2 taken: points 179), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg2 : Memref sig .tc .vmem S1024x3584 .bf16) (harg2 : arg2.IsWhole) (arg3 : Memref sig .tc .smem S1x1 .f32) (harg3 : arg3.IsWhole) (arg4 : Memref sig .tc .vmem S16x3584 .bf16) (harg4 : arg4.IsWhole) (hc0 : ¬cond0_0 i) (hc1 : cond0_1 i) (hc2 : cond0_2 i)
    (x0 : Vec F S1024x3584 .bf16) (xs0 : Vec F S16x3584 .bf16) :
    Σ' (L1 : List (View.Piece (Elt F) S1x1 .f32)), { LS0 : List (View.Piece (Elt F) S16x3584 .bf16) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS0)) -∗ K ⟨⟩))
          ⊢ wp frame (wpE (defs₀ (F := F)) Variants.none c none) E (cc0_amax_bfloat16 i arg2 harg2 arg3 harg3 arg4 harg4) K } := by
  refine ⟨?_, ?_, fun E K => ?run⟩
  case run =>
    simp only [cc0_amax_bfloat16_eq_skeleton]; unfold cc0_amax_bfloat16_skel
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | sl_exact hc0 | sl_exact hc1 | sl_exact hc2)
    sl_step
    iapply Hk
    isplitl [H0]
    · iexists _; isplitr; · ipureintro; exact harg2.read_unread _
      iexact H0
    isplitl [H1]; · iexists _; iexact H1
    iexists _; iexact HS0

/-- Case C's pieces for output 1 tile its block (1 store of `S1x1`, checked by the kernel's evaluation: Lib/Ring.lean `Piece.tiledL`, linear in the pieces, through a loop's `@[irreducible]` trip theorem too), so they cover it. -/
theorem cover0_C_1 (c : Dev nD) (i : grid0.Coords) (arg2 : Memref sig .tc .vmem S1024x3584 .bf16) (harg2 : arg2.IsWhole) (arg3 : Memref sig .tc .smem S1x1 .f32) (harg3 : arg3.IsWhole) (arg4 : Memref sig .tc .vmem S16x3584 .bf16) (harg4 : arg4.IsWhole) (hc0 : ¬cond0_0 i) (hc1 : cond0_1 i) (hc2 : cond0_2 i)
    (x0 : Vec F S1024x3584 .bf16) (xs0 : Vec F S16x3584 .bf16) (y : S1x1.Idx) :
    ∃ pc ∈ (kernelRun0_C c i arg2 harg2 arg3 harg3 arg4 harg4 hc0 hc1 hc2 x0 xs0).1, y ∈ pc.1.set :=
  View.cover_of_tiledL (kernelRun0_C c i arg2 harg2 arg3 harg3 arg4 harg4 hc0 hc1 hc2 x0 xs0).1 S1x1.size (by sl_kernel_rfl) y

/-- What case C leaves in output 1's staging buffer: its pieces read back over junk. -/
def out0_C_1 (c : Dev nD) (i : grid0.Coords) (arg2 : Memref sig .tc .vmem S1024x3584 .bf16) (harg2 : arg2.IsWhole) (arg3 : Memref sig .tc .smem S1x1 .f32) (harg3 : arg3.IsWhole) (arg4 : Memref sig .tc .vmem S16x3584 .bf16) (harg4 : arg4.IsWhole) (hc0 : ¬cond0_0 i) (hc1 : cond0_1 i) (hc2 : cond0_2 i)
    (x0 : Vec F S1024x3584 .bf16) (xs0 : Vec F S16x3584 .bf16) : Vec F S1x1 .f32 :=
  VO0_1.read (Elt F) (VO0_1.writes (Elt F) VO0_1.junk (kernelRun0_C c i arg2 harg2 arg3 harg3 arg4 harg4 hc0 hc1 hc2 x0 xs0).1)

/-- Case C's pieces for scratch `arg4`, which the kernel carries between points, cover it: 1 piece of `S16x3584` tiling it (Lib/Ring.lean `Piece.tiledL`). -/
theorem scover0_C_0 (c : Dev nD) (i : grid0.Coords) (arg2 : Memref sig .tc .vmem S1024x3584 .bf16) (harg2 : arg2.IsWhole) (arg3 : Memref sig .tc .smem S1x1 .f32) (harg3 : arg3.IsWhole) (arg4 : Memref sig .tc .vmem S16x3584 .bf16) (harg4 : arg4.IsWhole) (hc0 : ¬cond0_0 i) (hc1 : cond0_1 i) (hc2 : cond0_2 i)
    (x0 : Vec F S1024x3584 .bf16) (xs0 : Vec F S16x3584 .bf16) (y : S16x3584.Idx) :
    ∃ pc ∈ (kernelRun0_C c i arg2 harg2 arg3 harg3 arg4 harg4 hc0 hc1 hc2 x0 xs0).2.1, y ∈ pc.1.set :=
  View.cover_of_tiledL (kernelRun0_C c i arg2 harg2 arg3 harg3 arg4 harg4 hc0 hc1 hc2 x0 xs0).2.1 S16x3584.size (by sl_kernel_rfl) y

/-- What case C leaves in scratch `arg4`: its pieces read back over junk. -/
def sout0_C_0 (c : Dev nD) (i : grid0.Coords) (arg2 : Memref sig .tc .vmem S1024x3584 .bf16) (harg2 : arg2.IsWhole) (arg3 : Memref sig .tc .smem S1x1 .f32) (harg3 : arg3.IsWhole) (arg4 : Memref sig .tc .vmem S16x3584 .bf16) (harg4 : arg4.IsWhole) (hc0 : ¬cond0_0 i) (hc1 : cond0_1 i) (hc2 : cond0_2 i)
    (x0 : Vec F S1024x3584 .bf16) (xs0 : Vec F S16x3584 .bf16) : Vec F S16x3584 .bf16 :=
  VS0_0.read (Elt F) (VS0_0.writes (Elt F) VS0_0.junk (kernelRun0_C c i arg2 harg2 arg3 harg3 arg4 harg4 hc0 hc1 hc2 x0 xs0).2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1x1 .f32 × Vec F S16x3584 .bf16
  | 0, hn => (out0_A_1 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk0 V c 0 ⟨0, hn⟩), sout0_A_0 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk0 V c 0 ⟨0, hn⟩))
  | n + 1, hn =>
    if h0 : (n + 1) % 180 = 0 then
      if h1 : 1 ≤ (n + 1) then
        False.elim (by have hN : n + 1 < 180 := lt_of_lt_of_eq hn (show cfg0.N = 180 from N_0); omega)
      else
        if h2 : (n + 1) % 180 = 179 then
          False.elim (by have hN : n + 1 < 180 := lt_of_lt_of_eq hn (show cfg0.N = 180 from N_0); omega)
        else
          (out0_A_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => h1 ((hcond0_1 ⟨n + 1, hn⟩).mp h)) (fun h => h2 ((hcond0_2 ⟨n + 1, hn⟩).mp h)) (iblk0 V c 0 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => h1 ((hcond0_1 ⟨n + 1, hn⟩).mp h)) (fun h => h2 ((hcond0_2 ⟨n + 1, hn⟩).mp h)) (iblk0 V c 0 ⟨n + 1, hn⟩))
    else
      if h1 : 1 ≤ (n + 1) then
        if h2 : (n + 1) % 180 = 179 then
          (out0_C_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) ((hcond0_2 ⟨n + 1, hn⟩).mpr h2) (iblk0 V c 0 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) ((hcond0_2 ⟨n + 1, hn⟩).mpr h2) (iblk0 V c 0 ⟨n + 1, hn⟩) (outsAt0 c n (Nat.lt_of_succ_lt hn)).2)
        else
          (out0_B_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (iblk0 V c 0 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (iblk0 V c 0 ⟨n + 1, hn⟩) (outsAt0 c n (Nat.lt_of_succ_lt hn)).2)
      else
        False.elim (by have hN : n + 1 < 180 := lt_of_lt_of_eq hn (show cfg0.N = 180 from N_0); omega)

/-- `outsAt0` at a point of case A: that case's contents. -/
theorem outsAt0_A (c : Dev nD) (t : Fin cfg0.N) (h0 : t.val % 180 = 0) (h1 : ¬1 ≤ t.val) (h2 : ¬t.val % 180 = 179) :
    outsAt0 V c t.val t.isLt = (out0_A_1 c (grid0.coords t) (ms0_0 t) (hs0_0 t) (ms0_1 t) (hs0_1 t) scM0_0 (Memref.isWhole_whole _) ((hcond0_0 t).mpr h0) (fun h => h1 ((hcond0_1 t).mp h)) (fun h => h2 ((hcond0_2 t).mp h)) (iblk0 V c 0 t), sout0_A_0 c (grid0.coords t) (ms0_0 t) (hs0_0 t) (ms0_1 t) (hs0_1 t) scM0_0 (Memref.isWhole_whole _) ((hcond0_0 t).mpr h0) (fun h => h1 ((hcond0_1 t).mp h)) (fun h => h2 ((hcond0_2 t).mp h)) (iblk0 V c 0 t)) := by
  obtain ⟨n, hn⟩ := t
  cases n with
  | zero => exact rfl
  | succ n => exact (dif_pos h0).trans ((dif_neg h1).trans ((dif_neg h2).trans rfl))

/-- `outsAt0` at a point of case B: that case's contents, over what the point before left. -/
theorem outsAt0_B (c : Dev nD) (t : Fin cfg0.N) (h0 : ¬t.val % 180 = 0) (h1 : 1 ≤ t.val) (h2 : ¬t.val % 180 = 179) :
    outsAt0 V c t.val t.isLt = (out0_B_1 c (grid0.coords t) (ms0_0 t) (hs0_0 t) (ms0_1 t) (hs0_1 t) scM0_0 (Memref.isWhole_whole _) (fun h => h0 ((hcond0_0 t).mp h)) ((hcond0_1 t).mpr h1) (fun h => h2 ((hcond0_2 t).mp h)) (iblk0 V c 0 t) (outsAt0 V c (t.val - 1) (Nat.lt_of_le_of_lt (Nat.sub_le _ _) t.isLt)).2, sout0_B_0 c (grid0.coords t) (ms0_0 t) (hs0_0 t) (ms0_1 t) (hs0_1 t) scM0_0 (Memref.isWhole_whole _) (fun h => h0 ((hcond0_0 t).mp h)) ((hcond0_1 t).mpr h1) (fun h => h2 ((hcond0_2 t).mp h)) (iblk0 V c 0 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans ((dif_neg h2).trans rfl))

/-- `outsAt0` at a point of case C: that case's contents, over what the point before left. -/
theorem outsAt0_C (c : Dev nD) (t : Fin cfg0.N) (h0 : ¬t.val % 180 = 0) (h1 : 1 ≤ t.val) (h2 : t.val % 180 = 179) :
    outsAt0 V c t.val t.isLt = (out0_C_1 c (grid0.coords t) (ms0_0 t) (hs0_0 t) (ms0_1 t) (hs0_1 t) scM0_0 (Memref.isWhole_whole _) (fun h => h0 ((hcond0_0 t).mp h)) ((hcond0_1 t).mpr h1) ((hcond0_2 t).mpr h2) (iblk0 V c 0 t) (outsAt0 V c (t.val - 1) (Nat.lt_of_le_of_lt (Nat.sub_le _ _) t.isLt)).2, sout0_C_0 c (grid0.coords t) (ms0_0 t) (hs0_0 t) (ms0_1 t) (hs0_1 t) scM0_0 (Memref.isWhole_whole _) (fun h => h0 ((hcond0_0 t).mp h)) ((hcond0_1 t).mpr h1) ((hcond0_2 t).mpr h2) (iblk0 V c 0 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans ((dif_pos h2).trans rfl))

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc3_stg1_0), ((c : Thread nD τ).loc cc3_stg1_0) ↦{fullShare} f) ∗ (∃ f : Buf (Elt F) ((c : Thread nD τ).loc cc3_stg1_1), ((c : Thread nD τ).loc cc3_stg1_1) ↦{fullShare} f) ∗ (∃ f : Buf (Elt F) ((c : Thread nD τ).loc cc3_stg2_0), ((c : Thread nD τ).loc cc3_stg2_0) ↦{fullShare} f) ∗ (∃ f : Buf (Elt F) ((c : Thread nD τ).loc cc3_stg2_1), ((c : Thread nD τ).loc cc3_stg2_1) ↦{fullShare} f) ∗ (∃ f : Buf (Elt F) ((c : Thread nD τ).loc cc3_stg3_0), ((c : Thread nD τ).loc cc3_stg3_0) ↦{fullShare} f) ∗ (∃ f : Buf (Elt F) ((c : Thread nD τ).loc cc3_stg3_1), ((c : Thread nD τ).loc cc3_stg3_1) ↦{fullShare} f) ∗ (∃ f : Buf (Elt F) ((c : Thread nD τ).loc cc3_stg4_0), ((c : Thread nD τ).loc cc3_stg4_0) ↦{fullShare} f) ∗ (∃ f : Buf (Elt F) ((c : Thread nD τ).loc cc3_stg4_1), ((c : Thread nD τ).loc cc3_stg4_1) ↦{fullShare} f) ∗ (∃ f : Buf (Elt F) ((c : Thread nD τ).loc cc3_scratch0), ((c : Thread nD τ).loc cc3_scratch0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc3_stg0_0), ((c : Thread nD τ).loc cc3_stg0_0) ↦{fullShare} f)) ∗ (∃ r, prngReg c r))

theorem PhiS0_zero (c : Dev nD) (n : ℕ) (h : n ≤ cfg0.N) (hz : n = 0) : PhiS0 V c n h = Pipeline.ΦA spec0 c := by
  subst hz; rfl

/-- After point `n` (before point `n + 1`): the carried scratch at that point's contents. -/
theorem PhiS0_succ (c : Dev nD) (n : ℕ) (hn : n < cfg0.N) :
    PhiS0 V c (n + 1) hn = iprop(iprop(owns (c : Thread nD τ) scM0_0 fullShare ((outsAt0 V c n hn).2) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc3_stg1_0), ((c : Thread nD τ).loc cc3_stg1_0) ↦{fullShare} f) ∗ (∃ f : Buf (Elt F) ((c : Thread nD τ).loc cc3_stg1_1), ((c : Thread nD τ).loc cc3_stg1_1) ↦{fullShare} f) ∗ (∃ f : Buf (Elt F) ((c : Thread nD τ).loc cc3_stg2_0), ((c : Thread nD τ).loc cc3_stg2_0) ↦{fullShare} f) ∗ (∃ f : Buf (Elt F) ((c : Thread nD τ).loc cc3_stg2_1), ((c : Thread nD τ).loc cc3_stg2_1) ↦{fullShare} f) ∗ (∃ f : Buf (Elt F) ((c : Thread nD τ).loc cc3_stg3_0), ((c : Thread nD τ).loc cc3_stg3_0) ↦{fullShare} f) ∗ (∃ f : Buf (Elt F) ((c : Thread nD τ).loc cc3_stg3_1), ((c : Thread nD τ).loc cc3_stg3_1) ↦{fullShare} f) ∗ (∃ f : Buf (Elt F) ((c : Thread nD τ).loc cc3_stg4_0), ((c : Thread nD τ).loc cc3_stg4_0) ↦{fullShare} f) ∗ (∃ f : Buf (Elt F) ((c : Thread nD τ).loc cc3_stg4_1), ((c : Thread nD τ).loc cc3_stg4_1) ↦{fullShare} f) ∗ (∃ f : Buf (Elt F) ((c : Thread nD τ).loc cc3_scratch0), ((c : Thread nD τ).loc cc3_scratch0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc3_stg0_0), ((c : Thread nD τ).loc cc3_stg0_0) ↦{fullShare} f)) ∗ (∃ r, prngReg c r)) := rfl

/-- Before a point that is not the first: the carried scratch at what the point before left. -/
theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc3_stg1_0), ((c : Thread nD τ).loc cc3_stg1_0) ↦{fullShare} f) ∗ (∃ f : Buf (Elt F) ((c : Thread nD τ).loc cc3_stg1_1), ((c : Thread nD τ).loc cc3_stg1_1) ↦{fullShare} f) ∗ (∃ f : Buf (Elt F) ((c : Thread nD τ).loc cc3_stg2_0), ((c : Thread nD τ).loc cc3_stg2_0) ↦{fullShare} f) ∗ (∃ f : Buf (Elt F) ((c : Thread nD τ).loc cc3_stg2_1), ((c : Thread nD τ).loc cc3_stg2_1) ↦{fullShare} f) ∗ (∃ f : Buf (Elt F) ((c : Thread nD τ).loc cc3_stg3_0), ((c : Thread nD τ).loc cc3_stg3_0) ↦{fullShare} f) ∗ (∃ f : Buf (Elt F) ((c : Thread nD τ).loc cc3_stg3_1), ((c : Thread nD τ).loc cc3_stg3_1) ↦{fullShare} f) ∗ (∃ f : Buf (Elt F) ((c : Thread nD τ).loc cc3_stg4_0), ((c : Thread nD τ).loc cc3_stg4_0) ↦{fullShare} f) ∗ (∃ f : Buf (Elt F) ((c : Thread nD τ).loc cc3_stg4_1), ((c : Thread nD τ).loc cc3_stg4_1) ↦{fullShare} f) ∗ (∃ f : Buf (Elt F) ((c : Thread nD τ).loc cc3_scratch0), ((c : Thread nD τ).loc cc3_scratch0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc3_stg0_0), ((c : Thread nD τ).loc cc3_stg0_0) ↦{fullShare} f)) ∗ (∃ r, prngReg c r)) := by
  cases n with
  | zero => exact absurd rfl hz
  | succ n => rfl

/-! ## The pipeline's proof data -/

/-- The proof data of pipeline 0 on core `c`: the arrays as the region finds them (`V`); after the body at
    point `t` each input's buffer at its block and the outputs' at `outsAt0`; the invariant the class's
    (`PhiS0`: the class's `ΦA` before the first point, then the scoped rest with the carried scratch at `outsAt0`'s component);
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
  Φ t := PhiS0 V c t.val (Nat.le_of_lt_succ t.isLt)
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- The invariant at a point's start (the proof data at `t.castSucc`), restated at `t.val`. -/
theorem PhiS0_castSucc (c : Dev nD) (t : Fin cfg0.N) :
    (dat0 V c).Φ t.castSucc = PhiS0 V c t.val (Nat.le_of_lt t.isLt) := by
  dsimp only [dat0]; exact Pipeline.Dat.Φ_castSucc (PhiS0 V c) t

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any point: the inputs' memrefs hold their blocks (`before0_W`); the closed forms say which case the point is in (`by_cases`), an output the case reads before covering holds what the point before left (`before0_W_κ`); so the
    run applies; the invariant hands the body the carried scratch at what the point before left (`PhiS0_pos`; at anything at the first point, `PhiS0_zero`), the other scratch buffers and the generator register at some state, and takes the carried scratch back at this point's contents (`PhiS0_succ`, by `scoverK_κ_N`); the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS0 V c (t.val + 1) t.isLt from rfl, PhiS0_succ]
  have hN : t.val < 180 := lt_of_lt_of_eq t.isLt (show cfg0.N = 180 from N_0)
  by_cases h0 : t.val % 180 = 0
  · by_cases h1 : 1 ≤ t.val
    · exfalso; omega
    · by_cases h2 : t.val % 180 = 179
      · exfalso; omega
      · rw [show (dat0 V c).leavesExact 0 t = owns (c : Thread nD τ) (ms0_0 t) fullShare ((dat0 V c).after 0 t) from by
      unfold Dat.leavesExact; rw [liveAt0_0 t], after0_0]
        rw [Dat.leavesExact_idle (dat0 V c) 1 t (idleAt0_1_A t ((hcond0_0 t).mpr h0) (fun h => h1 ((hcond0_1 t).mp h)) (fun h => h2 ((hcond0_2 t).mp h))) (noFlush0_1_A t ((hcond0_0 t).mpr h0) (fun h => h1 ((hcond0_1 t).mp h)) (fun h => h2 ((hcond0_2 t).mp h)))]
        by_cases hz : t.val = 0
        · rw [PhiS0_castSucc V c t, PhiS0_zero V c _ _ hz, PhiA0_eq]
          rw [outsAt0_A V c t h0 h1 h2]
          unfold sout0_A_0; (try dsimp only)
          iintro ⟨⟨⟨HS0, HR1, HR2, HR3, HR4, HR5, HR6, HR7, HR8, HR9, HR10, HR11, HR12, HR13, HR14, HR15, HR16, HR17, HR18, HR19⟩, Hg⟩, Ho, ⟨%d0, H0⟩, ⟨%d1, H1⟩⟩
          iapply ((kernelRun0_A c (grid0.coords t) _ _ _ _ _ _ ((hcond0_0 t).mpr h0) (fun h => h1 ((hcond0_1 t).mp h)) (fun h => h2 ((hcond0_2 t).mp h)) (iblk0 V c 0 t)).2.2 _ Set.univ _)
          isplitl [H0]; · iexact H0
          isplitl [H1]; · iexact H1
          isplitl [HS0]; · iexact HS0
          iintro ⟨H0, H1, ⟨%es0, HS0⟩⟩
          isplitl [HS0 HR1 HR2 HR3 HR4 HR5 HR6 HR7 HR8 HR9 HR10 HR11 HR12 HR13 HR14 HR15 HR16 HR17 HR18 HR19 Hg]
          · isplitl [HS0 HR1 HR2 HR3 HR4 HR5 HR6 HR7 HR8 HR9 HR10 HR11 HR12 HR13 HR14 HR15 HR16 HR17 HR18 HR19]
            · isplitl [HS0]
              · unfold owns; iexists _; isplitr
                swap; · iexact HS0
                ipureintro; exact View.read_writes_of_cover _ _ _ _ _ (scover0_A_0 c _ _ _ _ _ _ _ _ _ _ _)
              isplitl [HR1]
              · iexact HR1
              isplitl [HR2]
              · iexact HR2
              isplitl [HR3]
              · iexact HR3
              isplitl [HR4]
              · iexact HR4
              isplitl [HR5]
              · iexact HR5
              isplitl [HR6]
              · iexact HR6
              isplitl [HR7]
              · iexact HR7
              isplitl [HR8]
              · iexact HR8
              isplitl [HR9]
              · iexact HR9
              isplitl [HR10]
              · iexact HR10
              isplitl [HR11]
              · iexact HR11
              isplitl [HR12]
              · iexact HR12
              isplitl [HR13]
              · iexact HR13
              isplitl [HR14]
              · iexact HR14
              isplitl [HR15]
              · iexact HR15
              isplitl [HR16]
              · iexact HR16
              isplitl [HR17]
              · iexact HR17
              isplitl [HR18]
              · iexact HR18
              iexact HR19
            iexact Hg
          isplitl [Ho]; · iexact Ho
          isplitl [H0]; · iexact H0
          iexists _; iexact H1
        · exfalso; have hN : t.val < 180 := lt_of_lt_of_eq t.isLt (show cfg0.N = 180 from N_0); omega
  · by_cases h1 : 1 ≤ t.val
    · by_cases h2 : t.val % 180 = 179
      · rw [show (dat0 V c).leavesExact 0 t = owns (c : Thread nD τ) (ms0_0 t) fullShare ((dat0 V c).after 0 t) from by
      unfold Dat.leavesExact; rw [liveAt0_0 t], after0_0]
        rw [show (dat0 V c).leavesExact 1 t = owns (c : Thread nD τ) (ms0_1 t) fullShare ((dat0 V c).after 1 t) from by
      unfold Dat.leavesExact; rw [liveAt0_1_C t (fun h => h0 ((hcond0_0 t).mp h)) ((hcond0_1 t).mpr h1) ((hcond0_2 t).mpr h2)], after0_1]
        by_cases hz : t.val = 0
        · exfalso; have hN : t.val < 180 := lt_of_lt_of_eq t.isLt (show cfg0.N = 180 from N_0); omega
        · rw [PhiS0_castSucc V c t, PhiS0_pos V c _ _ hz]
          rw [outsAt0_C V c t h0 h1 h2]
          unfold out0_C_1 sout0_C_0; (try dsimp only)
          iintro ⟨⟨⟨HS0, HR1, HR2, HR3, HR4, HR5, HR6, HR7, HR8, HR9, HR10, HR11, HR12, HR13, HR14, HR15, HR16, HR17, HR18, HR19⟩, Hg⟩, Ho, ⟨%d0, H0⟩, ⟨%d1, H1⟩⟩
          iapply ((kernelRun0_C c (grid0.coords t) _ _ _ _ _ _ (fun h => h0 ((hcond0_0 t).mp h)) ((hcond0_1 t).mpr h1) ((hcond0_2 t).mpr h2) (iblk0 V c 0 t) _).2.2 Set.univ _)
          isplitl [H0]; · iexact H0
          isplitl [H1]; · iexists _; iexact H1
          isplitl [HS0]; · iexact HS0
          iintro ⟨H0, ⟨%e1, H1⟩, ⟨%es0, HS0⟩⟩
          isplitl [HS0 HR1 HR2 HR3 HR4 HR5 HR6 HR7 HR8 HR9 HR10 HR11 HR12 HR13 HR14 HR15 HR16 HR17 HR18 HR19 Hg]
          · isplitl [HS0 HR1 HR2 HR3 HR4 HR5 HR6 HR7 HR8 HR9 HR10 HR11 HR12 HR13 HR14 HR15 HR16 HR17 HR18 HR19]
            · isplitl [HS0]
              · unfold owns; iexists _; isplitr
                swap; · iexact HS0
                ipureintro; exact View.read_writes_of_cover _ _ _ _ _ (scover0_C_0 c _ _ _ _ _ _ _ _ _ _ _ _)
              isplitl [HR1]
              · iexact HR1
              isplitl [HR2]
              · iexact HR2
              isplitl [HR3]
              · iexact HR3
              isplitl [HR4]
              · iexact HR4
              isplitl [HR5]
              · iexact HR5
              isplitl [HR6]
              · iexact HR6
              isplitl [HR7]
              · iexact HR7
              isplitl [HR8]
              · iexact HR8
              isplitl [HR9]
              · iexact HR9
              isplitl [HR10]
              · iexact HR10
              isplitl [HR11]
              · iexact HR11
              isplitl [HR12]
              · iexact HR12
              isplitl [HR13]
              · iexact HR13
              isplitl [HR14]
              · iexact HR14
              isplitl [HR15]
              · iexact HR15
              isplitl [HR16]
              · iexact HR16
              isplitl [HR17]
              · iexact HR17
              isplitl [HR18]
              · iexact HR18
              iexact HR19
            iexact Hg
          isplitl [Ho]; · iexact Ho
          isplitl [H0]; · iexact H0
          unfold owns; iexists _; isplitr
          swap; · iexact H1
          ipureintro; exact View.read_writes_of_cover _ _ _ _ _ (cover0_C_1 c _ _ _ _ _ _ _ _ _ _ _ _)
      · rw [show (dat0 V c).leavesExact 0 t = owns (c : Thread nD τ) (ms0_0 t) fullShare ((dat0 V c).after 0 t) from by
      unfold Dat.leavesExact; rw [liveAt0_0 t], after0_0]
        rw [Dat.leavesExact_idle (dat0 V c) 1 t (idleAt0_1_B t (fun h => h0 ((hcond0_0 t).mp h)) ((hcond0_1 t).mpr h1) (fun h => h2 ((hcond0_2 t).mp h))) (noFlush0_1_B t (fun h => h0 ((hcond0_0 t).mp h)) ((hcond0_1 t).mpr h1) (fun h => h2 ((hcond0_2 t).mp h)))]
        by_cases hz : t.val = 0
        · exfalso; have hN : t.val < 180 := lt_of_lt_of_eq t.isLt (show cfg0.N = 180 from N_0); omega
        · rw [PhiS0_castSucc V c t, PhiS0_pos V c _ _ hz]
          rw [outsAt0_B V c t h0 h1 h2]
          unfold sout0_B_0; (try dsimp only)
          iintro ⟨⟨⟨HS0, HR1, HR2, HR3, HR4, HR5, HR6, HR7, HR8, HR9, HR10, HR11, HR12, HR13, HR14, HR15, HR16, HR17, HR18, HR19⟩, Hg⟩, Ho, ⟨%d0, H0⟩, ⟨%d1, H1⟩⟩
          iapply ((kernelRun0_B c (grid0.coords t) _ _ _ _ _ _ (fun h => h0 ((hcond0_0 t).mp h)) ((hcond0_1 t).mpr h1) (fun h => h2 ((hcond0_2 t).mp h)) (iblk0 V c 0 t) _).2.2 _ Set.univ _)
          isplitl [H0]; · iexact H0
          isplitl [H1]; · iexact H1
          isplitl [HS0]; · iexact HS0
          iintro ⟨H0, H1, ⟨%es0, HS0⟩⟩
          isplitl [HS0 HR1 HR2 HR3 HR4 HR5 HR6 HR7 HR8 HR9 HR10 HR11 HR12 HR13 HR14 HR15 HR16 HR17 HR18 HR19 Hg]
          · isplitl [HS0 HR1 HR2 HR3 HR4 HR5 HR6 HR7 HR8 HR9 HR10 HR11 HR12 HR13 HR14 HR15 HR16 HR17 HR18 HR19]
            · isplitl [HS0]
              · unfold owns; iexists _; isplitr
                swap; · iexact HS0
                ipureintro; exact View.read_writes_of_cover _ _ _ _ _ (scover0_B_0 c _ _ _ _ _ _ _ _ _ _ _ _)
              isplitl [HR1]
              · iexact HR1
              isplitl [HR2]
              · iexact HR2
              isplitl [HR3]
              · iexact HR3
              isplitl [HR4]
              · iexact HR4
              isplitl [HR5]
              · iexact HR5
              isplitl [HR6]
              · iexact HR6
              isplitl [HR7]
              · iexact HR7
              isplitl [HR8]
              · iexact HR8
              isplitl [HR9]
              · iexact HR9
              isplitl [HR10]
              · iexact HR10
              isplitl [HR11]
              · iexact HR11
              isplitl [HR12]
              · iexact HR12
              isplitl [HR13]
              · iexact HR13
              isplitl [HR14]
              · iexact HR14
              isplitl [HR15]
              · iexact HR15
              isplitl [HR16]
              · iexact HR16
              isplitl [HR17]
              · iexact HR17
              isplitl [HR18]
              · iexact HR18
              iexact HR19
            iexact Hg
          isplitl [Ho]; · iexact Ho
          isplitl [H0]; · iexact H0
          iexists _; iexact H1
    · exfalso; omega

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-- What the launch hands the region (`ΦA`) is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives `ΦA` back: the carried scratch's named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HR1, HR2, HR3, HR4, HR5, HR6, HR7, HR8, HR9, HR10, HR11, HR12, HR13, HR14, HR15, HR16, HR17, HR18, HR19⟩, Hg⟩
  isplitl [HS0 HR1 HR2 HR3 HR4 HR5 HR6 HR7 HR8 HR9 HR10 HR11 HR12 HR13 HR14 HR15 HR16 HR17 HR18 HR19]
  · isplitl [HS0]
    · iexists _; iexact HS0
    isplitl [HR1]
    · iexact HR1
    isplitl [HR2]
    · iexact HR2
    isplitl [HR3]
    · iexact HR3
    isplitl [HR4]
    · iexact HR4
    isplitl [HR5]
    · iexact HR5
    isplitl [HR6]
    · iexact HR6
    isplitl [HR7]
    · iexact HR7
    isplitl [HR8]
    · iexact HR8
    isplitl [HR9]
    · iexact HR9
    isplitl [HR10]
    · iexact HR10
    isplitl [HR11]
    · iexact HR11
    isplitl [HR12]
    · iexact HR12
    isplitl [HR13]
    · iexact HR13
    isplitl [HR14]
    · iexact HR14
    isplitl [HR15]
    · iexact HR15
    isplitl [HR16]
    · iexact HR16
    isplitl [HR17]
    · iexact HR17
    isplitl [HR18]
    · iexact HR18
    iexact HR19
  iexact Hg

/-- The same after the last point. -/
theorem hout0 (c : Dev nD) : (dat0 V c).Φ (Fin.last cfg0.N) ⊢ Pipeline.ΦA spec0 c :=
  Phi_out0 V c _ (by rw [Fin.val_last]; have : cfg0.N = 180 := N_0; omega)

end Regions

end Cert.KernelIdeal.Gen

end
-- ==== Proof.Whole.Region1.lean ====
/- The second call (largest magnitude of w): its blocks, its body at each point, the scratch carried between points. Laid out as the generated frame of a one-call program is; a call that carries
   scratch between points keeps that scratch in its invariant. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 1 of @main: custom_call 1, `cc1_amax_float32` (pipeline 1), at the entry contents `V` -/

/-! ## The windows' blocks -/

/-- Window `w`'s block at point `t`, read off its array as the region finds it (`V`). -/
noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's `scf.if` 0 (`k1_h1`), from the grid coordinates (the skeleton's scalar
    chain substituted). -/
abbrev cond1_0 (i : grid1.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only — by arithmetic of the point. -/
theorem hcond1_0 : ∀ t : Fin cfg1.N, cond1_0 (grid1.coords t) ↔ t.val % 100 = 0 :=
  (fun t => by
    have ht : t.val < 100 := Nat.lt_of_lt_of_eq t.isLt N_1
    have e0 : (grid1.coords t 0).val = t.val / 10 % 10 := Pipeline.Grid.coords_val t 0 (by decide) rfl
    have e1 : (grid1.coords t 1).val = t.val / 1 % 10 := Pipeline.Grid.coords_val t 1 (by decide) rfl
    simp only [cond1_0, e0, e1]
    word_cmp
   : ∀ t : Fin grid1.N, cond1_0 (grid1.coords t) ↔ t.val % 100 = 0)

/-- The condition of the body's `scf.if` 1 (`k1_h2`), from the grid coordinates (the skeleton's scalar
    chain substituted). -/
abbrev cond1_1 (i : grid1.Coords) : Prop := (Scalar.cmpi .ne (Scalar.extui (Scalar.xori (Scalar.andi (Scalar.cmpi .eq (BitVec.ofNat 32 (i 0).val) 0#32) (Scalar.cmpi .eq (BitVec.ofNat 32 (i 1).val) 0#32)) 1#1)) 0#32) = 1#1
/-- It holds at the points from point 1 on — decided over the grid. -/
theorem hcond1_1 : ∀ t : Fin cfg1.N, cond1_1 (grid1.coords t) ↔ 1 ≤ t.val :=
  (by decide +kernel : ∀ t : Fin grid1.N, cond1_1 (grid1.coords t) ↔ 1 ≤ t.val)

/-- The condition of the body's `scf.if` 2 (`k1_h3`), from the grid coordinates (the skeleton's scalar
    chain substituted). -/
abbrev cond1_2 (i : grid1.Coords) : Prop := k1_cond3 i = 1#1
/-- It holds at the last point only — by arithmetic of the point. -/
theorem hcond1_2 : ∀ t : Fin cfg1.N, cond1_2 (grid1.coords t) ↔ t.val % 100 = 99 :=
  (fun t => by
    have ht : t.val < 100 := Nat.lt_of_lt_of_eq t.isLt N_1
    have e0 : (grid1.coords t 0).val = t.val / 10 % 10 := Pipeline.Grid.coords_val t 0 (by decide) rfl
    have e1 : (grid1.coords t 1).val = t.val / 1 % 10 := Pipeline.Grid.coords_val t 1 (by decide) rfl
    simp only [cond1_2, k1_cond3, e0, e1]
    word_cmp
   : ∀ t : Fin grid1.N, cond1_2 (grid1.coords t) ↔ t.val % 100 = 99)

/-! ## Where the windows are idle (the printed configuration's table `Cfg.idle`) -/

/-- Window 0 is never idle (an input). -/
theorem liveAt1_0 : ∀ t : Fin cfg1.N, cfg1.idle 0 (grid1.coords t) = false := fun _ => rfl
/-- At the points of case A the printed configuration (`Cfg.idle`) calls output 1 idle: the case stores nothing into it. -/
theorem idleAt1_1_A : ∀ t : Fin cfg1.N, cond1_0 (grid1.coords t) → ¬cond1_1 (grid1.coords t) → ¬cond1_2 (grid1.coords t) → cfg1.idle 1 (grid1.coords t) = true := by decide +kernel
/-- At the points of case A the pipeline does not write output 1's block back. -/
theorem noFlush1_1_A : ∀ t : Fin cfg1.N, cond1_0 (grid1.coords t) → ¬cond1_1 (grid1.coords t) → ¬cond1_2 (grid1.coords t) → (cfg1.win 1).flush t = false := by decide +kernel
/-- At the points of case B the printed configuration (`Cfg.idle`) calls output 1 idle: the case stores nothing into it. -/
theorem idleAt1_1_B : ∀ t : Fin cfg1.N, ¬cond1_0 (grid1.coords t) → cond1_1 (grid1.coords t) → ¬cond1_2 (grid1.coords t) → cfg1.idle 1 (grid1.coords t) = true := by decide +kernel
/-- At the points of case B the pipeline does not write output 1's block back. -/
theorem noFlush1_1_B : ∀ t : Fin cfg1.N, ¬cond1_0 (grid1.coords t) → cond1_1 (grid1.coords t) → ¬cond1_2 (grid1.coords t) → (cfg1.win 1).flush t = false := by decide +kernel
/-- At the points of case C the printed configuration (`Cfg.idle`) calls output 1 live: the case stores into it. -/
theorem liveAt1_1_C : ∀ t : Fin cfg1.N, ¬cond1_0 (grid1.coords t) → cond1_1 (grid1.coords t) → cond1_2 (grid1.coords t) → cfg1.idle 1 (grid1.coords t) = false := by decide +kernel

/-! ## The kernel body on any staging memrefs: a subtype the run finds -/

/-- One staging buffer of output window 1, through which its contents are stated (`View.read_writes_of_cover`: the
    choice does not matter). -/
abbrev VO1_1 : View sig .tc .smem S1x1 .f32 := (Memref.whole cc1_stg1_0 : Memref sig .tc .smem S1x1 .f32).view
/-- Each window's current staging memref at point `t`, spelled as the pipeline passes it (`bodyAt1`), and its wholeness. -/
abbrev ms1_0 (t : Fin cfg1.N) : Memref sig .tc .vmem S512x3584 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .smem S1x1 .f32 := win1_1.stage (cfg1.slots t 1)
abbrev hs1_1 (t : Fin cfg1.N) : (ms1_1 t).IsWhole := hstage1_1 ((cfg1.slots t 1).cast nbuf1_1)
/-- The scratch operands: whole scoped buffers of the kernel's own, passed beside the windows. -/
abbrev scM1_0 : Memref sig .tc .vmem S8x3584 .f32 := Memref.whole cc1_scratch0
/-- The scratch `arg4` the kernel carries between points, as a view: what it holds is stated through it. -/
abbrev VS1_0 : View sig .tc .vmem S8x3584 .f32 := scM1_0.view

/-- The frame kit's invariant with the scratch operands as memrefs owned at some contents (`Gen.scopedRest1_eq`,
    Lib/Memref.lean `owns_whole`): what the body obligation hands the run and takes back. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_scratch0), ((c : Thread nD τ).loc cc0_scratch0) ↦{fullShare} f) ∗ (∃ d, owns (c : Thread nD τ) scM1_0 fullShare d) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc3_stg1_0), ((c : Thread nD τ).loc cc3_stg1_0) ↦{fullShare} f) ∗ (∃ f : Buf (Elt F) ((c : Thread nD τ).loc cc3_stg1_1), ((c : Thread nD τ).loc cc3_stg1_1) ↦{fullShare} f) ∗ (∃ f : Buf (Elt F) ((c : Thread nD τ).loc cc3_stg2_0), ((c : Thread nD τ).loc cc3_stg2_0) ↦{fullShare} f) ∗ (∃ f : Buf (Elt F) ((c : Thread nD τ).loc cc3_stg2_1), ((c : Thread nD τ).loc cc3_stg2_1) ↦{fullShare} f) ∗ (∃ f : Buf (Elt F) ((c : Thread nD τ).loc cc3_stg3_0), ((c : Thread nD τ).loc cc3_stg3_0) ↦{fullShare} f) ∗ (∃ f : Buf (Elt F) ((c : Thread nD τ).loc cc3_stg3_1), ((c : Thread nD τ).loc cc3_stg3_1) ↦{fullShare} f) ∗ (∃ f : Buf (Elt F) ((c : Thread nD τ).loc cc3_stg4_0), ((c : Thread nD τ).loc cc3_stg4_0) ↦{fullShare} f) ∗ (∃ f : Buf (Elt F) ((c : Thread nD τ).loc cc3_stg4_1), ((c : Thread nD τ).loc cc3_stg4_1) ↦{fullShare} f) ∗ (∃ f : Buf (Elt F) ((c : Thread nD τ).loc cc3_scratch0), ((c : Thread nD τ).loc cc3_scratch0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc3_stg0_0), ((c : Thread nD τ).loc cc3_stg0_0) ↦{fullShare} f)) ∗ (∃ r, prngReg c r)) := by
  unfold Pipeline.ΦA; rw [scopedRest1_eq]; simp only [scM1_0, owns_whole]; try rfl

-- (the run's proof term is large: the definition's epilogue — `abstractNestedProofs` — walks it past the default budget)
set_option maxHeartbeats 1000000 in
/-- What the body's stores leave in each output's staging memref, as pieces (last first) IN CASE A (`scf.if` 0 taken, `scf.if` 1 not taken, `scf.if` 2 not taken: points 0), WITH the
    proof that on whole staging memrefs — the inputs' at their contents, the outputs it leaves idle (1: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_A (c : Dev nD) (i : grid1.Coords) (arg2 : Memref sig .tc .vmem S512x3584 .f32) (harg2 : arg2.IsWhole) (arg3 : Memref sig .tc .smem S1x1 .f32) (harg3 : arg3.IsWhole) (arg4 : Memref sig .tc .vmem S8x3584 .f32) (harg4 : arg4.IsWhole) (hc0 : cond1_0 i) (hc1 : ¬cond1_1 i) (hc2 : ¬cond1_2 i)
    (x0 : Vec F S512x3584 .f32) :
    Σ' (L1 : List (View.Piece (Elt F) S1x1 .f32)), { LS0 : List (View.Piece (Elt F) S8x3584 .f32) //
      ∀ (xi1 : Vec F S1x1 .f32) (E : Set ℕ) (K : PUnit → sProp 𝕄),
        iprop(owns (c : Thread nD τ) arg2 fullShare x0 ∗ owns (c : Thread nD τ) arg3 fullShare xi1 ∗ (∃ d, owns (c : Thread nD τ) arg4 fullShare d)
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc1_amax_float32 i arg2 harg2 arg3 harg3 arg4 harg4) K } := by
  refine ⟨[], ?_, fun xi1 E K => ?run⟩
  case run =>
    simp only [cc1_amax_float32_eq_skeleton]; unfold cc1_amax_float32_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

/-- Case A stores nothing into output 1 (the window is idle at its points and not written back there):
    no pieces — a placeholder (junk read back) that nothing consults, since at these points the window is neither
    written back nor read at the next point (Lib/Pipeline.lean "Idle points"). -/
def out1_A_1 (c : Dev nD) (i : grid1.Coords) (arg2 : Memref sig .tc .vmem S512x3584 .f32) (harg2 : arg2.IsWhole) (arg3 : Memref sig .tc .smem S1x1 .f32) (harg3 : arg3.IsWhole) (arg4 : Memref sig .tc .vmem S8x3584 .f32) (harg4 : arg4.IsWhole) (hc0 : cond1_0 i) (hc1 : ¬cond1_1 i) (hc2 : ¬cond1_2 i)
    (x0 : Vec F S512x3584 .f32) : Vec F S1x1 .f32 :=
  VO1_1.read (Elt F) (VO1_1.writes (Elt F) VO1_1.junk (kernelRun1_A c i arg2 harg2 arg3 harg3 arg4 harg4 hc0 hc1 hc2 x0).1)

/-- Case A's pieces for scratch `arg4`, which the kernel carries between points, cover it: 1 piece of `S8x3584` tiling it (Lib/Ring.lean `Piece.tiledL`). -/
theorem scover1_A_0 (c : Dev nD) (i : grid1.Coords) (arg2 : Memref sig .tc .vmem S512x3584 .f32) (harg2 : arg2.IsWhole) (arg3 : Memref sig .tc .smem S1x1 .f32) (harg3 : arg3.IsWhole) (arg4 : Memref sig .tc .vmem S8x3584 .f32) (harg4 : arg4.IsWhole) (hc0 : cond1_0 i) (hc1 : ¬cond1_1 i) (hc2 : ¬cond1_2 i)
    (x0 : Vec F S512x3584 .f32) (y : S8x3584.Idx) :
    ∃ pc ∈ (kernelRun1_A c i arg2 harg2 arg3 harg3 arg4 harg4 hc0 hc1 hc2 x0).2.1, y ∈ pc.1.set :=
  View.cover_of_tiledL (kernelRun1_A c i arg2 harg2 arg3 harg3 arg4 harg4 hc0 hc1 hc2 x0).2.1 S8x3584.size (by sl_kernel_rfl) y

/-- What case A leaves in scratch `arg4`: its pieces read back over junk. -/
def sout1_A_0 (c : Dev nD) (i : grid1.Coords) (arg2 : Memref sig .tc .vmem S512x3584 .f32) (harg2 : arg2.IsWhole) (arg3 : Memref sig .tc .smem S1x1 .f32) (harg3 : arg3.IsWhole) (arg4 : Memref sig .tc .vmem S8x3584 .f32) (harg4 : arg4.IsWhole) (hc0 : cond1_0 i) (hc1 : ¬cond1_1 i) (hc2 : ¬cond1_2 i)
    (x0 : Vec F S512x3584 .f32) : Vec F S8x3584 .f32 :=
  VS1_0.read (Elt F) (VS1_0.writes (Elt F) VS1_0.junk (kernelRun1_A c i arg2 harg2 arg3 harg3 arg4 harg4 hc0 hc1 hc2 x0).2.1)

-- (the run's proof term is large: the definition's epilogue — `abstractNestedProofs` — walks it past the default budget)
set_option maxHeartbeats 1000000 in
/-- What the body's stores leave in each output's staging memref, as pieces (last first) IN CASE B (`scf.if` 0 not taken, `scf.if` 1 taken, `scf.if` 2 not taken: points 1, 2, … 98: 98 of 100), WITH the
    proof that on whole staging memrefs — the inputs' at their contents, the outputs it leaves idle (1: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_B (c : Dev nD) (i : grid1.Coords) (arg2 : Memref sig .tc .vmem S512x3584 .f32) (harg2 : arg2.IsWhole) (arg3 : Memref sig .tc .smem S1x1 .f32) (harg3 : arg3.IsWhole) (arg4 : Memref sig .tc .vmem S8x3584 .f32) (harg4 : arg4.IsWhole) (hc0 : ¬cond1_0 i) (hc1 : cond1_1 i) (hc2 : ¬cond1_2 i)
    (x0 : Vec F S512x3584 .f32) (xs0 : Vec F S8x3584 .f32) :
    Σ' (L1 : List (View.Piece (Elt F) S1x1 .f32)), { LS0 : List (View.Piece (Elt F) S8x3584 .f32) //
      ∀ (xi1 : Vec F S1x1 .f32) (E : Set ℕ) (K : PUnit → sProp 𝕄),
        iprop(owns (c : Thread nD τ) arg2 fullShare x0 ∗ owns (c : Thread nD τ) arg3 fullShare xi1 ∗ owns (c : Thread nD τ) arg4 fullShare xs0
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc1_amax_float32 i arg2 harg2 arg3 harg3 arg4 harg4) K } := by
  refine ⟨[], ?_, fun xi1 E K => ?run⟩
  case run =>
    simp only [cc1_amax_float32_eq_skeleton]; unfold cc1_amax_float32_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg4.eq_unread hfs0
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

/-- Case B stores nothing into output 1 (the window is idle at its points and not written back there):
    no pieces — a placeholder (junk read back) that nothing consults, since at these points the window is neither
    written back nor read at the next point (Lib/Pipeline.lean "Idle points"). -/
def out1_B_1 (c : Dev nD) (i : grid1.Coords) (arg2 : Memref sig .tc .vmem S512x3584 .f32) (harg2 : arg2.IsWhole) (arg3 : Memref sig .tc .smem S1x1 .f32) (harg3 : arg3.IsWhole) (arg4 : Memref sig .tc .vmem S8x3584 .f32) (harg4 : arg4.IsWhole) (hc0 : ¬cond1_0 i) (hc1 : cond1_1 i) (hc2 : ¬cond1_2 i)
    (x0 : Vec F S512x3584 .f32) (xs0 : Vec F S8x3584 .f32) : Vec F S1x1 .f32 :=
  VO1_1.read (Elt F) (VO1_1.writes (Elt F) VO1_1.junk (kernelRun1_B c i arg2 harg2 arg3 harg3 arg4 harg4 hc0 hc1 hc2 x0 xs0).1)

/-- Case B's pieces for scratch `arg4`, which the kernel carries between points, cover it: 1 piece of `S8x3584` tiling it (Lib/Ring.lean `Piece.tiledL`). -/
theorem scover1_B_0 (c : Dev nD) (i : grid1.Coords) (arg2 : Memref sig .tc .vmem S512x3584 .f32) (harg2 : arg2.IsWhole) (arg3 : Memref sig .tc .smem S1x1 .f32) (harg3 : arg3.IsWhole) (arg4 : Memref sig .tc .vmem S8x3584 .f32) (harg4 : arg4.IsWhole) (hc0 : ¬cond1_0 i) (hc1 : cond1_1 i) (hc2 : ¬cond1_2 i)
    (x0 : Vec F S512x3584 .f32) (xs0 : Vec F S8x3584 .f32) (y : S8x3584.Idx) :
    ∃ pc ∈ (kernelRun1_B c i arg2 harg2 arg3 harg3 arg4 harg4 hc0 hc1 hc2 x0 xs0).2.1, y ∈ pc.1.set :=
  View.cover_of_tiledL (kernelRun1_B c i arg2 harg2 arg3 harg3 arg4 harg4 hc0 hc1 hc2 x0 xs0).2.1 S8x3584.size (by sl_kernel_rfl) y

/-- What case B leaves in scratch `arg4`: its pieces read back over junk. -/
def sout1_B_0 (c : Dev nD) (i : grid1.Coords) (arg2 : Memref sig .tc .vmem S512x3584 .f32) (harg2 : arg2.IsWhole) (arg3 : Memref sig .tc .smem S1x1 .f32) (harg3 : arg3.IsWhole) (arg4 : Memref sig .tc .vmem S8x3584 .f32) (harg4 : arg4.IsWhole) (hc0 : ¬cond1_0 i) (hc1 : cond1_1 i) (hc2 : ¬cond1_2 i)
    (x0 : Vec F S512x3584 .f32) (xs0 : Vec F S8x3584 .f32) : Vec F S8x3584 .f32 :=
  VS1_0.read (Elt F) (VS1_0.writes (Elt F) VS1_0.junk (kernelRun1_B c i arg2 harg2 arg3 harg3 arg4 harg4 hc0 hc1 hc2 x0 xs0).2.1)

-- (the run's proof term is large: the definition's epilogue — `abstractNestedProofs` — walks it past the default budget)
set_option maxHeartbeats 1000000 in
/-- What the body's stores leave in each output's staging memref, as pieces (last first) IN CASE C (`scf.if` 0 not taken, `scf.if` 1 taken, `scf.if` 2 taken: points 99), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_C (c : Dev nD) (i : grid1.Coords) (arg2 : Memref sig .tc .vmem S512x3584 .f32) (harg2 : arg2.IsWhole) (arg3 : Memref sig .tc .smem S1x1 .f32) (harg3 : arg3.IsWhole) (arg4 : Memref sig .tc .vmem S8x3584 .f32) (harg4 : arg4.IsWhole) (hc0 : ¬cond1_0 i) (hc1 : cond1_1 i) (hc2 : cond1_2 i)
    (x0 : Vec F S512x3584 .f32) (xs0 : Vec F S8x3584 .f32) :
    Σ' (L1 : List (View.Piece (Elt F) S1x1 .f32)), { LS0 : List (View.Piece (Elt F) S8x3584 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS0)) -∗ K ⟨⟩))
          ⊢ wp frame (wpE (defs₀ (F := F)) Variants.none c none) E (cc1_amax_float32 i arg2 harg2 arg3 harg3 arg4 harg4) K } := by
  refine ⟨?_, ?_, fun E K => ?run⟩
  case run =>
    simp only [cc1_amax_float32_eq_skeleton]; unfold cc1_amax_float32_skel
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | sl_exact hc0 | sl_exact hc1 | sl_exact hc2)
    sl_step
    iapply Hk
    isplitl [H0]
    · iexists _; isplitr; · ipureintro; exact harg2.read_unread _
      iexact H0
    isplitl [H1]; · iexists _; iexact H1
    iexists _; iexact HS0

/-- Case C's pieces for output 1 tile its block (1 store of `S1x1`, checked by the kernel's evaluation: Lib/Ring.lean `Piece.tiledL`, linear in the pieces, through a loop's `@[irreducible]` trip theorem too), so they cover it. -/
theorem cover1_C_1 (c : Dev nD) (i : grid1.Coords) (arg2 : Memref sig .tc .vmem S512x3584 .f32) (harg2 : arg2.IsWhole) (arg3 : Memref sig .tc .smem S1x1 .f32) (harg3 : arg3.IsWhole) (arg4 : Memref sig .tc .vmem S8x3584 .f32) (harg4 : arg4.IsWhole) (hc0 : ¬cond1_0 i) (hc1 : cond1_1 i) (hc2 : cond1_2 i)
    (x0 : Vec F S512x3584 .f32) (xs0 : Vec F S8x3584 .f32) (y : S1x1.Idx) :
    ∃ pc ∈ (kernelRun1_C c i arg2 harg2 arg3 harg3 arg4 harg4 hc0 hc1 hc2 x0 xs0).1, y ∈ pc.1.set :=
  View.cover_of_tiledL (kernelRun1_C c i arg2 harg2 arg3 harg3 arg4 harg4 hc0 hc1 hc2 x0 xs0).1 S1x1.size (by sl_kernel_rfl) y

/-- What case C leaves in output 1's staging buffer: its pieces read back over junk. -/
def out1_C_1 (c : Dev nD) (i : grid1.Coords) (arg2 : Memref sig .tc .vmem S512x3584 .f32) (harg2 : arg2.IsWhole) (arg3 : Memref sig .tc .smem S1x1 .f32) (harg3 : arg3.IsWhole) (arg4 : Memref sig .tc .vmem S8x3584 .f32) (harg4 : arg4.IsWhole) (hc0 : ¬cond1_0 i) (hc1 : cond1_1 i) (hc2 : cond1_2 i)
    (x0 : Vec F S512x3584 .f32) (xs0 : Vec F S8x3584 .f32) : Vec F S1x1 .f32 :=
  VO1_1.read (Elt F) (VO1_1.writes (Elt F) VO1_1.junk (kernelRun1_C c i arg2 harg2 arg3 harg3 arg4 harg4 hc0 hc1 hc2 x0 xs0).1)

/-- Case C's pieces for scratch `arg4`, which the kernel carries between points, cover it: 1 piece of `S8x3584` tiling it (Lib/Ring.lean `Piece.tiledL`). -/
theorem scover1_C_0 (c : Dev nD) (i : grid1.Coords) (arg2 : Memref sig .tc .vmem S512x3584 .f32) (harg2 : arg2.IsWhole) (arg3 : Memref sig .tc .smem S1x1 .f32) (harg3 : arg3.IsWhole) (arg4 : Memref sig .tc .vmem S8x3584 .f32) (harg4 : arg4.IsWhole) (hc0 : ¬cond1_0 i) (hc1 : cond1_1 i) (hc2 : cond1_2 i)
    (x0 : Vec F S512x3584 .f32) (xs0 : Vec F S8x3584 .f32) (y : S8x3584.Idx) :
    ∃ pc ∈ (kernelRun1_C c i arg2 harg2 arg3 harg3 arg4 harg4 hc0 hc1 hc2 x0 xs0).2.1, y ∈ pc.1.set :=
  View.cover_of_tiledL (kernelRun1_C c i arg2 harg2 arg3 harg3 arg4 harg4 hc0 hc1 hc2 x0 xs0).2.1 S8x3584.size (by sl_kernel_rfl) y

/-- What case C leaves in scratch `arg4`: its pieces read back over junk. -/
def sout1_C_0 (c : Dev nD) (i : grid1.Coords) (arg2 : Memref sig .tc .vmem S512x3584 .f32) (harg2 : arg2.IsWhole) (arg3 : Memref sig .tc .smem S1x1 .f32) (harg3 : arg3.IsWhole) (arg4 : Memref sig .tc .vmem S8x3584 .f32) (harg4 : arg4.IsWhole) (hc0 : ¬cond1_0 i) (hc1 : cond1_1 i) (hc2 : cond1_2 i)
    (x0 : Vec F S512x3584 .f32) (xs0 : Vec F S8x3584 .f32) : Vec F S8x3584 .f32 :=
  VS1_0.read (Elt F) (VS1_0.writes (Elt F) VS1_0.junk (kernelRun1_C c i arg2 harg2 arg3 harg3 arg4 harg4 hc0 hc1 hc2 x0 xs0).2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before1_W_κ`). An assignment of the conditions no point meets is no case (`False.elim`). -/
def outsAt1 (c : Dev nD) : (n : ℕ) → n < cfg1.N → Vec F S1x1 .f32 × Vec F S8x3584 .f32
  | 0, hn => (out1_A_1 c (grid1.coords ⟨0, hn⟩) (ms1_0 ⟨0, hn⟩) (hs1_0 ⟨0, hn⟩) (ms1_1 ⟨0, hn⟩) (hs1_1 ⟨0, hn⟩) scM1_0 (Memref.isWhole_whole _) ((hcond1_0 ⟨0, hn⟩).mpr (Nat.zero_mod _)) (fun h => (fun h => by (try dsimp only at h); omega) ((hcond1_1 ⟨0, hn⟩).mp h)) (fun h => (fun h => by (try dsimp only at h); omega) ((hcond1_2 ⟨0, hn⟩).mp h)) (iblk1 V c 0 ⟨0, hn⟩), sout1_A_0 c (grid1.coords ⟨0, hn⟩) (ms1_0 ⟨0, hn⟩) (hs1_0 ⟨0, hn⟩) (ms1_1 ⟨0, hn⟩) (hs1_1 ⟨0, hn⟩) scM1_0 (Memref.isWhole_whole _) ((hcond1_0 ⟨0, hn⟩).mpr (Nat.zero_mod _)) (fun h => (fun h => by (try dsimp only at h); omega) ((hcond1_1 ⟨0, hn⟩).mp h)) (fun h => (fun h => by (try dsimp only at h); omega) ((hcond1_2 ⟨0, hn⟩).mp h)) (iblk1 V c 0 ⟨0, hn⟩))
  | n + 1, hn =>
    if h0 : (n + 1) % 100 = 0 then
      if h1 : 1 ≤ (n + 1) then
        False.elim (by have hN : n + 1 < 100 := lt_of_lt_of_eq hn (show cfg1.N = 100 from N_1); omega)
      else
        if h2 : (n + 1) % 100 = 99 then
          False.elim (by have hN : n + 1 < 100 := lt_of_lt_of_eq hn (show cfg1.N = 100 from N_1); omega)
        else
          (out1_A_1 c (grid1.coords ⟨n + 1, hn⟩) (ms1_0 ⟨n + 1, hn⟩) (hs1_0 ⟨n + 1, hn⟩) (ms1_1 ⟨n + 1, hn⟩) (hs1_1 ⟨n + 1, hn⟩) scM1_0 (Memref.isWhole_whole _) ((hcond1_0 ⟨n + 1, hn⟩).mpr h0) (fun h => h1 ((hcond1_1 ⟨n + 1, hn⟩).mp h)) (fun h => h2 ((hcond1_2 ⟨n + 1, hn⟩).mp h)) (iblk1 V c 0 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) scM1_0 (Memref.isWhole_whole _) ((hcond1_0 ⟨n + 1, hn⟩).mpr h0) (fun h => h1 ((hcond1_1 ⟨n + 1, hn⟩).mp h)) (fun h => h2 ((hcond1_2 ⟨n + 1, hn⟩).mp h)) (iblk1 V c 0 ⟨n + 1, hn⟩))
    else
      if h1 : 1 ≤ (n + 1) then
        if h2 : (n + 1) % 100 = 99 then
          (out1_C_1 c (grid1.coords ⟨n + 1, hn⟩) (ms1_0 ⟨n + 1, hn⟩) (hs1_0 ⟨n + 1, hn⟩) (ms1_1 ⟨n + 1, hn⟩) (hs1_1 ⟨n + 1, hn⟩) scM1_0 (Memref.isWhole_whole _) (fun h => h0 ((hcond1_0 ⟨n + 1, hn⟩).mp h)) ((hcond1_1 ⟨n + 1, hn⟩).mpr h1) ((hcond1_2 ⟨n + 1, hn⟩).mpr h2) (iblk1 V c 0 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) scM1_0 (Memref.isWhole_whole _) (fun h => h0 ((hcond1_0 ⟨n + 1, hn⟩).mp h)) ((hcond1_1 ⟨n + 1, hn⟩).mpr h1) ((hcond1_2 ⟨n + 1, hn⟩).mpr h2) (iblk1 V c 0 ⟨n + 1, hn⟩) (outsAt1 c n (Nat.lt_of_succ_lt hn)).2)
        else
          (out1_B_1 c (grid1.coords ⟨n + 1, hn⟩) (ms1_0 ⟨n + 1, hn⟩) (hs1_0 ⟨n + 1, hn⟩) (ms1_1 ⟨n + 1, hn⟩) (hs1_1 ⟨n + 1, hn⟩) scM1_0 (Memref.isWhole_whole _) (fun h => h0 ((hcond1_0 ⟨n + 1, hn⟩).mp h)) ((hcond1_1 ⟨n + 1, hn⟩).mpr h1) (fun h => h2 ((hcond1_2 ⟨n + 1, hn⟩).mp h)) (iblk1 V c 0 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) scM1_0 (Memref.isWhole_whole _) (fun h => h0 ((hcond1_0 ⟨n + 1, hn⟩).mp h)) ((hcond1_1 ⟨n + 1, hn⟩).mpr h1) (fun h => h2 ((hcond1_2 ⟨n + 1, hn⟩).mp h)) (iblk1 V c 0 ⟨n + 1, hn⟩) (outsAt1 c n (Nat.lt_of_succ_lt hn)).2)
      else
        False.elim (by have hN : n + 1 < 100 := lt_of_lt_of_eq hn (show cfg1.N = 100 from N_1); omega)

/-- `outsAt1` at a point of case A: that case's contents. -/
theorem outsAt1_A (c : Dev nD) (t : Fin cfg1.N) (h0 : t.val % 100 = 0) (h1 : ¬1 ≤ t.val) (h2 : ¬t.val % 100 = 99) :
    outsAt1 V c t.val t.isLt = (out1_A_1 c (grid1.coords t) (ms1_0 t) (hs1_0 t) (ms1_1 t) (hs1_1 t) scM1_0 (Memref.isWhole_whole _) ((hcond1_0 t).mpr h0) (fun h => h1 ((hcond1_1 t).mp h)) (fun h => h2 ((hcond1_2 t).mp h)) (iblk1 V c 0 t), sout1_A_0 c (grid1.coords t) (ms1_0 t) (hs1_0 t) (ms1_1 t) (hs1_1 t) scM1_0 (Memref.isWhole_whole _) ((hcond1_0 t).mpr h0) (fun h => h1 ((hcond1_1 t).mp h)) (fun h => h2 ((hcond1_2 t).mp h)) (iblk1 V c 0 t)) := by
  obtain ⟨n, hn⟩ := t
  cases n with
  | zero => exact rfl
  | succ n => exact (dif_pos h0).trans ((dif_neg h1).trans ((dif_neg h2).trans rfl))

/-- `outsAt1` at a point of case B: that case's contents, over what the point before left. -/
theorem outsAt1_B (c : Dev nD) (t : Fin cfg1.N) (h0 : ¬t.val % 100 = 0) (h1 : 1 ≤ t.val) (h2 : ¬t.val % 100 = 99) :
    outsAt1 V c t.val t.isLt = (out1_B_1 c (grid1.coords t) (ms1_0 t) (hs1_0 t) (ms1_1 t) (hs1_1 t) scM1_0 (Memref.isWhole_whole _) (fun h => h0 ((hcond1_0 t).mp h)) ((hcond1_1 t).mpr h1) (fun h => h2 ((hcond1_2 t).mp h)) (iblk1 V c 0 t) (outsAt1 V c (t.val - 1) (Nat.lt_of_le_of_lt (Nat.sub_le _ _) t.isLt)).2, sout1_B_0 c (grid1.coords t) (ms1_0 t) (hs1_0 t) (ms1_1 t) (hs1_1 t) scM1_0 (Memref.isWhole_whole _) (fun h => h0 ((hcond1_0 t).mp h)) ((hcond1_1 t).mpr h1) (fun h => h2 ((hcond1_2 t).mp h)) (iblk1 V c 0 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans ((dif_neg h2).trans rfl))

/-- `outsAt1` at a point of case C: that case's contents, over what the point before left. -/
theorem outsAt1_C (c : Dev nD) (t : Fin cfg1.N) (h0 : ¬t.val % 100 = 0) (h1 : 1 ≤ t.val) (h2 : t.val % 100 = 99) :
    outsAt1 V c t.val t.isLt = (out1_C_1 c (grid1.coords t) (ms1_0 t) (hs1_0 t) (ms1_1 t) (hs1_1 t) scM1_0 (Memref.isWhole_whole _) (fun h => h0 ((hcond1_0 t).mp h)) ((hcond1_1 t).mpr h1) ((hcond1_2 t).mpr h2) (iblk1 V c 0 t) (outsAt1 V c (t.val - 1) (Nat.lt_of_le_of_lt (Nat.sub_le _ _) t.isLt)).2, sout1_C_0 c (grid1.coords t) (ms1_0 t) (hs1_0 t) (ms1_1 t) (hs1_1 t) scM1_0 (Memref.isWhole_whole _) (fun h => h0 ((hcond1_0 t).mp h)) ((hcond1_1 t).mpr h1) ((hcond1_2 t).mpr h2) (iblk1 V c 0 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans ((dif_pos h2).trans rfl))

/-- The region invariant before position `n` with a scratch the kernel CARRIES between points: before the first point the
    class's (Lib/Pipeline/Frame.lean `ΦA`: every scratch at anything); afterwards the scoped rest with each carried scratch
    at what the point before left in it (`outsAt1`'s scratch components), the others at anything, and the generator register
    at some state. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_scratch0), ((c : Thread nD τ).loc cc0_scratch0) ↦{fullShare} f) ∗ owns (c : Thread nD τ) scM1_0 fullShare ((outsAt1 V c n hn).2) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc3_stg1_0), ((c : Thread nD τ).loc cc3_stg1_0) ↦{fullShare} f) ∗ (∃ f : Buf (Elt F) ((c : Thread nD τ).loc cc3_stg1_1), ((c : Thread nD τ).loc cc3_stg1_1) ↦{fullShare} f) ∗ (∃ f : Buf (Elt F) ((c : Thread nD τ).loc cc3_stg2_0), ((c : Thread nD τ).loc cc3_stg2_0) ↦{fullShare} f) ∗ (∃ f : Buf (Elt F) ((c : Thread nD τ).loc cc3_stg2_1), ((c : Thread nD τ).loc cc3_stg2_1) ↦{fullShare} f) ∗ (∃ f : Buf (Elt F) ((c : Thread nD τ).loc cc3_stg3_0), ((c : Thread nD τ).loc cc3_stg3_0) ↦{fullShare} f) ∗ (∃ f : Buf (Elt F) ((c : Thread nD τ).loc cc3_stg3_1), ((c : Thread nD τ).loc cc3_stg3_1) ↦{fullShare} f) ∗ (∃ f : Buf (Elt F) ((c : Thread nD τ).loc cc3_stg4_0), ((c : Thread nD τ).loc cc3_stg4_0) ↦{fullShare} f) ∗ (∃ f : Buf (Elt F) ((c : Thread nD τ).loc cc3_stg4_1), ((c : Thread nD τ).loc cc3_stg4_1) ↦{fullShare} f) ∗ (∃ f : Buf (Elt F) ((c : Thread nD τ).loc cc3_scratch0), ((c : Thread nD τ).loc cc3_scratch0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc3_stg0_0), ((c : Thread nD τ).loc cc3_stg0_0) ↦{fullShare} f)) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the carried scratch at that point's contents. -/
theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_scratch0), ((c : Thread nD τ).loc cc0_scratch0) ↦{fullShare} f) ∗ owns (c : Thread nD τ) scM1_0 fullShare ((outsAt1 V c n hn).2) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc3_stg1_0), ((c : Thread nD τ).loc cc3_stg1_0) ↦{fullShare} f) ∗ (∃ f : Buf (Elt F) ((c : Thread nD τ).loc cc3_stg1_1), ((c : Thread nD τ).loc cc3_stg1_1) ↦{fullShare} f) ∗ (∃ f : Buf (Elt F) ((c : Thread nD τ).loc cc3_stg2_0), ((c : Thread nD τ).loc cc3_stg2_0) ↦{fullShare} f) ∗ (∃ f : Buf (Elt F) ((c : Thread nD τ).loc cc3_stg2_1), ((c : Thread nD τ).loc cc3_stg2_1) ↦{fullShare} f) ∗ (∃ f : Buf (Elt F) ((c : Thread nD τ).loc cc3_stg3_0), ((c : Thread nD τ).loc cc3_stg3_0) ↦{fullShare} f) ∗ (∃ f : Buf (Elt F) ((c : Thread nD τ).loc cc3_stg3_1), ((c : Thread nD τ).loc cc3_stg3_1) ↦{fullShare} f) ∗ (∃ f : Buf (Elt F) ((c : Thread nD τ).loc cc3_stg4_0), ((c : Thread nD τ).loc cc3_stg4_0) ↦{fullShare} f) ∗ (∃ f : Buf (Elt F) ((c : Thread nD τ).loc cc3_stg4_1), ((c : Thread nD τ).loc cc3_stg4_1) ↦{fullShare} f) ∗ (∃ f : Buf (Elt F) ((c : Thread nD τ).loc cc3_scratch0), ((c : Thread nD τ).loc cc3_scratch0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc3_stg0_0), ((c : Thread nD τ).loc cc3_stg0_0) ↦{fullShare} f)) ∗ (∃ r, prngReg c r)) := rfl

/-- Before a point that is not the first: the carried scratch at what the point before left. -/
theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_scratch0), ((c : Thread nD τ).loc cc0_scratch0) ↦{fullShare} f) ∗ owns (c : Thread nD τ) scM1_0 fullShare ((outsAt1 V c (n - 1) (by omega)).2) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc3_stg1_0), ((c : Thread nD τ).loc cc3_stg1_0) ↦{fullShare} f) ∗ (∃ f : Buf (Elt F) ((c : Thread nD τ).loc cc3_stg1_1), ((c : Thread nD τ).loc cc3_stg1_1) ↦{fullShare} f) ∗ (∃ f : Buf (Elt F) ((c : Thread nD τ).loc cc3_stg2_0), ((c : Thread nD τ).loc cc3_stg2_0) ↦{fullShare} f) ∗ (∃ f : Buf (Elt F) ((c : Thread nD τ).loc cc3_stg2_1), ((c : Thread nD τ).loc cc3_stg2_1) ↦{fullShare} f) ∗ (∃ f : Buf (Elt F) ((c : Thread nD τ).loc cc3_stg3_0), ((c : Thread nD τ).loc cc3_stg3_0) ↦{fullShare} f) ∗ (∃ f : Buf (Elt F) ((c : Thread nD τ).loc cc3_stg3_1), ((c : Thread nD τ).loc cc3_stg3_1) ↦{fullShare} f) ∗ (∃ f : Buf (Elt F) ((c : Thread nD τ).loc cc3_stg4_0), ((c : Thread nD τ).loc cc3_stg4_0) ↦{fullShare} f) ∗ (∃ f : Buf (Elt F) ((c : Thread nD τ).loc cc3_stg4_1), ((c : Thread nD τ).loc cc3_stg4_1) ↦{fullShare} f) ∗ (∃ f : Buf (Elt F) ((c : Thread nD τ).loc cc3_scratch0), ((c : Thread nD τ).loc cc3_scratch0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc3_stg0_0), ((c : Thread nD τ).loc cc3_stg0_0) ↦{fullShare} f)) ∗ (∃ r, prngReg c r)) := by
  cases n with
  | zero => exact absurd rfl hz
  | succ n => rfl

/-! ## The pipeline's proof data -/

/-- The proof data of pipeline 1 on core `c`: the arrays as the region finds them (`V`); after the body at
    point `t` each input's buffer at its block and the outputs' at `outsAt1`; the invariant the class's
    (`PhiS1`: the class's `ΦA` before the first point, then the scoped rest with the carried scratch at `outsAt1`'s component);
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => (outsAt1 V c t.val t.isLt).1
  Φ t := PhiS1 V c t.val (Nat.le_of_lt_succ t.isLt)
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- The invariant at a point's start (the proof data at `t.castSucc`), restated at `t.val`. -/
theorem PhiS1_castSucc (c : Dev nD) (t : Fin cfg1.N) :
    (dat1 V c).Φ t.castSucc = PhiS1 V c t.val (Nat.le_of_lt t.isLt) := by
  dsimp only [dat1]; exact Pipeline.Dat.Φ_castSucc (PhiS1 V c) t

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = (outsAt1 V c t.val t.isLt).1 := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t)

set_option maxHeartbeats 4800000 in
/-- The body at any point: the inputs' memrefs hold their blocks (`before1_W`); the closed forms say which case the point is in (`by_cases`), an output the case reads before covering holds what the point before left (`before1_W_κ`); so the
    run applies; the invariant hands the body the carried scratch at what the point before left (`PhiS1_pos`; at anything at the first point, `PhiS1_zero`), the other scratch buffers and the generator register at some state, and takes the carried scratch back at this point's contents (`PhiS1_succ`, by `scoverK_κ_N`); the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).owesAt () t.succ = (dat1 V c).owesAt () t.castSucc from rfl]
  rw [show (dat1 V c).Φ t.succ = PhiS1 V c (t.val + 1) t.isLt from rfl, PhiS1_succ]
  have hN : t.val < 100 := lt_of_lt_of_eq t.isLt (show cfg1.N = 100 from N_1)
  by_cases h0 : t.val % 100 = 0
  · by_cases h1 : 1 ≤ t.val
    · exfalso; omega
    · by_cases h2 : t.val % 100 = 99
      · exfalso; omega
      · rw [show (dat1 V c).leavesExact 0 t = owns (c : Thread nD τ) (ms1_0 t) fullShare ((dat1 V c).after 0 t) from by
      unfold Dat.leavesExact; rw [liveAt1_0 t], after1_0]
        rw [Dat.leavesExact_idle (dat1 V c) 1 t (idleAt1_1_A t ((hcond1_0 t).mpr h0) (fun h => h1 ((hcond1_1 t).mp h)) (fun h => h2 ((hcond1_2 t).mp h))) (noFlush1_1_A t ((hcond1_0 t).mpr h0) (fun h => h1 ((hcond1_1 t).mp h)) (fun h => h2 ((hcond1_2 t).mp h)))]
        by_cases hz : t.val = 0
        · rw [PhiS1_castSucc V c t, PhiS1_zero V c _ _ hz, PhiA1_eq]
          rw [outsAt1_A V c t h0 h1 h2]
          unfold sout1_A_0; (try dsimp only)
          iintro ⟨⟨⟨HR0, HR1, HR2, HS0, HR4, HR5, HR6, HR7, HR8, HR9, HR10, HR11, HR12, HR13, HR14, HR15, HR16, HR17, HR18, HR19⟩, Hg⟩, Ho, ⟨%d0, H0⟩, ⟨%d1, H1⟩⟩
          iapply ((kernelRun1_A c (grid1.coords t) _ _ _ _ _ _ ((hcond1_0 t).mpr h0) (fun h => h1 ((hcond1_1 t).mp h)) (fun h => h2 ((hcond1_2 t).mp h)) (iblk1 V c 0 t)).2.2 _ Set.univ _)
          isplitl [H0]; · iexact H0
          isplitl [H1]; · iexact H1
          isplitl [HS0]; · iexact HS0
          iintro ⟨H0, H1, ⟨%es0, HS0⟩⟩
          isplitl [HR0 HR1 HR2 HS0 HR4 HR5 HR6 HR7 HR8 HR9 HR10 HR11 HR12 HR13 HR14 HR15 HR16 HR17 HR18 HR19 Hg]
          · isplitl [HR0 HR1 HR2 HS0 HR4 HR5 HR6 HR7 HR8 HR9 HR10 HR11 HR12 HR13 HR14 HR15 HR16 HR17 HR18 HR19]
            · isplitl [HR0]
              · iexact HR0
              isplitl [HR1]
              · iexact HR1
              isplitl [HR2]
              · iexact HR2
              isplitl [HS0]
              · unfold owns; iexists _; isplitr
                swap; · iexact HS0
                ipureintro; exact View.read_writes_of_cover _ _ _ _ _ (scover1_A_0 c _ _ _ _ _ _ _ _ _ _ _)
              isplitl [HR4]
              · iexact HR4
              isplitl [HR5]
              · iexact HR5
              isplitl [HR6]
              · iexact HR6
              isplitl [HR7]
              · iexact HR7
              isplitl [HR8]
              · iexact HR8
              isplitl [HR9]
              · iexact HR9
              isplitl [HR10]
              · iexact HR10
              isplitl [HR11]
              · iexact HR11
              isplitl [HR12]
              · iexact HR12
              isplitl [HR13]
              · iexact HR13
              isplitl [HR14]
              · iexact HR14
              isplitl [HR15]
              · iexact HR15
              isplitl [HR16]
              · iexact HR16
              isplitl [HR17]
              · iexact HR17
              isplitl [HR18]
              · iexact HR18
              iexact HR19
            iexact Hg
          isplitl [Ho]; · iexact Ho
          isplitl [H0]; · iexact H0
          iexists _; iexact H1
        · exfalso; have hN : t.val < 100 := lt_of_lt_of_eq t.isLt (show cfg1.N = 100 from N_1); omega
  · by_cases h1 : 1 ≤ t.val
    · by_cases h2 : t.val % 100 = 99
      · rw [show (dat1 V c).leavesExact 0 t = owns (c : Thread nD τ) (ms1_0 t) fullShare ((dat1 V c).after 0 t) from by
      unfold Dat.leavesExact; rw [liveAt1_0 t], after1_0]
        rw [show (dat1 V c).leavesExact 1 t = owns (c : Thread nD τ) (ms1_1 t) fullShare ((dat1 V c).after 1 t) from by
      unfold Dat.leavesExact; rw [liveAt1_1_C t (fun h => h0 ((hcond1_0 t).mp h)) ((hcond1_1 t).mpr h1) ((hcond1_2 t).mpr h2)], after1_1]
        by_cases hz : t.val = 0
        · exfalso; have hN : t.val < 100 := lt_of_lt_of_eq t.isLt (show cfg1.N = 100 from N_1); omega
        · rw [PhiS1_castSucc V c t, PhiS1_pos V c _ _ hz]
          rw [outsAt1_C V c t h0 h1 h2]
          unfold out1_C_1 sout1_C_0; (try dsimp only)
          iintro ⟨⟨⟨HR0, HR1, HR2, HS0, HR4, HR5, HR6, HR7, HR8, HR9, HR10, HR11, HR12, HR13, HR14, HR15, HR16, HR17, HR18, HR19⟩, Hg⟩, Ho, ⟨%d0, H0⟩, ⟨%d1, H1⟩⟩
          iapply ((kernelRun1_C c (grid1.coords t) _ _ _ _ _ _ (fun h => h0 ((hcond1_0 t).mp h)) ((hcond1_1 t).mpr h1) ((hcond1_2 t).mpr h2) (iblk1 V c 0 t) _).2.2 Set.univ _)
          isplitl [H0]; · iexact H0
          isplitl [H1]; · iexists _; iexact H1
          isplitl [HS0]; · iexact HS0
          iintro ⟨H0, ⟨%e1, H1⟩, ⟨%es0, HS0⟩⟩
          isplitl [HR0 HR1 HR2 HS0 HR4 HR5 HR6 HR7 HR8 HR9 HR10 HR11 HR12 HR13 HR14 HR15 HR16 HR17 HR18 HR19 Hg]
          · isplitl [HR0 HR1 HR2 HS0 HR4 HR5 HR6 HR7 HR8 HR9 HR10 HR11 HR12 HR13 HR14 HR15 HR16 HR17 HR18 HR19]
            · isplitl [HR0]
              · iexact HR0
              isplitl [HR1]
              · iexact HR1
              isplitl [HR2]
              · iexact HR2
              isplitl [HS0]
              · unfold owns; iexists _; isplitr
                swap; · iexact HS0
                ipureintro; exact View.read_writes_of_cover _ _ _ _ _ (scover1_C_0 c _ _ _ _ _ _ _ _ _ _ _ _)
              isplitl [HR4]
              · iexact HR4
              isplitl [HR5]
              · iexact HR5
              isplitl [HR6]
              · iexact HR6
              isplitl [HR7]
              · iexact HR7
              isplitl [HR8]
              · iexact HR8
              isplitl [HR9]
              · iexact HR9
              isplitl [HR10]
              · iexact HR10
              isplitl [HR11]
              · iexact HR11
              isplitl [HR12]
              · iexact HR12
              isplitl [HR13]
              · iexact HR13
              isplitl [HR14]
              · iexact HR14
              isplitl [HR15]
              · iexact HR15
              isplitl [HR16]
              · iexact HR16
              isplitl [HR17]
              · iexact HR17
              isplitl [HR18]
              · iexact HR18
              iexact HR19
            iexact Hg
          isplitl [Ho]; · iexact Ho
          isplitl [H0]; · iexact H0
          unfold owns; iexists _; isplitr
          swap; · iexact H1
          ipureintro; exact View.read_writes_of_cover _ _ _ _ _ (cover1_C_1 c _ _ _ _ _ _ _ _ _ _ _ _)
      · rw [show (dat1 V c).leavesExact 0 t = owns (c : Thread nD τ) (ms1_0 t) fullShare ((dat1 V c).after 0 t) from by
      unfold Dat.leavesExact; rw [liveAt1_0 t], after1_0]
        rw [Dat.leavesExact_idle (dat1 V c) 1 t (idleAt1_1_B t (fun h => h0 ((hcond1_0 t).mp h)) ((hcond1_1 t).mpr h1) (fun h => h2 ((hcond1_2 t).mp h))) (noFlush1_1_B t (fun h => h0 ((hcond1_0 t).mp h)) ((hcond1_1 t).mpr h1) (fun h => h2 ((hcond1_2 t).mp h)))]
        by_cases hz : t.val = 0
        · exfalso; have hN : t.val < 100 := lt_of_lt_of_eq t.isLt (show cfg1.N = 100 from N_1); omega
        · rw [PhiS1_castSucc V c t, PhiS1_pos V c _ _ hz]
          rw [outsAt1_B V c t h0 h1 h2]
          unfold sout1_B_0; (try dsimp only)
          iintro ⟨⟨⟨HR0, HR1, HR2, HS0, HR4, HR5, HR6, HR7, HR8, HR9, HR10, HR11, HR12, HR13, HR14, HR15, HR16, HR17, HR18, HR19⟩, Hg⟩, Ho, ⟨%d0, H0⟩, ⟨%d1, H1⟩⟩
          iapply ((kernelRun1_B c (grid1.coords t) _ _ _ _ _ _ (fun h => h0 ((hcond1_0 t).mp h)) ((hcond1_1 t).mpr h1) (fun h => h2 ((hcond1_2 t).mp h)) (iblk1 V c 0 t) _).2.2 _ Set.univ _)
          isplitl [H0]; · iexact H0
          isplitl [H1]; · iexact H1
          isplitl [HS0]; · iexact HS0
          iintro ⟨H0, H1, ⟨%es0, HS0⟩⟩
          isplitl [HR0 HR1 HR2 HS0 HR4 HR5 HR6 HR7 HR8 HR9 HR10 HR11 HR12 HR13 HR14 HR15 HR16 HR17 HR18 HR19 Hg]
          · isplitl [HR0 HR1 HR2 HS0 HR4 HR5 HR6 HR7 HR8 HR9 HR10 HR11 HR12 HR13 HR14 HR15 HR16 HR17 HR18 HR19]
            · isplitl [HR0]
              · iexact HR0
              isplitl [HR1]
              · iexact HR1
              isplitl [HR2]
              · iexact HR2
              isplitl [HS0]
              · unfold owns; iexists _; isplitr
                swap; · iexact HS0
                ipureintro; exact View.read_writes_of_cover _ _ _ _ _ (scover1_B_0 c _ _ _ _ _ _ _ _ _ _ _ _)
              isplitl [HR4]
              · iexact HR4
              isplitl [HR5]
              · iexact HR5
              isplitl [HR6]
              · iexact HR6
              isplitl [HR7]
              · iexact HR7
              isplitl [HR8]
              · iexact HR8
              isplitl [HR9]
              · iexact HR9
              isplitl [HR10]
              · iexact HR10
              isplitl [HR11]
              · iexact HR11
              isplitl [HR12]
              · iexact HR12
              isplitl [HR13]
              · iexact HR13
              isplitl [HR14]
              · iexact HR14
              isplitl [HR15]
              · iexact HR15
              isplitl [HR16]
              · iexact HR16
              isplitl [HR17]
              · iexact HR17
              isplitl [HR18]
              · iexact HR18
              iexact HR19
            iexact Hg
          isplitl [Ho]; · iexact Ho
          isplitl [H0]; · iexact H0
          iexists _; iexact H1
    · exfalso; omega

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-- What the launch hands the region (`ΦA`) is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives `ΦA` back: the carried scratch's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HR0, HR1, HR2, HS0, HR4, HR5, HR6, HR7, HR8, HR9, HR10, HR11, HR12, HR13, HR14, HR15, HR16, HR17, HR18, HR19⟩, Hg⟩
  isplitl [HR0 HR1 HR2 HS0 HR4 HR5 HR6 HR7 HR8 HR9 HR10 HR11 HR12 HR13 HR14 HR15 HR16 HR17 HR18 HR19]
  · isplitl [HR0]
    · iexact HR0
    isplitl [HR1]
    · iexact HR1
    isplitl [HR2]
    · iexact HR2
    isplitl [HS0]
    · iexists _; iexact HS0
    isplitl [HR4]
    · iexact HR4
    isplitl [HR5]
    · iexact HR5
    isplitl [HR6]
    · iexact HR6
    isplitl [HR7]
    · iexact HR7
    isplitl [HR8]
    · iexact HR8
    isplitl [HR9]
    · iexact HR9
    isplitl [HR10]
    · iexact HR10
    isplitl [HR11]
    · iexact HR11
    isplitl [HR12]
    · iexact HR12
    isplitl [HR13]
    · iexact HR13
    isplitl [HR14]
    · iexact HR14
    isplitl [HR15]
    · iexact HR15
    isplitl [HR16]
    · iexact HR16
    isplitl [HR17]
    · iexact HR17
    isplitl [HR18]
    · iexact HR18
    iexact HR19
  iexact Hg

/-- The same after the last point. -/
theorem hout1 (c : Dev nD) : (dat1 V c).Φ (Fin.last cfg1.N) ⊢ Pipeline.ΦA spec1 c :=
  Phi_out1 V c _ (by rw [Fin.val_last]; have : cfg1.N = 100 := N_1; omega)

end Regions

end Cert.KernelIdeal.Gen

end
-- ==== Proof.Whole.Region2.lean ====
/- The third call (codes of w): its blocks and its body at each point. Laid out as the generated frame of a one-call program is; a call that carries
   scratch between points keeps that scratch in its invariant. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 2 of @main: custom_call 2, `cc2_quantise_w` (pipeline 2), at the entry contents `V` -/

/-! ## The windows' blocks -/

/-- Window `w`'s block at point `t`, read off its array as the region finds it (`V`). -/
noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The kernel body on any staging memrefs: a subtype the run finds -/

/-- One staging buffer of output window 2, through which its contents are stated (`View.read_writes_of_cover`: the
    choice does not matter). -/
abbrev VO2_2 : View sig .tc .vmem S512x3584 .fp8e4m3 := (Memref.whole cc2_stg2_0 : Memref sig .tc .vmem S512x3584 .fp8e4m3).view
/-- Each window's current staging memref at point `t`, spelled as the pipeline passes it (`bodyAt2`), and its wholeness. -/
abbrev ms2_0 (t : Fin cfg2.N) : Memref sig .tc .smem S1x1 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x3584 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S512x3584 .fp8e4m3 := win2_2.stage (cfg2.slots t 2)
abbrev hs2_2 (t : Fin cfg2.N) : (ms2_2 t).IsWhole := hstage2_2 ((cfg2.slots t 2).cast nbuf2_2)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun2_A (c : Dev nD) (i : grid2.Coords) (arg2 : Memref sig .tc .smem S1x1 .f32) (harg2 : arg2.IsWhole) (arg3 : Memref sig .tc .vmem S512x3584 .f32) (harg3 : arg3.IsWhole) (arg4 : Memref sig .tc .vmem S512x3584 .fp8e4m3) (harg4 : arg4.IsWhole)
    (x0 : Vec F S1x1 .f32) (x1 : Vec F S512x3584 .f32) :
    { L2 : List (View.Piece (Elt F) S512x3584 .fp8e4m3) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
          ⊢ wp frame (wpE (defs₀ (F := F)) Variants.none c none) E (cc2_quantise_w i arg2 harg2 arg3 harg3 arg4 harg4) K } := by
  refine ⟨?_, fun E K => ?run⟩
  case run =>
    simp only [cc2_quantise_w_eq_skeleton]; unfold cc2_quantise_w_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec
    sl_step
    iapply Hk
    isplitl [H0]
    · iexists _; isplitr; · ipureintro; exact harg2.read_unread _
      iexact H0
    isplitl [H1]
    · iexists _; isplitr; · ipureintro; exact harg3.read_unread _
      iexact H1
    iexists _; iexact H2

/-- The run's pieces for output 2 tile its block (1 store of `S512x3584`, checked by the kernel's evaluation: Lib/Ring.lean `Piece.tiledL`, linear in the pieces, through a loop's `@[irreducible]` trip theorem too), so they cover it. -/
theorem cover2_A_2 (c : Dev nD) (i : grid2.Coords) (arg2 : Memref sig .tc .smem S1x1 .f32) (harg2 : arg2.IsWhole) (arg3 : Memref sig .tc .vmem S512x3584 .f32) (harg3 : arg3.IsWhole) (arg4 : Memref sig .tc .vmem S512x3584 .fp8e4m3) (harg4 : arg4.IsWhole)
    (x0 : Vec F S1x1 .f32) (x1 : Vec F S512x3584 .f32) (y : S512x3584.Idx) :
    ∃ pc ∈ (kernelRun2_A c i arg2 harg2 arg3 harg3 arg4 harg4 x0 x1).1, y ∈ pc.1.set :=
  View.cover_of_tiledL (kernelRun2_A c i arg2 harg2 arg3 harg3 arg4 harg4 x0 x1).1 S512x3584.size (by sl_kernel_rfl) y

/-- What the run leaves in output 2's staging buffer: its pieces read back over junk. -/
def out2_A_2 (c : Dev nD) (i : grid2.Coords) (arg2 : Memref sig .tc .smem S1x1 .f32) (harg2 : arg2.IsWhole) (arg3 : Memref sig .tc .vmem S512x3584 .f32) (harg3 : arg3.IsWhole) (arg4 : Memref sig .tc .vmem S512x3584 .fp8e4m3) (harg4 : arg4.IsWhole)
    (x0 : Vec F S1x1 .f32) (x1 : Vec F S512x3584 .f32) : Vec F S512x3584 .fp8e4m3 :=
  VO2_2.read (Elt F) (VO2_2.writes (Elt F) VO2_2.junk (kernelRun2_A c i arg2 harg2 arg3 harg3 arg4 harg4 x0 x1).1)

/-! ## What the outputs hold after each point -/

/-- What the outputs' staging buffers hold after the body at point `t`: the run's contents at
    the point's memrefs and input blocks. -/
def outsAt2 (c : Dev nD) (t : Fin cfg2.N) : Vec F S512x3584 .fp8e4m3 :=
  out2_A_2 c (grid2.coords t) (ms2_0 t) (hs2_0 t) (ms2_1 t) (hs2_1 t) (ms2_2 t) (hs2_2 t) (iblk2 V c 0 t) (iblk2 V c 1 t)

/-! ## The pipeline's proof data -/

/-- The proof data of pipeline 2 on core `c`: the arrays as the region finds them (`V`); after the body at
    point `t` each input's buffer at its block and the outputs' at `outsAt2`; the invariant the class's
    (Lib/Pipeline/Frame.lean `ΦA`: the scoped rest and the generator register); nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t)
  Φ _ := Pipeline.ΦA spec2 c
  q _ := fullShare
  owed _ := 0

/-- The proof data's arrays are the region-entry contents, by projecting the definition (`dsimp`): a region record cites
    this for its arrays rather than have Lean unfold `V`, the fold through @main up to the region's entry. -/
theorem A_eq2 (c : Dev nD) (w : Fin cfg2.W) : (dat2 V c).A w = V c (Pipeline.arrRef spec2 w) := by
  dsimp only [dat2]

/-- What the body leaves, window by window (the proof data's `match` reduced by `dsimp`). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t) := by dsimp only [dat2]

/-- Each input's current staging buffer holds its block at every point, fetched there or not (`beforeK_W_of`). -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t` (Lib/Pipeline.lean `BodyObligation`'s precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t))

/-- The body at any point: the inputs' memrefs hold their blocks (`before2_W`); so the
    run applies; the invariant passes through unread; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  unfold outsAt2
  unfold out2_A_2
  iintro ⟨HΦ, Ho, ⟨%d0, H0⟩, ⟨%d1, H1⟩, ⟨%d2, H2⟩⟩
  iapply ((kernelRun2_A c (grid2.coords t) _ _ _ _ _ _ (iblk2 V c 0 t) (iblk2 V c 1 t)).2 Set.univ _)
  isplitl [H0]; · iexact H0
  isplitl [H1]; · iexact H1
  isplitl [H2]; · iexists _; iexact H2
  iintro ⟨H0, H1, ⟨%e2, H2⟩⟩
  isplitl [HΦ]; · iexact HΦ
  isplitl [Ho]; · iexact Ho
  isplitl [H0]; · iexact H0
  isplitl [H1]; · iexact H1
  unfold owns; iexists _; isplitr
  swap; · iexact H2
  ipureintro; exact View.read_writes_of_cover _ _ _ _ _ (cover2_A_2 c _ _ _ _ _ _ _ _ _)

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The library's body obligation, at every point: the body's triple restated (Lib/Pipeline/FrameBody.lean `triple_restated`). -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Regions

end Cert.KernelIdeal.Gen

end
-- ==== Proof.Whole.Region3.lean ====
/- The fourth call (codes of dy and the product): its blocks, its body at each point, the sum carried between points. Laid out as the generated frame of a one-call program is; a call that carries
   scratch between points keeps that scratch in its invariant. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 3 of @main: custom_call 3, `cc3_dgrad_fp8` (pipeline 3), at the entry contents `V` -/

/-! ## The windows' blocks -/

/-- Window `w`'s block at point `t`, read off its array as the region finds it (`V`). -/
noncomputable def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's branch conditions -/

/-- The condition of the body's `scf.if` 0 (`k3_h1`), from the grid coordinates (the skeleton's scalar
    chain substituted). -/
abbrev cond3_0 (i : grid3.Coords) : Prop := (Scalar.cmpi .ne (Scalar.extui (Scalar.cmpi .eq (BitVec.ofNat 32 (i 1).val) 0#32)) 0#32) = 1#1
/-- It holds at the points ≡ 0 (mod 35) — by arithmetic of the point. -/
theorem hcond3_0 : ∀ t : Fin cfg3.N, cond3_0 (grid3.coords t) ↔ t.val % 35 = 0 :=
  (fun t => by
    have ht : t.val < 630 := Nat.lt_of_lt_of_eq t.isLt N_3
    have e0 : (grid3.coords t 0).val = t.val / 35 % 18 := Pipeline.Grid.coords_val t 0 (by decide) rfl
    have e1 : (grid3.coords t 1).val = t.val / 1 % 35 := Pipeline.Grid.coords_val t 1 (by decide) rfl
    simp only [cond3_0, e0, e1]
    word_cmp
   : ∀ t : Fin grid3.N, cond3_0 (grid3.coords t) ↔ t.val % 35 = 0)

/-- The condition of the body's `scf.if` 1 (`k3_h2`), from the grid coordinates (the skeleton's scalar
    chain substituted). -/
abbrev cond3_1 (i : grid3.Coords) : Prop := k3_cond2 i = 1#1
/-- It holds at the points ≡ 34 (mod 35) — by arithmetic of the point. -/
theorem hcond3_1 : ∀ t : Fin cfg3.N, cond3_1 (grid3.coords t) ↔ t.val % 35 = 34 :=
  (fun t => by
    have ht : t.val < 630 := Nat.lt_of_lt_of_eq t.isLt N_3
    have e0 : (grid3.coords t 0).val = t.val / 35 % 18 := Pipeline.Grid.coords_val t 0 (by decide) rfl
    have e1 : (grid3.coords t 1).val = t.val / 1 % 35 := Pipeline.Grid.coords_val t 1 (by decide) rfl
    simp only [cond3_1, k3_cond2, e0, e1]
    word_cmp
   : ∀ t : Fin grid3.N, cond3_1 (grid3.coords t) ↔ t.val % 35 = 34)

/-! ## Where the windows are idle (the printed configuration's table `Cfg.idle`) -/

/-- Window 0 is never idle (an input). -/
theorem liveAt3_0 : ∀ t : Fin cfg3.N, cfg3.idle 0 (grid3.coords t) = false := fun _ => rfl
/-- Window 1 is never idle (an input). -/
theorem liveAt3_1 : ∀ t : Fin cfg3.N, cfg3.idle 1 (grid3.coords t) = false := fun _ => rfl
/-- Window 2 is never idle (an input). -/
theorem liveAt3_2 : ∀ t : Fin cfg3.N, cfg3.idle 2 (grid3.coords t) = false := fun _ => rfl
/-- Window 4 is never idle (an output stored at every point, under no condition). -/
theorem liveAt3_4 : ∀ t : Fin cfg3.N, cfg3.idle 4 (grid3.coords t) = false := fun _ => rfl
/-- At the points of case A the printed configuration (`Cfg.idle`) calls output 3 idle: the case stores nothing into it. -/
theorem idleAt3_3_A : ∀ t : Fin cfg3.N, cond3_0 (grid3.coords t) → ¬cond3_1 (grid3.coords t) → cfg3.idle 3 (grid3.coords t) = true := by decide +kernel
/-- At the points of case A the pipeline does not write output 3's block back. -/
theorem noFlush3_3_A : ∀ t : Fin cfg3.N, cond3_0 (grid3.coords t) → ¬cond3_1 (grid3.coords t) → (cfg3.win 3).flush t = false := by decide +kernel
/-- At the points of case B the printed configuration (`Cfg.idle`) calls output 3 idle: the case stores nothing into it. -/
theorem idleAt3_3_B : ∀ t : Fin cfg3.N, ¬cond3_0 (grid3.coords t) → ¬cond3_1 (grid3.coords t) → cfg3.idle 3 (grid3.coords t) = true := by decide +kernel
/-- At the points of case B the pipeline does not write output 3's block back. -/
theorem noFlush3_3_B : ∀ t : Fin cfg3.N, ¬cond3_0 (grid3.coords t) → ¬cond3_1 (grid3.coords t) → (cfg3.win 3).flush t = false := by decide +kernel
/-- At the points of case C the printed configuration (`Cfg.idle`) calls output 3 live: the case stores into it. -/
theorem liveAt3_3_C : ∀ t : Fin cfg3.N, ¬cond3_0 (grid3.coords t) → cond3_1 (grid3.coords t) → cfg3.idle 3 (grid3.coords t) = false := by decide +kernel

/-! ## The kernel body on any staging memrefs: a subtype the run finds -/

/-- One staging buffer of output window 3, through which its contents are stated (`View.read_writes_of_cover`: the
    choice does not matter). -/
abbrev VO3_3 : View sig .tc .vmem S1x1024x5120 .bf16 := (Memref.whole cc3_stg3_0 : Memref sig .tc .vmem S1x1024x5120 .bf16).view
/-- One staging buffer of output window 4, through which its contents are stated (`View.read_writes_of_cover`: the
    choice does not matter). -/
abbrev VO3_4 : View sig .tc .vmem S1x1024x1024 .fp8e5m2 := (Memref.whole cc3_stg4_0 : Memref sig .tc .vmem S1x1024x1024 .fp8e5m2).view
/-- Each window's current staging memref at point `t`, spelled as the pipeline passes it (`bodyAt3`), and its wholeness. -/
abbrev ms3_0 (t : Fin cfg3.N) : Memref sig .tc .smem S1x2 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1x1024x1024 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S5120x1024 .fp8e4m3 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x1024x5120 .bf16 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1x1024x1024 .fp8e5m2 := win3_4.stage (cfg3.slots t 4)
abbrev hs3_4 (t : Fin cfg3.N) : (ms3_4 t).IsWhole := hstage3_4 ((cfg3.slots t 4).cast nbuf3_4)
/-- The scratch operands: whole scoped buffers of the kernel's own, passed beside the windows. -/
abbrev scM3_0 : Memref sig .tc .vmem S1024x5120 .f32 := Memref.whole cc3_scratch0
/-- The scratch `arg7` the kernel carries between points, as a view: what it holds is stated through it. -/
abbrev VS3_0 : View sig .tc .vmem S1024x5120 .f32 := scM3_0.view

/-- The frame kit's invariant with the scratch operands as memrefs owned at some contents (`Gen.scopedRest3_eq`,
    Lib/Memref.lean `owns_whole`): what the body obligation hands the run and takes back. -/
theorem PhiA3_eq (c : Dev nD) :
    (Pipeline.ΦA spec3 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ d, owns (c : Thread nD τ) scM3_0 fullShare d) ∗ (∃ f : Buf (Elt F) ((c : Thread nD τ).loc cc0_stg1_0), ((c : Thread nD τ).loc cc0_stg1_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc2_stg0_0), ((c : Thread nD τ).loc cc2_stg0_0) ↦{fullShare} f)) ∗ (∃ r, prngReg c r)) := by
  unfold Pipeline.ΦA; rw [scopedRest3_eq]; simp only [scM3_0, owns_whole]; try rfl

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0, 35, … 595: 18 of 630), WITH the
    proof that on whole staging memrefs — the inputs' at their contents, the outputs it leaves idle (3: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun3_A (c : Dev nD) (i : grid3.Coords) (arg2 : Memref sig .tc .smem S1x2 .f32) (harg2 : arg2.IsWhole) (arg3 : Memref sig .tc .vmem S1x1024x1024 .bf16) (harg3 : arg3.IsWhole) (arg4 : Memref sig .tc .vmem S5120x1024 .fp8e4m3) (harg4 : arg4.IsWhole) (arg5 : Memref sig .tc .vmem S1x1024x5120 .bf16) (harg5 : arg5.IsWhole) (arg6 : Memref sig .tc .vmem S1x1024x1024 .fp8e5m2) (harg6 : arg6.IsWhole) (arg7 : Memref sig .tc .vmem S1024x5120 .f32) (harg7 : arg7.IsWhole) (hc0 : cond3_0 i) (hc1 : ¬cond3_1 i)
    (x0 : Vec F S1x2 .f32) (x1 : Vec F S1x1024x1024 .bf16) (x2 : Vec F S5120x1024 .fp8e4m3) :
    Σ' (L3 : List (View.Piece (Elt F) S1x1024x5120 .bf16)), Σ' (L4 : List (View.Piece (Elt F) S1x1024x1024 .fp8e5m2)), { LS0 : List (View.Piece (Elt F) S1024x5120 .f32) //
      ∀ (xi3 : Vec F S1x1024x5120 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc3_dgrad_fp8 i arg2 harg2 arg3 harg3 arg4 harg4 arg5 harg5 arg6 harg6 arg7 harg7) K } := by
  refine ⟨[], ?_, ?_, fun xi3 E K => ?run⟩
  case run =>
    simp only [cc3_dgrad_fp8_eq_skeleton]; unfold cc3_dgrad_fp8_skel
    simp only [k3_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

/-- Case A stores nothing into output 3 (the window is idle at its points and not written back there):
    no pieces — a placeholder (junk read back) that nothing consults, since at these points the window is neither
    written back nor read at the next point (Lib/Pipeline.lean "Idle points"). -/
def out3_A_3 (c : Dev nD) (i : grid3.Coords) (arg2 : Memref sig .tc .smem S1x2 .f32) (harg2 : arg2.IsWhole) (arg3 : Memref sig .tc .vmem S1x1024x1024 .bf16) (harg3 : arg3.IsWhole) (arg4 : Memref sig .tc .vmem S5120x1024 .fp8e4m3) (harg4 : arg4.IsWhole) (arg5 : Memref sig .tc .vmem S1x1024x5120 .bf16) (harg5 : arg5.IsWhole) (arg6 : Memref sig .tc .vmem S1x1024x1024 .fp8e5m2) (harg6 : arg6.IsWhole) (arg7 : Memref sig .tc .vmem S1024x5120 .f32) (harg7 : arg7.IsWhole) (hc0 : cond3_0 i) (hc1 : ¬cond3_1 i)
    (x0 : Vec F S1x2 .f32) (x1 : Vec F S1x1024x1024 .bf16) (x2 : Vec F S5120x1024 .fp8e4m3) : Vec F S1x1024x5120 .bf16 :=
  VO3_3.read (Elt F) (VO3_3.writes (Elt F) VO3_3.junk (kernelRun3_A c i arg2 harg2 arg3 harg3 arg4 harg4 arg5 harg5 arg6 harg6 arg7 harg7 hc0 hc1 x0 x1 x2).1)

/-- Case A's pieces for output 4 tile its block (1 store of `S1x1024x1024`, checked by the kernel's evaluation: Lib/Ring.lean `Piece.tiledL`, linear in the pieces, through a loop's `@[irreducible]` trip theorem too), so they cover it. -/
theorem cover3_A_4 (c : Dev nD) (i : grid3.Coords) (arg2 : Memref sig .tc .smem S1x2 .f32) (harg2 : arg2.IsWhole) (arg3 : Memref sig .tc .vmem S1x1024x1024 .bf16) (harg3 : arg3.IsWhole) (arg4 : Memref sig .tc .vmem S5120x1024 .fp8e4m3) (harg4 : arg4.IsWhole) (arg5 : Memref sig .tc .vmem S1x1024x5120 .bf16) (harg5 : arg5.IsWhole) (arg6 : Memref sig .tc .vmem S1x1024x1024 .fp8e5m2) (harg6 : arg6.IsWhole) (arg7 : Memref sig .tc .vmem S1024x5120 .f32) (harg7 : arg7.IsWhole) (hc0 : cond3_0 i) (hc1 : ¬cond3_1 i)
    (x0 : Vec F S1x2 .f32) (x1 : Vec F S1x1024x1024 .bf16) (x2 : Vec F S5120x1024 .fp8e4m3) (y : S1x1024x1024.Idx) :
    ∃ pc ∈ (kernelRun3_A c i arg2 harg2 arg3 harg3 arg4 harg4 arg5 harg5 arg6 harg6 arg7 harg7 hc0 hc1 x0 x1 x2).2.1, y ∈ pc.1.set :=
  View.cover_of_tiledL (kernelRun3_A c i arg2 harg2 arg3 harg3 arg4 harg4 arg5 harg5 arg6 harg6 arg7 harg7 hc0 hc1 x0 x1 x2).2.1 S1x1024x1024.size (by sl_kernel_rfl) y

/-- What case A leaves in output 4's staging buffer: its pieces read back over junk. -/
def out3_A_4 (c : Dev nD) (i : grid3.Coords) (arg2 : Memref sig .tc .smem S1x2 .f32) (harg2 : arg2.IsWhole) (arg3 : Memref sig .tc .vmem S1x1024x1024 .bf16) (harg3 : arg3.IsWhole) (arg4 : Memref sig .tc .vmem S5120x1024 .fp8e4m3) (harg4 : arg4.IsWhole) (arg5 : Memref sig .tc .vmem S1x1024x5120 .bf16) (harg5 : arg5.IsWhole) (arg6 : Memref sig .tc .vmem S1x1024x1024 .fp8e5m2) (harg6 : arg6.IsWhole) (arg7 : Memref sig .tc .vmem S1024x5120 .f32) (harg7 : arg7.IsWhole) (hc0 : cond3_0 i) (hc1 : ¬cond3_1 i)
    (x0 : Vec F S1x2 .f32) (x1 : Vec F S1x1024x1024 .bf16) (x2 : Vec F S5120x1024 .fp8e4m3) : Vec F S1x1024x1024 .fp8e5m2 :=
  VO3_4.read (Elt F) (VO3_4.writes (Elt F) VO3_4.junk (kernelRun3_A c i arg2 harg2 arg3 harg3 arg4 harg4 arg5 harg5 arg6 harg6 arg7 harg7 hc0 hc1 x0 x1 x2).2.1)

/-- Case A's pieces for scratch `arg7`, which the kernel carries between points, cover it: 2 pieces of `S1024x5120` tiling it (Lib/Ring.lean `Piece.tiledL`). -/
theorem scover3_A_0 (c : Dev nD) (i : grid3.Coords) (arg2 : Memref sig .tc .smem S1x2 .f32) (harg2 : arg2.IsWhole) (arg3 : Memref sig .tc .vmem S1x1024x1024 .bf16) (harg3 : arg3.IsWhole) (arg4 : Memref sig .tc .vmem S5120x1024 .fp8e4m3) (harg4 : arg4.IsWhole) (arg5 : Memref sig .tc .vmem S1x1024x5120 .bf16) (harg5 : arg5.IsWhole) (arg6 : Memref sig .tc .vmem S1x1024x1024 .fp8e5m2) (harg6 : arg6.IsWhole) (arg7 : Memref sig .tc .vmem S1024x5120 .f32) (harg7 : arg7.IsWhole) (hc0 : cond3_0 i) (hc1 : ¬cond3_1 i)
    (x0 : Vec F S1x2 .f32) (x1 : Vec F S1x1024x1024 .bf16) (x2 : Vec F S5120x1024 .fp8e4m3) (y : S1024x5120.Idx) :
    ∃ pc ∈ (kernelRun3_A c i arg2 harg2 arg3 harg3 arg4 harg4 arg5 harg5 arg6 harg6 arg7 harg7 hc0 hc1 x0 x1 x2).2.2.1, y ∈ pc.1.set :=
  View.cover_of_tiledL (kernelRun3_A c i arg2 harg2 arg3 harg3 arg4 harg4 arg5 harg5 arg6 harg6 arg7 harg7 hc0 hc1 x0 x1 x2).2.2.1 S1024x5120.size (by sl_kernel_rfl) y

/-- What case A leaves in scratch `arg7`: its pieces read back over junk. -/
def sout3_A_0 (c : Dev nD) (i : grid3.Coords) (arg2 : Memref sig .tc .smem S1x2 .f32) (harg2 : arg2.IsWhole) (arg3 : Memref sig .tc .vmem S1x1024x1024 .bf16) (harg3 : arg3.IsWhole) (arg4 : Memref sig .tc .vmem S5120x1024 .fp8e4m3) (harg4 : arg4.IsWhole) (arg5 : Memref sig .tc .vmem S1x1024x5120 .bf16) (harg5 : arg5.IsWhole) (arg6 : Memref sig .tc .vmem S1x1024x1024 .fp8e5m2) (harg6 : arg6.IsWhole) (arg7 : Memref sig .tc .vmem S1024x5120 .f32) (harg7 : arg7.IsWhole) (hc0 : cond3_0 i) (hc1 : ¬cond3_1 i)
    (x0 : Vec F S1x2 .f32) (x1 : Vec F S1x1024x1024 .bf16) (x2 : Vec F S5120x1024 .fp8e4m3) : Vec F S1024x5120 .f32 :=
  VS3_0.read (Elt F) (VS3_0.writes (Elt F) VS3_0.junk (kernelRun3_A c i arg2 harg2 arg3 harg3 arg4 harg4 arg5 harg5 arg6 harg6 arg7 harg7 hc0 hc1 x0 x1 x2).2.2.1)

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, … 628: 594 of 630), WITH the
    proof that on whole staging memrefs — the inputs' at their contents, the outputs it leaves idle (3: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun3_B (c : Dev nD) (i : grid3.Coords) (arg2 : Memref sig .tc .smem S1x2 .f32) (harg2 : arg2.IsWhole) (arg3 : Memref sig .tc .vmem S1x1024x1024 .bf16) (harg3 : arg3.IsWhole) (arg4 : Memref sig .tc .vmem S5120x1024 .fp8e4m3) (harg4 : arg4.IsWhole) (arg5 : Memref sig .tc .vmem S1x1024x5120 .bf16) (harg5 : arg5.IsWhole) (arg6 : Memref sig .tc .vmem S1x1024x1024 .fp8e5m2) (harg6 : arg6.IsWhole) (arg7 : Memref sig .tc .vmem S1024x5120 .f32) (harg7 : arg7.IsWhole) (hc0 : ¬cond3_0 i) (hc1 : ¬cond3_1 i)
    (x0 : Vec F S1x2 .f32) (x1 : Vec F S1x1024x1024 .bf16) (x2 : Vec F S5120x1024 .fp8e4m3) (xs0 : Vec F S1024x5120 .f32) :
    Σ' (L3 : List (View.Piece (Elt F) S1x1024x5120 .bf16)), Σ' (L4 : List (View.Piece (Elt F) S1x1024x1024 .fp8e5m2)), { LS0 : List (View.Piece (Elt F) S1024x5120 .f32) //
      ∀ (xi3 : Vec F S1x1024x5120 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc3_dgrad_fp8 i arg2 harg2 arg3 harg3 arg4 harg4 arg5 harg5 arg6 harg6 arg7 harg7) K } := by
  refine ⟨[], ?_, ?_, fun xi3 E K => ?run⟩
  case run =>
    simp only [cc3_dgrad_fp8_eq_skeleton]; unfold cc3_dgrad_fp8_skel
    simp only [k3_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

/-- Case B stores nothing into output 3 (the window is idle at its points and not written back there):
    no pieces — a placeholder (junk read back) that nothing consults, since at these points the window is neither
    written back nor read at the next point (Lib/Pipeline.lean "Idle points"). -/
def out3_B_3 (c : Dev nD) (i : grid3.Coords) (arg2 : Memref sig .tc .smem S1x2 .f32) (harg2 : arg2.IsWhole) (arg3 : Memref sig .tc .vmem S1x1024x1024 .bf16) (harg3 : arg3.IsWhole) (arg4 : Memref sig .tc .vmem S5120x1024 .fp8e4m3) (harg4 : arg4.IsWhole) (arg5 : Memref sig .tc .vmem S1x1024x5120 .bf16) (harg5 : arg5.IsWhole) (arg6 : Memref sig .tc .vmem S1x1024x1024 .fp8e5m2) (harg6 : arg6.IsWhole) (arg7 : Memref sig .tc .vmem S1024x5120 .f32) (harg7 : arg7.IsWhole) (hc0 : ¬cond3_0 i) (hc1 : ¬cond3_1 i)
    (x0 : Vec F S1x2 .f32) (x1 : Vec F S1x1024x1024 .bf16) (x2 : Vec F S5120x1024 .fp8e4m3) (xs0 : Vec F S1024x5120 .f32) : Vec F S1x1024x5120 .bf16 :=
  VO3_3.read (Elt F) (VO3_3.writes (Elt F) VO3_3.junk (kernelRun3_B c i arg2 harg2 arg3 harg3 arg4 harg4 arg5 harg5 arg6 harg6 arg7 harg7 hc0 hc1 x0 x1 x2 xs0).1)

/-- Case B's pieces for output 4 tile its block (1 store of `S1x1024x1024`, checked by the kernel's evaluation: Lib/Ring.lean `Piece.tiledL`, linear in the pieces, through a loop's `@[irreducible]` trip theorem too), so they cover it. -/
theorem cover3_B_4 (c : Dev nD) (i : grid3.Coords) (arg2 : Memref sig .tc .smem S1x2 .f32) (harg2 : arg2.IsWhole) (arg3 : Memref sig .tc .vmem S1x1024x1024 .bf16) (harg3 : arg3.IsWhole) (arg4 : Memref sig .tc .vmem S5120x1024 .fp8e4m3) (harg4 : arg4.IsWhole) (arg5 : Memref sig .tc .vmem S1x1024x5120 .bf16) (harg5 : arg5.IsWhole) (arg6 : Memref sig .tc .vmem S1x1024x1024 .fp8e5m2) (harg6 : arg6.IsWhole) (arg7 : Memref sig .tc .vmem S1024x5120 .f32) (harg7 : arg7.IsWhole) (hc0 : ¬cond3_0 i) (hc1 : ¬cond3_1 i)
    (x0 : Vec F S1x2 .f32) (x1 : Vec F S1x1024x1024 .bf16) (x2 : Vec F S5120x1024 .fp8e4m3) (xs0 : Vec F S1024x5120 .f32) (y : S1x1024x1024.Idx) :
    ∃ pc ∈ (kernelRun3_B c i arg2 harg2 arg3 harg3 arg4 harg4 arg5 harg5 arg6 harg6 arg7 harg7 hc0 hc1 x0 x1 x2 xs0).2.1, y ∈ pc.1.set :=
  View.cover_of_tiledL (kernelRun3_B c i arg2 harg2 arg3 harg3 arg4 harg4 arg5 harg5 arg6 harg6 arg7 harg7 hc0 hc1 x0 x1 x2 xs0).2.1 S1x1024x1024.size (by sl_kernel_rfl) y

/-- What case B leaves in output 4's staging buffer: its pieces read back over junk. -/
def out3_B_4 (c : Dev nD) (i : grid3.Coords) (arg2 : Memref sig .tc .smem S1x2 .f32) (harg2 : arg2.IsWhole) (arg3 : Memref sig .tc .vmem S1x1024x1024 .bf16) (harg3 : arg3.IsWhole) (arg4 : Memref sig .tc .vmem S5120x1024 .fp8e4m3) (harg4 : arg4.IsWhole) (arg5 : Memref sig .tc .vmem S1x1024x5120 .bf16) (harg5 : arg5.IsWhole) (arg6 : Memref sig .tc .vmem S1x1024x1024 .fp8e5m2) (harg6 : arg6.IsWhole) (arg7 : Memref sig .tc .vmem S1024x5120 .f32) (harg7 : arg7.IsWhole) (hc0 : ¬cond3_0 i) (hc1 : ¬cond3_1 i)
    (x0 : Vec F S1x2 .f32) (x1 : Vec F S1x1024x1024 .bf16) (x2 : Vec F S5120x1024 .fp8e4m3) (xs0 : Vec F S1024x5120 .f32) : Vec F S1x1024x1024 .fp8e5m2 :=
  VO3_4.read (Elt F) (VO3_4.writes (Elt F) VO3_4.junk (kernelRun3_B c i arg2 harg2 arg3 harg3 arg4 harg4 arg5 harg5 arg6 harg6 arg7 harg7 hc0 hc1 x0 x1 x2 xs0).2.1)

/-- Case B's pieces for scratch `arg7`, which the kernel carries between points, cover it: 1 piece of `S1024x5120` tiling it (Lib/Ring.lean `Piece.tiledL`). -/
theorem scover3_B_0 (c : Dev nD) (i : grid3.Coords) (arg2 : Memref sig .tc .smem S1x2 .f32) (harg2 : arg2.IsWhole) (arg3 : Memref sig .tc .vmem S1x1024x1024 .bf16) (harg3 : arg3.IsWhole) (arg4 : Memref sig .tc .vmem S5120x1024 .fp8e4m3) (harg4 : arg4.IsWhole) (arg5 : Memref sig .tc .vmem S1x1024x5120 .bf16) (harg5 : arg5.IsWhole) (arg6 : Memref sig .tc .vmem S1x1024x1024 .fp8e5m2) (harg6 : arg6.IsWhole) (arg7 : Memref sig .tc .vmem S1024x5120 .f32) (harg7 : arg7.IsWhole) (hc0 : ¬cond3_0 i) (hc1 : ¬cond3_1 i)
    (x0 : Vec F S1x2 .f32) (x1 : Vec F S1x1024x1024 .bf16) (x2 : Vec F S5120x1024 .fp8e4m3) (xs0 : Vec F S1024x5120 .f32) (y : S1024x5120.Idx) :
    ∃ pc ∈ (kernelRun3_B c i arg2 harg2 arg3 harg3 arg4 harg4 arg5 harg5 arg6 harg6 arg7 harg7 hc0 hc1 x0 x1 x2 xs0).2.2.1, y ∈ pc.1.set :=
  View.cover_of_tiledL (kernelRun3_B c i arg2 harg2 arg3 harg3 arg4 harg4 arg5 harg5 arg6 harg6 arg7 harg7 hc0 hc1 x0 x1 x2 xs0).2.2.1 S1024x5120.size (by sl_kernel_rfl) y

/-- What case B leaves in scratch `arg7`: its pieces read back over junk. -/
def sout3_B_0 (c : Dev nD) (i : grid3.Coords) (arg2 : Memref sig .tc .smem S1x2 .f32) (harg2 : arg2.IsWhole) (arg3 : Memref sig .tc .vmem S1x1024x1024 .bf16) (harg3 : arg3.IsWhole) (arg4 : Memref sig .tc .vmem S5120x1024 .fp8e4m3) (harg4 : arg4.IsWhole) (arg5 : Memref sig .tc .vmem S1x1024x5120 .bf16) (harg5 : arg5.IsWhole) (arg6 : Memref sig .tc .vmem S1x1024x1024 .fp8e5m2) (harg6 : arg6.IsWhole) (arg7 : Memref sig .tc .vmem S1024x5120 .f32) (harg7 : arg7.IsWhole) (hc0 : ¬cond3_0 i) (hc1 : ¬cond3_1 i)
    (x0 : Vec F S1x2 .f32) (x1 : Vec F S1x1024x1024 .bf16) (x2 : Vec F S5120x1024 .fp8e4m3) (xs0 : Vec F S1024x5120 .f32) : Vec F S1024x5120 .f32 :=
  VS3_0.read (Elt F) (VS3_0.writes (Elt F) VS3_0.junk (kernelRun3_B c i arg2 harg2 arg3 harg3 arg4 harg4 arg5 harg5 arg6 harg6 arg7 harg7 hc0 hc1 x0 x1 x2 xs0).2.2.1)

-- (the run's proof term is large: the definition's epilogue — `abstractNestedProofs` — walks it past the default budget)
set_option maxHeartbeats 1000000 in
/-- What the body's stores leave in each output's staging memref, as pieces (last first) IN CASE C (`scf.if` 0 not taken, `scf.if` 1 taken: points 34, 69, … 629: 18 of 630), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun3_C (c : Dev nD) (i : grid3.Coords) (arg2 : Memref sig .tc .smem S1x2 .f32) (harg2 : arg2.IsWhole) (arg3 : Memref sig .tc .vmem S1x1024x1024 .bf16) (harg3 : arg3.IsWhole) (arg4 : Memref sig .tc .vmem S5120x1024 .fp8e4m3) (harg4 : arg4.IsWhole) (arg5 : Memref sig .tc .vmem S1x1024x5120 .bf16) (harg5 : arg5.IsWhole) (arg6 : Memref sig .tc .vmem S1x1024x1024 .fp8e5m2) (harg6 : arg6.IsWhole) (arg7 : Memref sig .tc .vmem S1024x5120 .f32) (harg7 : arg7.IsWhole) (hc0 : ¬cond3_0 i) (hc1 : cond3_1 i)
    (x0 : Vec F S1x2 .f32) (x1 : Vec F S1x1024x1024 .bf16) (x2 : Vec F S5120x1024 .fp8e4m3) (xs0 : Vec F S1024x5120 .f32) :
    Σ' (L3 : List (View.Piece (Elt F) S1x1024x5120 .bf16)), Σ' (L4 : List (View.Piece (Elt F) S1x1024x1024 .fp8e5m2)), { LS0 : List (View.Piece (Elt F) S1024x5120 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc3_dgrad_fp8 i arg2 harg2 arg3 harg3 arg4 harg4 arg5 harg5 arg6 harg6 arg7 harg7) K } := by
  refine ⟨?_, ?_, ?_, fun E K => ?run⟩
  case run =>
    simp only [cc3_dgrad_fp8_eq_skeleton]; unfold cc3_dgrad_fp8_skel
    simp only [k3_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg7.eq_unread hfs0
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    iexists _; iexact HS0

/-- Case C's pieces for output 3 tile its block (1 store of `S1x1024x5120`, checked by the kernel's evaluation: Lib/Ring.lean `Piece.tiledL`, linear in the pieces, through a loop's `@[irreducible]` trip theorem too), so they cover it. -/
theorem cover3_C_3 (c : Dev nD) (i : grid3.Coords) (arg2 : Memref sig .tc .smem S1x2 .f32) (harg2 : arg2.IsWhole) (arg3 : Memref sig .tc .vmem S1x1024x1024 .bf16) (harg3 : arg3.IsWhole) (arg4 : Memref sig .tc .vmem S5120x1024 .fp8e4m3) (harg4 : arg4.IsWhole) (arg5 : Memref sig .tc .vmem S1x1024x5120 .bf16) (harg5 : arg5.IsWhole) (arg6 : Memref sig .tc .vmem S1x1024x1024 .fp8e5m2) (harg6 : arg6.IsWhole) (arg7 : Memref sig .tc .vmem S1024x5120 .f32) (harg7 : arg7.IsWhole) (hc0 : ¬cond3_0 i) (hc1 : cond3_1 i)
    (x0 : Vec F S1x2 .f32) (x1 : Vec F S1x1024x1024 .bf16) (x2 : Vec F S5120x1024 .fp8e4m3) (xs0 : Vec F S1024x5120 .f32) (y : S1x1024x5120.Idx) :
    ∃ pc ∈ (kernelRun3_C c i arg2 harg2 arg3 harg3 arg4 harg4 arg5 harg5 arg6 harg6 arg7 harg7 hc0 hc1 x0 x1 x2 xs0).1, y ∈ pc.1.set :=
  View.cover_of_tiledL (kernelRun3_C c i arg2 harg2 arg3 harg3 arg4 harg4 arg5 harg5 arg6 harg6 arg7 harg7 hc0 hc1 x0 x1 x2 xs0).1 S1x1024x5120.size (by sl_kernel_rfl) y

/-- What case C leaves in output 3's staging buffer: its pieces read back over junk. -/
def out3_C_3 (c : Dev nD) (i : grid3.Coords) (arg2 : Memref sig .tc .smem S1x2 .f32) (harg2 : arg2.IsWhole) (arg3 : Memref sig .tc .vmem S1x1024x1024 .bf16) (harg3 : arg3.IsWhole) (arg4 : Memref sig .tc .vmem S5120x1024 .fp8e4m3) (harg4 : arg4.IsWhole) (arg5 : Memref sig .tc .vmem S1x1024x5120 .bf16) (harg5 : arg5.IsWhole) (arg6 : Memref sig .tc .vmem S1x1024x1024 .fp8e5m2) (harg6 : arg6.IsWhole) (arg7 : Memref sig .tc .vmem S1024x5120 .f32) (harg7 : arg7.IsWhole) (hc0 : ¬cond3_0 i) (hc1 : cond3_1 i)
    (x0 : Vec F S1x2 .f32) (x1 : Vec F S1x1024x1024 .bf16) (x2 : Vec F S5120x1024 .fp8e4m3) (xs0 : Vec F S1024x5120 .f32) : Vec F S1x1024x5120 .bf16 :=
  VO3_3.read (Elt F) (VO3_3.writes (Elt F) VO3_3.junk (kernelRun3_C c i arg2 harg2 arg3 harg3 arg4 harg4 arg5 harg5 arg6 harg6 arg7 harg7 hc0 hc1 x0 x1 x2 xs0).1)

/-- Case C's pieces for output 4 tile its block (1 store of `S1x1024x1024`, checked by the kernel's evaluation: Lib/Ring.lean `Piece.tiledL`, linear in the pieces, through a loop's `@[irreducible]` trip theorem too), so they cover it. -/
theorem cover3_C_4 (c : Dev nD) (i : grid3.Coords) (arg2 : Memref sig .tc .smem S1x2 .f32) (harg2 : arg2.IsWhole) (arg3 : Memref sig .tc .vmem S1x1024x1024 .bf16) (harg3 : arg3.IsWhole) (arg4 : Memref sig .tc .vmem S5120x1024 .fp8e4m3) (harg4 : arg4.IsWhole) (arg5 : Memref sig .tc .vmem S1x1024x5120 .bf16) (harg5 : arg5.IsWhole) (arg6 : Memref sig .tc .vmem S1x1024x1024 .fp8e5m2) (harg6 : arg6.IsWhole) (arg7 : Memref sig .tc .vmem S1024x5120 .f32) (harg7 : arg7.IsWhole) (hc0 : ¬cond3_0 i) (hc1 : cond3_1 i)
    (x0 : Vec F S1x2 .f32) (x1 : Vec F S1x1024x1024 .bf16) (x2 : Vec F S5120x1024 .fp8e4m3) (xs0 : Vec F S1024x5120 .f32) (y : S1x1024x1024.Idx) :
    ∃ pc ∈ (kernelRun3_C c i arg2 harg2 arg3 harg3 arg4 harg4 arg5 harg5 arg6 harg6 arg7 harg7 hc0 hc1 x0 x1 x2 xs0).2.1, y ∈ pc.1.set :=
  View.cover_of_tiledL (kernelRun3_C c i arg2 harg2 arg3 harg3 arg4 harg4 arg5 harg5 arg6 harg6 arg7 harg7 hc0 hc1 x0 x1 x2 xs0).2.1 S1x1024x1024.size (by sl_kernel_rfl) y

/-- What case C leaves in output 4's staging buffer: its pieces read back over junk. -/
def out3_C_4 (c : Dev nD) (i : grid3.Coords) (arg2 : Memref sig .tc .smem S1x2 .f32) (harg2 : arg2.IsWhole) (arg3 : Memref sig .tc .vmem S1x1024x1024 .bf16) (harg3 : arg3.IsWhole) (arg4 : Memref sig .tc .vmem S5120x1024 .fp8e4m3) (harg4 : arg4.IsWhole) (arg5 : Memref sig .tc .vmem S1x1024x5120 .bf16) (harg5 : arg5.IsWhole) (arg6 : Memref sig .tc .vmem S1x1024x1024 .fp8e5m2) (harg6 : arg6.IsWhole) (arg7 : Memref sig .tc .vmem S1024x5120 .f32) (harg7 : arg7.IsWhole) (hc0 : ¬cond3_0 i) (hc1 : cond3_1 i)
    (x0 : Vec F S1x2 .f32) (x1 : Vec F S1x1024x1024 .bf16) (x2 : Vec F S5120x1024 .fp8e4m3) (xs0 : Vec F S1024x5120 .f32) : Vec F S1x1024x1024 .fp8e5m2 :=
  VO3_4.read (Elt F) (VO3_4.writes (Elt F) VO3_4.junk (kernelRun3_C c i arg2 harg2 arg3 harg3 arg4 harg4 arg5 harg5 arg6 harg6 arg7 harg7 hc0 hc1 x0 x1 x2 xs0).2.1)

/-- Case C's pieces for scratch `arg7`, which the kernel carries between points, cover it: 1 piece of `S1024x5120` tiling it (Lib/Ring.lean `Piece.tiledL`). -/
theorem scover3_C_0 (c : Dev nD) (i : grid3.Coords) (arg2 : Memref sig .tc .smem S1x2 .f32) (harg2 : arg2.IsWhole) (arg3 : Memref sig .tc .vmem S1x1024x1024 .bf16) (harg3 : arg3.IsWhole) (arg4 : Memref sig .tc .vmem S5120x1024 .fp8e4m3) (harg4 : arg4.IsWhole) (arg5 : Memref sig .tc .vmem S1x1024x5120 .bf16) (harg5 : arg5.IsWhole) (arg6 : Memref sig .tc .vmem S1x1024x1024 .fp8e5m2) (harg6 : arg6.IsWhole) (arg7 : Memref sig .tc .vmem S1024x5120 .f32) (harg7 : arg7.IsWhole) (hc0 : ¬cond3_0 i) (hc1 : cond3_1 i)
    (x0 : Vec F S1x2 .f32) (x1 : Vec F S1x1024x1024 .bf16) (x2 : Vec F S5120x1024 .fp8e4m3) (xs0 : Vec F S1024x5120 .f32) (y : S1024x5120.Idx) :
    ∃ pc ∈ (kernelRun3_C c i arg2 harg2 arg3 harg3 arg4 harg4 arg5 harg5 arg6 harg6 arg7 harg7 hc0 hc1 x0 x1 x2 xs0).2.2.1, y ∈ pc.1.set :=
  View.cover_of_tiledL (kernelRun3_C c i arg2 harg2 arg3 harg3 arg4 harg4 arg5 harg5 arg6 harg6 arg7 harg7 hc0 hc1 x0 x1 x2 xs0).2.2.1 S1024x5120.size (by sl_kernel_rfl) y

/-- What case C leaves in scratch `arg7`: its pieces read back over junk. -/
def sout3_C_0 (c : Dev nD) (i : grid3.Coords) (arg2 : Memref sig .tc .smem S1x2 .f32) (harg2 : arg2.IsWhole) (arg3 : Memref sig .tc .vmem S1x1024x1024 .bf16) (harg3 : arg3.IsWhole) (arg4 : Memref sig .tc .vmem S5120x1024 .fp8e4m3) (harg4 : arg4.IsWhole) (arg5 : Memref sig .tc .vmem S1x1024x5120 .bf16) (harg5 : arg5.IsWhole) (arg6 : Memref sig .tc .vmem S1x1024x1024 .fp8e5m2) (harg6 : arg6.IsWhole) (arg7 : Memref sig .tc .vmem S1024x5120 .f32) (harg7 : arg7.IsWhole) (hc0 : ¬cond3_0 i) (hc1 : cond3_1 i)
    (x0 : Vec F S1x2 .f32) (x1 : Vec F S1x1024x1024 .bf16) (x2 : Vec F S5120x1024 .fp8e4m3) (xs0 : Vec F S1024x5120 .f32) : Vec F S1024x5120 .f32 :=
  VS3_0.read (Elt F) (VS3_0.writes (Elt F) VS3_0.junk (kernelRun3_C c i arg2 harg2 arg3 harg3 arg4 harg4 arg5 harg5 arg6 harg6 arg7 harg7 hc0 hc1 x0 x1 x2 xs0).2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before3_W_κ`). An assignment of the conditions no point meets is no case (`False.elim`). -/
def outsAt3 (c : Dev nD) : (n : ℕ) → n < cfg3.N → Vec F S1x1024x5120 .bf16 × Vec F S1x1024x1024 .fp8e5m2 × Vec F S1024x5120 .f32
  | 0, hn => (out3_A_3 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩), out3_A_4 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩), sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩))
  | n + 1, hn =>
    if h0 : (n + 1) % 35 = 0 then
      if h1 : (n + 1) % 35 = 34 then
        False.elim (by have hN : n + 1 < 630 := lt_of_lt_of_eq hn (show cfg3.N = 630 from N_3); omega)
      else
        (out3_A_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩), out3_A_4 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩), sout3_A_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩))
    else
      if h1 : (n + 1) % 35 = 34 then
        (out3_C_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2.2, out3_C_4 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2.2, sout3_C_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2.2)
      else
        (out3_B_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2.2, out3_B_4 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2.2, sout3_B_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2.2)

/-- `outsAt3` at a point of case A: that case's contents. -/
theorem outsAt3_A (c : Dev nD) (t : Fin cfg3.N) (h0 : t.val % 35 = 0) (h1 : ¬t.val % 35 = 34) :
    outsAt3 V c t.val t.isLt = (out3_A_3 c (grid3.coords t) (ms3_0 t) (hs3_0 t) (ms3_1 t) (hs3_1 t) (ms3_2 t) (hs3_2 t) (ms3_3 t) (hs3_3 t) (ms3_4 t) (hs3_4 t) scM3_0 (Memref.isWhole_whole _) ((hcond3_0 t).mpr h0) (fun h => h1 ((hcond3_1 t).mp h)) (iblk3 V c 0 t) (iblk3 V c 1 t) (iblk3 V c 2 t), out3_A_4 c (grid3.coords t) (ms3_0 t) (hs3_0 t) (ms3_1 t) (hs3_1 t) (ms3_2 t) (hs3_2 t) (ms3_3 t) (hs3_3 t) (ms3_4 t) (hs3_4 t) scM3_0 (Memref.isWhole_whole _) ((hcond3_0 t).mpr h0) (fun h => h1 ((hcond3_1 t).mp h)) (iblk3 V c 0 t) (iblk3 V c 1 t) (iblk3 V c 2 t), sout3_A_0 c (grid3.coords t) (ms3_0 t) (hs3_0 t) (ms3_1 t) (hs3_1 t) (ms3_2 t) (hs3_2 t) (ms3_3 t) (hs3_3 t) (ms3_4 t) (hs3_4 t) scM3_0 (Memref.isWhole_whole _) ((hcond3_0 t).mpr h0) (fun h => h1 ((hcond3_1 t).mp h)) (iblk3 V c 0 t) (iblk3 V c 1 t) (iblk3 V c 2 t)) := by
  obtain ⟨n, hn⟩ := t
  cases n with
  | zero => exact rfl
  | succ n => exact (dif_pos h0).trans ((dif_neg h1).trans rfl)

/-- `outsAt3` at a point of case B: that case's contents, over what the point before left. -/
theorem outsAt3_B (c : Dev nD) (t : Fin cfg3.N) (h0 : ¬t.val % 35 = 0) (h1 : ¬t.val % 35 = 34) :
    outsAt3 V c t.val t.isLt = (out3_B_3 c (grid3.coords t) (ms3_0 t) (hs3_0 t) (ms3_1 t) (hs3_1 t) (ms3_2 t) (hs3_2 t) (ms3_3 t) (hs3_3 t) (ms3_4 t) (hs3_4 t) scM3_0 (Memref.isWhole_whole _) (fun h => h0 ((hcond3_0 t).mp h)) (fun h => h1 ((hcond3_1 t).mp h)) (iblk3 V c 0 t) (iblk3 V c 1 t) (iblk3 V c 2 t) (outsAt3 V c (t.val - 1) (Nat.lt_of_le_of_lt (Nat.sub_le _ _) t.isLt)).2.2, out3_B_4 c (grid3.coords t) (ms3_0 t) (hs3_0 t) (ms3_1 t) (hs3_1 t) (ms3_2 t) (hs3_2 t) (ms3_3 t) (hs3_3 t) (ms3_4 t) (hs3_4 t) scM3_0 (Memref.isWhole_whole _) (fun h => h0 ((hcond3_0 t).mp h)) (fun h => h1 ((hcond3_1 t).mp h)) (iblk3 V c 0 t) (iblk3 V c 1 t) (iblk3 V c 2 t) (outsAt3 V c (t.val - 1) (Nat.lt_of_le_of_lt (Nat.sub_le _ _) t.isLt)).2.2, sout3_B_0 c (grid3.coords t) (ms3_0 t) (hs3_0 t) (ms3_1 t) (hs3_1 t) (ms3_2 t) (hs3_2 t) (ms3_3 t) (hs3_3 t) (ms3_4 t) (hs3_4 t) scM3_0 (Memref.isWhole_whole _) (fun h => h0 ((hcond3_0 t).mp h)) (fun h => h1 ((hcond3_1 t).mp h)) (iblk3 V c 0 t) (iblk3 V c 1 t) (iblk3 V c 2 t) (outsAt3 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt3` at a point of case C: that case's contents, over what the point before left. -/
theorem outsAt3_C (c : Dev nD) (t : Fin cfg3.N) (h0 : ¬t.val % 35 = 0) (h1 : t.val % 35 = 34) :
    outsAt3 V c t.val t.isLt = (out3_C_3 c (grid3.coords t) (ms3_0 t) (hs3_0 t) (ms3_1 t) (hs3_1 t) (ms3_2 t) (hs3_2 t) (ms3_3 t) (hs3_3 t) (ms3_4 t) (hs3_4 t) scM3_0 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2.2, out3_C_4 c (grid3.coords t) (ms3_0 t) (hs3_0 t) (ms3_1 t) (hs3_1 t) (ms3_2 t) (hs3_2 t) (ms3_3 t) (hs3_3 t) (ms3_4 t) (hs3_4 t) scM3_0 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2.2, sout3_C_0 c (grid3.coords t) (ms3_0 t) (hs3_0 t) (ms3_1 t) (hs3_1 t) (ms3_2 t) (hs3_2 t) (ms3_3 t) (hs3_3 t) (ms3_4 t) (hs3_4 t) scM3_0 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt3`'s scratch components), the others at anything, and the generator register
    at some state. -/
def PhiS3 (c : Dev nD) : (n : ℕ) → n ≤ cfg3.N → sProp 𝕄
  | 0, _ => Pipeline.ΦA spec3 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ owns (c : Thread nD τ) scM3_0 fullShare ((outsAt3 V c n hn).2.2) ∗ (∃ f : Buf (Elt F) ((c : Thread nD τ).loc cc0_stg1_0), ((c : Thread nD τ).loc cc0_stg1_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc2_stg0_0), ((c : Thread nD τ).loc cc2_stg0_0) ↦{fullShare} f)) ∗ (∃ r, prngReg c r))

theorem PhiS3_zero (c : Dev nD) (n : ℕ) (h : n ≤ cfg3.N) (hz : n = 0) : PhiS3 V c n h = Pipeline.ΦA spec3 c := by
  subst hz; rfl

/-- After point `n` (before point `n + 1`): the carried scratch at that point's contents. -/
theorem PhiS3_succ (c : Dev nD) (n : ℕ) (hn : n < cfg3.N) :
    PhiS3 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ owns (c : Thread nD τ) scM3_0 fullShare ((outsAt3 V c n hn).2.2) ∗ (∃ f : Buf (Elt F) ((c : Thread nD τ).loc cc0_stg1_0), ((c : Thread nD τ).loc cc0_stg1_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc2_stg0_0), ((c : Thread nD τ).loc cc2_stg0_0) ↦{fullShare} f)) ∗ (∃ r, prngReg c r)) := rfl

/-- Before a point that is not the first: the carried scratch at what the point before left. -/
theorem PhiS3_pos (c : Dev nD) (n : ℕ) (h : n ≤ cfg3.N) (hz : n ≠ 0) :
    PhiS3 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ owns (c : Thread nD τ) scM3_0 fullShare ((outsAt3 V c (n - 1) (by omega)).2.2) ∗ (∃ f : Buf (Elt F) ((c : Thread nD τ).loc cc0_stg1_0), ((c : Thread nD τ).loc cc0_stg1_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc2_stg0_0), ((c : Thread nD τ).loc cc2_stg0_0) ↦{fullShare} f)) ∗ (∃ r, prngReg c r)) := by
  cases n with
  | zero => exact absurd rfl hz
  | succ n => rfl

/-! ## The pipeline's proof data -/

/-- The proof data of pipeline 3 on core `c`: the arrays as the region finds them (`V`); after the body at
    point `t` each input's buffer at its block and the outputs' at `outsAt3`; the invariant the class's
    (`PhiS3`: the class's `ΦA` before the first point, then the scoped rest with the carried scratch at `outsAt3`'s component);
    nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
    | ⟨4, _⟩ => (outsAt3 V c t.val t.isLt).2.1
  Φ t := PhiS3 V c t.val (Nat.le_of_lt_succ t.isLt)
  q _ := fullShare
  owed _ := 0

/-- The proof data's arrays are the region-entry contents, by projecting the definition (`dsimp`): a region record cites
    this for its arrays rather than have Lean unfold `V`, the fold through @main up to the region's entry. -/
theorem A_eq3 (c : Dev nD) (w : Fin cfg3.W) : (dat3 V c).A w = V c (Pipeline.arrRef spec3 w) := by
  dsimp only [dat3]

/-- The invariant at a point's start (the proof data at `t.castSucc`), restated at `t.val`. -/
theorem PhiS3_castSucc (c : Dev nD) (t : Fin cfg3.N) :
    (dat3 V c).Φ t.castSucc = PhiS3 V c t.val (Nat.le_of_lt t.isLt) := by
  dsimp only [dat3]; exact Pipeline.Dat.Φ_castSucc (PhiS3 V c) t

/-- What the body leaves, window by window (the proof data's `match` reduced by `dsimp`). -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t.val t.isLt).1 := by dsimp only [dat3]
theorem after3_4 (c : Dev nD) (t : Fin cfg3.N) : (dat3 V c).after 4 t = (outsAt3 V c t.val t.isLt).2.1 := by dsimp only [dat3]

/-- Each input's current staging buffer holds its block at every point, fetched there or not (`beforeK_W_of`). -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t` (Lib/Pipeline.lean `BodyObligation`'s precondition, the windows one by one), -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t)

set_option maxHeartbeats 4800000 in
/-- The body at any point: the inputs' memrefs hold their blocks (`before3_W`); the closed forms say which case the point is in (`by_cases`), an output the case reads before covering holds what the point before left (`before3_W_κ`); so the
    run applies; the invariant hands the body the carried scratch at what the point before left (`PhiS3_pos`; at anything at the first point, `PhiS3_zero`), the other scratch buffers and the generator register at some state, and takes the carried scratch back at this point's contents (`PhiS3_succ`, by `scoverK_κ_N`); the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  have hN : t.val < 630 := lt_of_lt_of_eq t.isLt (show cfg3.N = 630 from N_3)
  by_cases h0 : t.val % 35 = 0
  · by_cases h1 : t.val % 35 = 34
    · exfalso; omega
    · rw [show (dat3 V c).leavesExact 0 t = owns (c : Thread nD τ) (ms3_0 t) fullShare ((dat3 V c).after 0 t) from by
      unfold Dat.leavesExact; rw [liveAt3_0 t], after3_0]
      rw [show (dat3 V c).leavesExact 1 t = owns (c : Thread nD τ) (ms3_1 t) fullShare ((dat3 V c).after 1 t) from by
      unfold Dat.leavesExact; rw [liveAt3_1 t], after3_1]
      rw [show (dat3 V c).leavesExact 2 t = owns (c : Thread nD τ) (ms3_2 t) fullShare ((dat3 V c).after 2 t) from by
      unfold Dat.leavesExact; rw [liveAt3_2 t], after3_2]
      rw [Dat.leavesExact_idle (dat3 V c) 3 t (idleAt3_3_A t ((hcond3_0 t).mpr h0) (fun h => h1 ((hcond3_1 t).mp h))) (noFlush3_3_A t ((hcond3_0 t).mpr h0) (fun h => h1 ((hcond3_1 t).mp h)))]
      rw [show (dat3 V c).leavesExact 4 t = owns (c : Thread nD τ) (ms3_4 t) fullShare ((dat3 V c).after 4 t) from by
      unfold Dat.leavesExact; rw [liveAt3_4 t], after3_4]
      by_cases hz : t.val = 0
      · rw [PhiS3_castSucc V c t, PhiS3_zero V c _ _ hz, PhiA3_eq]
        rw [outsAt3_A V c t h0 h1]
        unfold out3_A_4 sout3_A_0; (try dsimp only)
        iintro ⟨⟨⟨HR0, HR1, HR2, HR3, HR4, HR5, HR6, HR7, HR8, HR9, HS0, HR11, HR12, HR13⟩, Hg⟩, Ho, ⟨%d0, H0⟩, ⟨%d1, H1⟩, ⟨%d2, H2⟩, ⟨%d3, H3⟩, ⟨%d4, H4⟩⟩
        iapply ((kernelRun3_A c (grid3.coords t) _ _ _ _ _ _ _ _ _ _ _ _ ((hcond3_0 t).mpr h0) (fun h => h1 ((hcond3_1 t).mp h)) (iblk3 V c 0 t) (iblk3 V c 1 t) (iblk3 V c 2 t)).2.2.2 _ Set.univ _)
        isplitl [H0]; · iexact H0
        isplitl [H1]; · iexact H1
        isplitl [H2]; · iexact H2
        isplitl [H3]; · iexact H3
        isplitl [H4]; · iexists _; iexact H4
        isplitl [HS0]; · iexact HS0
        iintro ⟨H0, H1, H2, H3, ⟨%e4, H4⟩, ⟨%es0, HS0⟩⟩
        isplitl [HR0 HR1 HR2 HR3 HR4 HR5 HR6 HR7 HR8 HR9 HS0 HR11 HR12 HR13 Hg]
        · isplitl [HR0 HR1 HR2 HR3 HR4 HR5 HR6 HR7 HR8 HR9 HS0 HR11 HR12 HR13]
          · isplitl [HR0]
            · iexact HR0
            isplitl [HR1]
            · iexact HR1
            isplitl [HR2]
            · iexact HR2
            isplitl [HR3]
            · iexact HR3
            isplitl [HR4]
            · iexact HR4
            isplitl [HR5]
            · iexact HR5
            isplitl [HR6]
            · iexact HR6
            isplitl [HR7]
            · iexact HR7
            isplitl [HR8]
            · iexact HR8
            isplitl [HR9]
            · iexact HR9
            isplitl [HS0]
            · unfold owns; iexists _; isplitr
              swap; · iexact HS0
              ipureintro; exact View.read_writes_of_cover _ _ _ _ _ (scover3_A_0 c _ _ _ _ _ _ _ _ _ _ _ _ _ _ _ _ _ _)
            isplitl [HR11]
            · iexact HR11
            isplitl [HR12]
            · iexact HR12
            iexact HR13
          iexact Hg
        isplitl [Ho]; · iexact Ho
        isplitl [H0]; · iexact H0
        isplitl [H1]; · iexact H1
        isplitl [H2]; · iexact H2
        isplitl [H3]; · iexists _; iexact H3
        unfold owns; iexists _; isplitr
        swap; · iexact H4
        ipureintro; exact View.read_writes_of_cover _ _ _ _ _ (cover3_A_4 c _ _ _ _ _ _ _ _ _ _ _ _ _ _ _ _ _ _)
      · rw [PhiS3_castSucc V c t, PhiS3_pos V c _ _ hz]
        rw [outsAt3_A V c t h0 h1]
        unfold out3_A_4 sout3_A_0; (try dsimp only)
        iintro ⟨⟨⟨HR0, HR1, HR2, HR3, HR4, HR5, HR6, HR7, HR8, HR9, HS0, HR11, HR12, HR13⟩, Hg⟩, Ho, ⟨%d0, H0⟩, ⟨%d1, H1⟩, ⟨%d2, H2⟩, ⟨%d3, H3⟩, ⟨%d4, H4⟩⟩
        iapply ((kernelRun3_A c (grid3.coords t) _ _ _ _ _ _ _ _ _ _ _ _ ((hcond3_0 t).mpr h0) (fun h => h1 ((hcond3_1 t).mp h)) (iblk3 V c 0 t) (iblk3 V c 1 t) (iblk3 V c 2 t)).2.2.2 _ Set.univ _)
        isplitl [H0]; · iexact H0
        isplitl [H1]; · iexact H1
        isplitl [H2]; · iexact H2
        isplitl [H3]; · iexact H3
        isplitl [H4]; · iexists _; iexact H4
        isplitl [HS0]; · iexists _; iexact HS0
        iintro ⟨H0, H1, H2, H3, ⟨%e4, H4⟩, ⟨%es0, HS0⟩⟩
        isplitl [HR0 HR1 HR2 HR3 HR4 HR5 HR6 HR7 HR8 HR9 HS0 HR11 HR12 HR13 Hg]
        · isplitl [HR0 HR1 HR2 HR3 HR4 HR5 HR6 HR7 HR8 HR9 HS0 HR11 HR12 HR13]
          · isplitl [HR0]
            · iexact HR0
            isplitl [HR1]
            · iexact HR1
            isplitl [HR2]
            · iexact HR2
            isplitl [HR3]
            · iexact HR3
            isplitl [HR4]
            · iexact HR4
            isplitl [HR5]
            · iexact HR5
            isplitl [HR6]
            · iexact HR6
            isplitl [HR7]
            · iexact HR7
            isplitl [HR8]
            · iexact HR8
            isplitl [HR9]
            · iexact HR9
            isplitl [HS0]
            · unfold owns; iexists _; isplitr
              swap; · iexact HS0
              ipureintro; exact View.read_writes_of_cover _ _ _ _ _ (scover3_A_0 c _ _ _ _ _ _ _ _ _ _ _ _ _ _ _ _ _ _)
            isplitl [HR11]
            · iexact HR11
            isplitl [HR12]
            · iexact HR12
            iexact HR13
          iexact Hg
        isplitl [Ho]; · iexact Ho
        isplitl [H0]; · iexact H0
        isplitl [H1]; · iexact H1
        isplitl [H2]; · iexact H2
        isplitl [H3]; · iexists _; iexact H3
        unfold owns; iexists _; isplitr
        swap; · iexact H4
        ipureintro; exact View.read_writes_of_cover _ _ _ _ _ (cover3_A_4 c _ _ _ _ _ _ _ _ _ _ _ _ _ _ _ _ _ _)
  · by_cases h1 : t.val % 35 = 34
    · rw [show (dat3 V c).leavesExact 0 t = owns (c : Thread nD τ) (ms3_0 t) fullShare ((dat3 V c).after 0 t) from by
      unfold Dat.leavesExact; rw [liveAt3_0 t], after3_0]
      rw [show (dat3 V c).leavesExact 1 t = owns (c : Thread nD τ) (ms3_1 t) fullShare ((dat3 V c).after 1 t) from by
      unfold Dat.leavesExact; rw [liveAt3_1 t], after3_1]
      rw [show (dat3 V c).leavesExact 2 t = owns (c : Thread nD τ) (ms3_2 t) fullShare ((dat3 V c).after 2 t) from by
      unfold Dat.leavesExact; rw [liveAt3_2 t], after3_2]
      rw [show (dat3 V c).leavesExact 3 t = owns (c : Thread nD τ) (ms3_3 t) fullShare ((dat3 V c).after 3 t) from by
      unfold Dat.leavesExact; rw [liveAt3_3_C t (fun h => h0 ((hcond3_0 t).mp h)) ((hcond3_1 t).mpr h1)], after3_3]
      rw [show (dat3 V c).leavesExact 4 t = owns (c : Thread nD τ) (ms3_4 t) fullShare ((dat3 V c).after 4 t) from by
      unfold Dat.leavesExact; rw [liveAt3_4 t], after3_4]
      by_cases hz : t.val = 0
      · exfalso; have hN : t.val < 630 := lt_of_lt_of_eq t.isLt (show cfg3.N = 630 from N_3); omega
      · rw [PhiS3_castSucc V c t, PhiS3_pos V c _ _ hz]
        rw [outsAt3_C V c t h0 h1]
        unfold out3_C_3 out3_C_4 sout3_C_0; (try dsimp only)
        iintro ⟨⟨⟨HR0, HR1, HR2, HR3, HR4, HR5, HR6, HR7, HR8, HR9, HS0, HR11, HR12, HR13⟩, Hg⟩, Ho, ⟨%d0, H0⟩, ⟨%d1, H1⟩, ⟨%d2, H2⟩, ⟨%d3, H3⟩, ⟨%d4, H4⟩⟩
        iapply ((kernelRun3_C c (grid3.coords t) _ _ _ _ _ _ _ _ _ _ _ _ (fun h => h0 ((hcond3_0 t).mp h)) ((hcond3_1 t).mpr h1) (iblk3 V c 0 t) (iblk3 V c 1 t) (iblk3 V c 2 t) _).2.2.2 Set.univ _)
        isplitl [H0]; · iexact H0
        isplitl [H1]; · iexact H1
        isplitl [H2]; · iexact H2
        isplitl [H3]; · iexists _; iexact H3
        isplitl [H4]; · iexists _; iexact H4
        isplitl [HS0]; · iexact HS0
        iintro ⟨H0, H1, H2, ⟨%e3, H3⟩, ⟨%e4, H4⟩, ⟨%es0, HS0⟩⟩
        isplitl [HR0 HR1 HR2 HR3 HR4 HR5 HR6 HR7 HR8 HR9 HS0 HR11 HR12 HR13 Hg]
        · isplitl [HR0 HR1 HR2 HR3 HR4 HR5 HR6 HR7 HR8 HR9 HS0 HR11 HR12 HR13]
          · isplitl [HR0]
            · iexact HR0
            isplitl [HR1]
            · iexact HR1
            isplitl [HR2]
            · iexact HR2
            isplitl [HR3]
            · iexact HR3
            isplitl [HR4]
            · iexact HR4
            isplitl [HR5]
            · iexact HR5
            isplitl [HR6]
            · iexact HR6
            isplitl [HR7]
            · iexact HR7
            isplitl [HR8]
            · iexact HR8
            isplitl [HR9]
            · iexact HR9
            isplitl [HS0]
            · unfold owns; iexists _; isplitr
              swap; · iexact HS0
              ipureintro; exact View.read_writes_of_cover _ _ _ _ _ (scover3_C_0 c _ _ _ _ _ _ _ _ _ _ _ _ _ _ _ _ _ _ _)
            isplitl [HR11]
            · iexact HR11
            isplitl [HR12]
            · iexact HR12
            iexact HR13
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover3_C_3 c _ _ _ _ _ _ _ _ _ _ _ _ _ _ _ _ _ _ _)
        unfold owns; iexists _; isplitr
        swap; · iexact H4
        ipureintro; exact View.read_writes_of_cover _ _ _ _ _ (cover3_C_4 c _ _ _ _ _ _ _ _ _ _ _ _ _ _ _ _ _ _ _)
    · rw [show (dat3 V c).leavesExact 0 t = owns (c : Thread nD τ) (ms3_0 t) fullShare ((dat3 V c).after 0 t) from by
      unfold Dat.leavesExact; rw [liveAt3_0 t], after3_0]
      rw [show (dat3 V c).leavesExact 1 t = owns (c : Thread nD τ) (ms3_1 t) fullShare ((dat3 V c).after 1 t) from by
      unfold Dat.leavesExact; rw [liveAt3_1 t], after3_1]
      rw [show (dat3 V c).leavesExact 2 t = owns (c : Thread nD τ) (ms3_2 t) fullShare ((dat3 V c).after 2 t) from by
      unfold Dat.leavesExact; rw [liveAt3_2 t], after3_2]
      rw [Dat.leavesExact_idle (dat3 V c) 3 t (idleAt3_3_B t (fun h => h0 ((hcond3_0 t).mp h)) (fun h => h1 ((hcond3_1 t).mp h))) (noFlush3_3_B t (fun h => h0 ((hcond3_0 t).mp h)) (fun h => h1 ((hcond3_1 t).mp h)))]
      rw [show (dat3 V c).leavesExact 4 t = owns (c : Thread nD τ) (ms3_4 t) fullShare ((dat3 V c).after 4 t) from by
      unfold Dat.leavesExact; rw [liveAt3_4 t], after3_4]
      by_cases hz : t.val = 0
      · exfalso; have hN : t.val < 630 := lt_of_lt_of_eq t.isLt (show cfg3.N = 630 from N_3); omega
      · rw [PhiS3_castSucc V c t, PhiS3_pos V c _ _ hz]
        rw [outsAt3_B V c t h0 h1]
        unfold out3_B_4 sout3_B_0; (try dsimp only)
        iintro ⟨⟨⟨HR0, HR1, HR2, HR3, HR4, HR5, HR6, HR7, HR8, HR9, HS0, HR11, HR12, HR13⟩, Hg⟩, Ho, ⟨%d0, H0⟩, ⟨%d1, H1⟩, ⟨%d2, H2⟩, ⟨%d3, H3⟩, ⟨%d4, H4⟩⟩
        iapply ((kernelRun3_B c (grid3.coords t) _ _ _ _ _ _ _ _ _ _ _ _ (fun h => h0 ((hcond3_0 t).mp h)) (fun h => h1 ((hcond3_1 t).mp h)) (iblk3 V c 0 t) (iblk3 V c 1 t) (iblk3 V c 2 t) _).2.2.2 _ Set.univ _)
        isplitl [H0]; · iexact H0
        isplitl [H1]; · iexact H1
        isplitl [H2]; · iexact H2
        isplitl [H3]; · iexact H3
        isplitl [H4]; · iexists _; iexact H4
        isplitl [HS0]; · iexact HS0
        iintro ⟨H0, H1, H2, H3, ⟨%e4, H4⟩, ⟨%es0, HS0⟩⟩
        isplitl [HR0 HR1 HR2 HR3 HR4 HR5 HR6 HR7 HR8 HR9 HS0 HR11 HR12 HR13 Hg]
        · isplitl [HR0 HR1 HR2 HR3 HR4 HR5 HR6 HR7 HR8 HR9 HS0 HR11 HR12 HR13]
          · isplitl [HR0]
            · iexact HR0
            isplitl [HR1]
            · iexact HR1
            isplitl [HR2]
            · iexact HR2
            isplitl [HR3]
            · iexact HR3
            isplitl [HR4]
            · iexact HR4
            isplitl [HR5]
            · iexact HR5
            isplitl [HR6]
            · iexact HR6
            isplitl [HR7]
            · iexact HR7
            isplitl [HR8]
            · iexact HR8
            isplitl [HR9]
            · iexact HR9
            isplitl [HS0]
            · unfold owns; iexists _; isplitr
              swap; · iexact HS0
              ipureintro; exact View.read_writes_of_cover _ _ _ _ _ (scover3_B_0 c _ _ _ _ _ _ _ _ _ _ _ _ _ _ _ _ _ _ _)
            isplitl [HR11]
            · iexact HR11
            isplitl [HR12]
            · iexact HR12
            iexact HR13
          iexact Hg
        isplitl [Ho]; · iexact Ho
        isplitl [H0]; · iexact H0
        isplitl [H1]; · iexact H1
        isplitl [H2]; · iexact H2
        isplitl [H3]; · iexists _; iexact H3
        unfold owns; iexists _; isplitr
        swap; · iexact H4
        ipureintro; exact View.read_writes_of_cover _ _ _ _ _ (cover3_B_4 c _ _ _ _ _ _ _ _ _ _ _ _ _ _ _ _ _ _ _)

/-- The body table's row at point `t`'s slots is the body as `bodyAt3` spells it. -/
theorem defs₀_row3 (t : Fin cfg3.N) :
    defs₀ (F := F) .tc cfg3.body (cfg3.bodyArgs t (cfg3.slots t)) = bodyAt3 t := by
  unfold defs₀; rw [Defs.onTc_tc]

/-- The library's body obligation, at every point: the body's triple restated (Lib/Pipeline/FrameBody.lean `triple_restated`). -/
theorem body_obligation3 (c : Dev nD) : BodyObligation (dat3 (F := F) V c) (defs₀ (F := F)) Variants.none () Set.univ := fun t => by
  rw [bigSep_W3, bigSep_W3, defs₀_row3]
  exact triple_restated (sound_body3 V c t) rfl .rfl fun _ => .rfl

/-- What the launch hands the region (`ΦA`) is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point but the first the invariant gives `ΦA` back: the carried scratch's named contents are forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨HR0, HR1, HR2, HR3, HR4, HR5, HR6, HR7, HR8, HR9, HS0, HR11, HR12, HR13⟩, Hg⟩
  isplitl [HR0 HR1 HR2 HR3 HR4 HR5 HR6 HR7 HR8 HR9 HS0 HR11 HR12 HR13]
  · isplitl [HR0]
    · iexact HR0
    isplitl [HR1]
    · iexact HR1
    isplitl [HR2]
    · iexact HR2
    isplitl [HR3]
    · iexact HR3
    isplitl [HR4]
    · iexact HR4
    isplitl [HR5]
    · iexact HR5
    isplitl [HR6]
    · iexact HR6
    isplitl [HR7]
    · iexact HR7
    isplitl [HR8]
    · iexact HR8
    isplitl [HR9]
    · iexact HR9
    isplitl [HS0]
    · iexists _; iexact HS0
    isplitl [HR11]
    · iexact HR11
    isplitl [HR12]
    · iexact HR12
    iexact HR13
  iexact Hg

/-- The same after the last point. -/
theorem hout3 (c : Dev nD) : (dat3 V c).Φ (Fin.last cfg3.N) ⊢ Pipeline.ΦA spec3 c :=
  Phi_out3 V c _ (by rw [Fin.val_last]; have : cfg3.N = 630 := N_3; omega)

end Regions

end Cert.KernelIdeal.Gen

end
-- ==== Proof.Whole.Hosts0.lean ====
/- What the host lines between the calls write. Laid out as the generated frame of a one-call program is; a call that carries
   scratch between points keeps that scratch in its invariant. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v2, main_cst, main_v3, main_v4, main_c, main_v5, main_v6, main_c_0, main_v7, main_v8, main_v9, main_cst_1, main_v10, main_cst_2, main_v11, main_v12, main_v13, main_v14, main_v15, main_c_3, main_v16, main_c_4, main_v17, main_c_5]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps1_1` allocates a buffer. -/
theorem hostOps1_1_fresh : (hostOps1_1 : List (HloOp τ sig (Elt F))).Forall fun op => op.fresh = ∅ := by
  simp only [List.Forall]; repeat' constructor
/-- The reference each operation of `hostOps1_1` writes, in order. -/
abbrev hostOps1_1_W : List (Ref sig .tc) := [main_call0_v0, main_v18]
theorem hostOps1_1_writes : (hostOps1_1 : List (HloOp τ sig (Elt F))).Forall fun op => op.writes ⊆ (hostOps1_1_W.map (Proc.devRef (τ := τ) .tc)).toFinset :=
  StableHlo.forall_writes_sub_of_map rfl
/-- `hostOps1_1` writes none of the argument arrays (checked: each argument against each reference it writes). -/
theorem hostOps1_1_args : ∀ a ∈ argRefs, a ∉ hostOps1_1_W := ListAll.forall_mem_of_all_decide (by decide +kernel)

/-- No operation of `hostOps1_2` allocates a buffer. -/
theorem hostOps1_2_fresh : (hostOps1_2 : List (HloOp τ sig (Elt F))).Forall fun op => op.fresh = ∅ := by
  simp only [List.Forall]; repeat' constructor
/-- The reference each operation of `hostOps1_2` writes, in order. -/
abbrev hostOps1_2_W : List (Ref sig .tc) := [main_cst_6, main_v19, main_c_7]
theorem hostOps1_2_writes : (hostOps1_2 : List (HloOp τ sig (Elt F))).Forall fun op => op.writes ⊆ (hostOps1_2_W.map (Proc.devRef (τ := τ) .tc)).toFinset :=
  StableHlo.forall_writes_sub_of_map rfl
/-- `hostOps1_2` writes none of the argument arrays (checked: each argument against each reference it writes). -/
theorem hostOps1_2_args : ∀ a ∈ argRefs, a ∉ hostOps1_2_W := ListAll.forall_mem_of_all_decide (by decide +kernel)

/-- No operation of `hostOps1_3` allocates a buffer. -/
theorem hostOps1_3_fresh : (hostOps1_3 : List (HloOp τ sig (Elt F))).Forall fun op => op.fresh = ∅ := by
  simp only [List.Forall]; repeat' constructor
/-- The reference each operation of `hostOps1_3` writes, in order. -/
abbrev hostOps1_3_W : List (Ref sig .tc) := [main_v20]
theorem hostOps1_3_writes : (hostOps1_3 : List (HloOp τ sig (Elt F))).Forall fun op => op.writes ⊆ (hostOps1_3_W.map (Proc.devRef (τ := τ) .tc)).toFinset :=
  StableHlo.forall_writes_sub_of_map rfl
/-- `hostOps1_3` writes none of the argument arrays (checked: each argument against each reference it writes). -/
theorem hostOps1_3_args : ∀ a ∈ argRefs, a ∉ hostOps1_3_W := ListAll.forall_mem_of_all_decide (by decide +kernel)

/-- No operation of `hostOps1_4` allocates a buffer. -/
theorem hostOps1_4_fresh : (hostOps1_4 : List (HloOp τ sig (Elt F))).Forall fun op => op.fresh = ∅ := by
  simp only [List.Forall]; repeat' constructor
/-- The reference each operation of `hostOps1_4` writes, in order. -/
abbrev hostOps1_4_W : List (Ref sig .tc) := [main_c_8, main_v21, main_c_9, main_v22, main_v23, main_v24, main_c_10, main_v25, main_c_11, main_v26, main_v27]
theorem hostOps1_4_writes : (hostOps1_4 : List (HloOp τ sig (Elt F))).Forall fun op => op.writes ⊆ (hostOps1_4_W.map (Proc.devRef (τ := τ) .tc)).toFinset :=
  StableHlo.forall_writes_sub_of_map rfl
/-- `hostOps1_4` writes none of the argument arrays (checked: each argument against each reference it writes). -/
theorem hostOps1_4_args : ∀ a ∈ argRefs, a ∉ hostOps1_4_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v29, main_cst_12, main_v30, main_v31, main_c_13, main_v32, main_v33, main_c_14, main_v34, main_v35, main_v36, main_cst_15, main_v37, main_cst_16, main_v38, main_v39, main_v40, main_v41, main_v42, main_c_17, main_v43, main_c_18, main_v44, main_c_19]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-- No operation of `hostOps2_1` allocates a buffer. -/
theorem hostOps2_1_fresh : (hostOps2_1 : List (HloOp τ sig (Elt F))).Forall fun op => op.fresh = ∅ := by
  simp only [List.Forall]; repeat' constructor
/-- The reference each operation of `hostOps2_1` writes, in order. -/
abbrev hostOps2_1_W : List (Ref sig .tc) := [main_call2_v0, main_v45]
theorem hostOps2_1_writes : (hostOps2_1 : List (HloOp τ sig (Elt F))).Forall fun op => op.writes ⊆ (hostOps2_1_W.map (Proc.devRef (τ := τ) .tc)).toFinset :=
  StableHlo.forall_writes_sub_of_map rfl
/-- `hostOps2_1` writes none of the argument arrays (checked: each argument against each reference it writes). -/
theorem hostOps2_1_args : ∀ a ∈ argRefs, a ∉ hostOps2_1_W := ListAll.forall_mem_of_all_decide (by decide +kernel)

/-- No operation of `hostOps2_2` allocates a buffer. -/
theorem hostOps2_2_fresh : (hostOps2_2 : List (HloOp τ sig (Elt F))).Forall fun op => op.fresh = ∅ := by
  simp only [List.Forall]; repeat' constructor
/-- The reference each operation of `hostOps2_2` writes, in order. -/
abbrev hostOps2_2_W : List (Ref sig .tc) := [main_cst_20, main_v46, main_c_21]
theorem hostOps2_2_writes : (hostOps2_2 : List (HloOp τ sig (Elt F))).Forall fun op => op.writes ⊆ (hostOps2_2_W.map (Proc.devRef (τ := τ) .tc)).toFinset :=
  StableHlo.forall_writes_sub_of_map rfl
/-- `hostOps2_2` writes none of the argument arrays (checked: each argument against each reference it writes). -/
theorem hostOps2_2_args : ∀ a ∈ argRefs, a ∉ hostOps2_2_W := ListAll.forall_mem_of_all_decide (by decide +kernel)

/-- No operation of `hostOps2_3` allocates a buffer. -/
theorem hostOps2_3_fresh : (hostOps2_3 : List (HloOp τ sig (Elt F))).Forall fun op => op.fresh = ∅ := by
  simp only [List.Forall]; repeat' constructor
/-- The reference each operation of `hostOps2_3` writes, in order. -/
abbrev hostOps2_3_W : List (Ref sig .tc) := [main_v47]
theorem hostOps2_3_writes : (hostOps2_3 : List (HloOp τ sig (Elt F))).Forall fun op => op.writes ⊆ (hostOps2_3_W.map (Proc.devRef (τ := τ) .tc)).toFinset :=
  StableHlo.forall_writes_sub_of_map rfl
/-- `hostOps2_3` writes none of the argument arrays (checked: each argument against each reference it writes). -/
theorem hostOps2_3_args : ∀ a ∈ argRefs, a ∉ hostOps2_3_W := ListAll.forall_mem_of_all_decide (by decide +kernel)

/-- No operation of `hostOps2_4` allocates a buffer. -/
theorem hostOps2_4_fresh : (hostOps2_4 : List (HloOp τ sig (Elt F))).Forall fun op => op.fresh = ∅ := by
  simp only [List.Forall]; repeat' constructor
/-- The reference each operation of `hostOps2_4` writes, in order. -/
abbrev hostOps2_4_W : List (Ref sig .tc) := [main_c_22, main_v48, main_c_23, main_v49, main_v50, main_v51, main_c_24, main_v52, main_c_25, main_v53, main_v54, main_v55]
theorem hostOps2_4_writes : (hostOps2_4 : List (HloOp τ sig (Elt F))).Forall fun op => op.writes ⊆ (hostOps2_4_W.map (Proc.devRef (τ := τ) .tc)).toFinset :=
  StableHlo.forall_writes_sub_of_map rfl
/-- `hostOps2_4` writes none of the argument arrays (checked: each argument against each reference it writes). -/
theorem hostOps2_4_args : ∀ a ∈ argRefs, a ∉ hostOps2_4_W := ListAll.forall_mem_of_all_decide (by decide +kernel)

/-- No operation of `hostOps3` allocates a buffer. -/
theorem hostOps3_fresh : (hostOps3 : List (HloOp τ sig (Elt F))).Forall fun op => op.fresh = ∅ := by
  simp only [List.Forall]; repeat' constructor
/-- The reference each operation of `hostOps3` writes, in order. -/
abbrev hostOps3_W : List (Ref sig .tc) := [main_v57, main_v58, main_v59, main_v60, main_v61]
theorem hostOps3_writes : (hostOps3 : List (HloOp τ sig (Elt F))).Forall fun op => op.writes ⊆ (hostOps3_W.map (Proc.devRef (τ := τ) .tc)).toFinset :=
  StableHlo.forall_writes_sub_of_map rfl
/-- `hostOps3` writes none of the argument arrays (checked: each argument against each reference it writes). -/
theorem hostOps3_args : ∀ a ∈ argRefs, a ∉ hostOps3_W := ListAll.forall_mem_of_all_decide (by decide +kernel)

end Cert.KernelIdeal.Gen

end
-- ==== Proof.Whole.Fold0.lean ====
/- The contents of every buffer at each boundary between calls and host lines. Laid out as the generated frame of a one-call program is; a call that carries
   scratch between points keeps that scratch in its invariant. -/
module

public import proofs.«01_k».proof.Proof.Whole.Region0
public import proofs.«01_k».proof.Proof.Whole.Region1
public import proofs.«01_k».proof.Proof.Whole.Region2
public import proofs.«01_k».proof.Proof.Whole.Region3
public import proofs.«01_k».proof.Proof.Whole.Hosts0

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1`. -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- After `hostOps1_1`. -/
abbrev W4 : Dev nD → Valuation τ sig (Elt F) := fun c => StableHlo.after hostOps1_1 (W3 m ρ c)
/-- A reference `hostOps1_1` does not write keeps its contents across it. -/
theorem W4_of (c : Dev nD) (r : Ref sig .tc) (h : r ∉ hostOps1_1_W) : W4 m ρ c (Proc.devRef .tc r) = W3 m ρ c (Proc.devRef .tc r) :=
  StableHlo.after_of_writes_sub hostOps1_1 _ hostOps1_1_writes h
theorem W4_args (c : Dev nD) : ∀ a ∈ argRefs, W4 m ρ c (Proc.devRef .tc a) = m ((c : Thread nD τ).loc a) :=
  fun a ha => (W4_of m ρ c a (hostOps1_1_args a ha)).trans (W3_args m ρ c a ha)
/-- After `hostOps1_2`. -/
abbrev W5 : Dev nD → Valuation τ sig (Elt F) := fun c => StableHlo.after hostOps1_2 (W4 m ρ c)
/-- A reference `hostOps1_2` does not write keeps its contents across it. -/
theorem W5_of (c : Dev nD) (r : Ref sig .tc) (h : r ∉ hostOps1_2_W) : W5 m ρ c (Proc.devRef .tc r) = W4 m ρ c (Proc.devRef .tc r) :=
  StableHlo.after_of_writes_sub hostOps1_2 _ hostOps1_2_writes h
theorem W5_args (c : Dev nD) : ∀ a ∈ argRefs, W5 m ρ c (Proc.devRef .tc a) = m ((c : Thread nD τ).loc a) :=
  fun a ha => (W5_of m ρ c a (hostOps1_2_args a ha)).trans (W4_args m ρ c a ha)
/-- After `hostOps1_3`. -/
abbrev W6 : Dev nD → Valuation τ sig (Elt F) := fun c => StableHlo.after hostOps1_3 (W5 m ρ c)
/-- A reference `hostOps1_3` does not write keeps its contents across it. -/
theorem W6_of (c : Dev nD) (r : Ref sig .tc) (h : r ∉ hostOps1_3_W) : W6 m ρ c (Proc.devRef .tc r) = W5 m ρ c (Proc.devRef .tc r) :=
  StableHlo.after_of_writes_sub hostOps1_3 _ hostOps1_3_writes h
theorem W6_args (c : Dev nD) : ∀ a ∈ argRefs, W6 m ρ c (Proc.devRef .tc a) = m ((c : Thread nD τ).loc a) :=
  fun a ha => (W6_of m ρ c a (hostOps1_3_args a ha)).trans (W5_args m ρ c a ha)
/-- After `hostOps1_4` (region 1's entry). -/
abbrev W7 : Dev nD → Valuation τ sig (Elt F) := fun c => StableHlo.after hostOps1_4 (W6 m ρ c)
/-- A reference `hostOps1_4` does not write keeps its contents across it. -/
theorem W7_of (c : Dev nD) (r : Ref sig .tc) (h : r ∉ hostOps1_4_W) : W7 m ρ c (Proc.devRef .tc r) = W6 m ρ c (Proc.devRef .tc r) :=
  StableHlo.after_of_writes_sub hostOps1_4 _ hostOps1_4_writes h
theorem W7_args (c : Dev nD) : ∀ a ∈ argRefs, W7 m ρ c (Proc.devRef .tc a) = m ((c : Thread nD τ).loc a) :=
  fun a ha => (W7_of m ρ c a (hostOps1_4_args a ha)).trans (W6_args m ρ c a ha)
/-- The same read at the TensorCore's references (what region 1's proof data take). -/
abbrev V7 : (c : Dev nD) → (b : Ref sig .tc) → Buf (Elt F) ((c : Thread nD τ).loc b) := fun c b => W7 m ρ c b
/-- At region 1's exit: its arrays at what the pipeline leaves (the inputs as entered, each output's write-backs
    folded: `Dat.arrAt … N`), every other buffer as entered (Lib/Pipeline/FrameSuffix.lean `withArrays`). -/
def W8 (c : Dev nD) : Valuation τ sig (Elt F) :=
  Pipeline.withArrays spec1 c (W7 m ρ c) fun w => (dat1 (V7 m ρ) c).arrAt w cfg1.N
theorem W8_arr (c : Dev nD) (w : Fin cfg1.W) :
    W8 m ρ c (Proc.devRef .tc (Pipeline.arrRef spec1 w)) = (dat1 (V7 m ρ) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m ρ c (Proc.devRef .tc b) = W7 m ρ c (Proc.devRef .tc b) := by
  unfold W8; exact Pipeline.withArrays_of_ne spec1 c _ _ b hb
/-- A reference that is none of region 1's OUTPUT arrays keeps its entry contents across it: an input window's
    array is never written back (`Dat.arrAt_in`, `A_eq1`); any other buffer is left as is. -/
theorem W8_of (c : Dev nD) (r : Ref sig .tc) (h : ∀ w : Fin cfg1.W, Pipeline.arrRef spec1 w = r → (cfg1.win w).isOut = false) :
    W8 m ρ c (Proc.devRef .tc r) = W7 m ρ c (Proc.devRef .tc r) := by
  by_cases hw : ∃ w : Fin cfg1.W, Pipeline.arrRef spec1 w = r
  · obtain ⟨w, rfl⟩ := hw
    exact (W8_arr m ρ c w).trans (((dat1 (V7 m ρ) c).arrAt_in w (h w rfl) _).trans (A_eq1 (V7 m ρ) c w))
  · exact W8_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W8_args (c : Dev nD) : ∀ a ∈ argRefs, W8 m ρ c (Proc.devRef .tc a) = m ((c : Thread nD τ).loc a) :=
  fun a ha => (W8_of m ρ c a (argsIn1 a ha)).trans (W7_args m ρ c a ha)
/-- The same read at the TensorCore's references (region 1's exit contents). -/
abbrev V8 : (c : Dev nD) → (b : Ref sig .tc) → Buf (Elt F) ((c : Thread nD τ).loc b) := fun c b => W8 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V7 m ρ) c).arrAt w cfg1.N = V8 m ρ c (Pipeline.arrRef spec1 w) :=
  (W8_arr m ρ c w).symm
theorem hrest1 (c : Dev nD) : ∀ b, b ∉ Finset.univ.image (Pipeline.arrRef spec1) → V8 m ρ c b = V7 m ρ c b :=
  fun b hb => W8_of_ne m ρ c b fun w e => hb (Finset.mem_image.mpr ⟨w, Finset.mem_univ _, e⟩)

/-- After `hostOps2`. -/
abbrev W9 : Dev nD → Valuation τ sig (Elt F) := fun c => StableHlo.after hostOps2 (W8 m ρ c)
/-- A reference `hostOps2` does not write keeps its contents across it. -/
theorem W9_of (c : Dev nD) (r : Ref sig .tc) (h : r ∉ hostOps2_W) : W9 m ρ c (Proc.devRef .tc r) = W8 m ρ c (Proc.devRef .tc r) :=
  StableHlo.after_of_writes_sub hostOps2 _ hostOps2_writes h
theorem W9_args (c : Dev nD) : ∀ a ∈ argRefs, W9 m ρ c (Proc.devRef .tc a) = m ((c : Thread nD τ).loc a) :=
  fun a ha => (W9_of m ρ c a (hostOps2_args a ha)).trans (W8_args m ρ c a ha)
/-- After `hostOps2_1`. -/
abbrev W10 : Dev nD → Valuation τ sig (Elt F) := fun c => StableHlo.after hostOps2_1 (W9 m ρ c)
/-- A reference `hostOps2_1` does not write keeps its contents across it. -/
theorem W10_of (c : Dev nD) (r : Ref sig .tc) (h : r ∉ hostOps2_1_W) : W10 m ρ c (Proc.devRef .tc r) = W9 m ρ c (Proc.devRef .tc r) :=
  StableHlo.after_of_writes_sub hostOps2_1 _ hostOps2_1_writes h
theorem W10_args (c : Dev nD) : ∀ a ∈ argRefs, W10 m ρ c (Proc.devRef .tc a) = m ((c : Thread nD τ).loc a) :=
  fun a ha => (W10_of m ρ c a (hostOps2_1_args a ha)).trans (W9_args m ρ c a ha)
/-- After `hostOps2_2`. -/
abbrev W11 : Dev nD → Valuation τ sig (Elt F) := fun c => StableHlo.after hostOps2_2 (W10 m ρ c)
/-- A reference `hostOps2_2` does not write keeps its contents across it. -/
theorem W11_of (c : Dev nD) (r : Ref sig .tc) (h : r ∉ hostOps2_2_W) : W11 m ρ c (Proc.devRef .tc r) = W10 m ρ c (Proc.devRef .tc r) :=
  StableHlo.after_of_writes_sub hostOps2_2 _ hostOps2_2_writes h
theorem W11_args (c : Dev nD) : ∀ a ∈ argRefs, W11 m ρ c (Proc.devRef .tc a) = m ((c : Thread nD τ).loc a) :=
  fun a ha => (W11_of m ρ c a (hostOps2_2_args a ha)).trans (W10_args m ρ c a ha)
/-- After `hostOps2_3`. -/
abbrev W12 : Dev nD → Valuation τ sig (Elt F) := fun c => StableHlo.after hostOps2_3 (W11 m ρ c)
/-- A reference `hostOps2_3` does not write keeps its contents across it. -/
theorem W12_of (c : Dev nD) (r : Ref sig .tc) (h : r ∉ hostOps2_3_W) : W12 m ρ c (Proc.devRef .tc r) = W11 m ρ c (Proc.devRef .tc r) :=
  StableHlo.after_of_writes_sub hostOps2_3 _ hostOps2_3_writes h
theorem W12_args (c : Dev nD) : ∀ a ∈ argRefs, W12 m ρ c (Proc.devRef .tc a) = m ((c : Thread nD τ).loc a) :=
  fun a ha => (W12_of m ρ c a (hostOps2_3_args a ha)).trans (W11_args m ρ c a ha)
/-- After `hostOps2_4` (region 2's entry). -/
abbrev W13 : Dev nD → Valuation τ sig (Elt F) := fun c => StableHlo.after hostOps2_4 (W12 m ρ c)
/-- A reference `hostOps2_4` does not write keeps its contents across it. -/
theorem W13_of (c : Dev nD) (r : Ref sig .tc) (h : r ∉ hostOps2_4_W) : W13 m ρ c (Proc.devRef .tc r) = W12 m ρ c (Proc.devRef .tc r) :=
  StableHlo.after_of_writes_sub hostOps2_4 _ hostOps2_4_writes h
theorem W13_args (c : Dev nD) : ∀ a ∈ argRefs, W13 m ρ c (Proc.devRef .tc a) = m ((c : Thread nD τ).loc a) :=
  fun a ha => (W13_of m ρ c a (hostOps2_4_args a ha)).trans (W12_args m ρ c a ha)
/-- The same read at the TensorCore's references (what region 2's proof data take). -/
abbrev V13 : (c : Dev nD) → (b : Ref sig .tc) → Buf (Elt F) ((c : Thread nD τ).loc b) := fun c b => W13 m ρ c b
/-- At region 2's exit: its arrays at what the pipeline leaves (the inputs as entered, each output's write-backs
    folded: `Dat.arrAt … N`), every other buffer as entered (Lib/Pipeline/FrameSuffix.lean `withArrays`). -/
def W14 (c : Dev nD) : Valuation τ sig (Elt F) :=
  Pipeline.withArrays spec2 c (W13 m ρ c) fun w => (dat2 (V13 m ρ) c).arrAt w cfg2.N
theorem W14_arr (c : Dev nD) (w : Fin cfg2.W) :
    W14 m ρ c (Proc.devRef .tc (Pipeline.arrRef spec2 w)) = (dat2 (V13 m ρ) c).arrAt w cfg2.N := by
  unfold W14; exact Pipeline.withArrays_arr spec2 launch2.win.arr_inj c _ _ w
theorem W14_of_ne (c : Dev nD) (b : Ref sig .tc) (hb : ∀ w, Pipeline.arrRef spec2 w ≠ b) :
    W14 m ρ c (Proc.devRef .tc b) = W13 m ρ c (Proc.devRef .tc b) := by
  unfold W14; exact Pipeline.withArrays_of_ne spec2 c _ _ b hb
/-- A reference that is none of region 2's OUTPUT arrays keeps its entry contents across it: an input window's
    array is never written back (`Dat.arrAt_in`, `A_eq2`); any other buffer is left as is. -/
theorem W14_of (c : Dev nD) (r : Ref sig .tc) (h : ∀ w : Fin cfg2.W, Pipeline.arrRef spec2 w = r → (cfg2.win w).isOut = false) :
    W14 m ρ c (Proc.devRef .tc r) = W13 m ρ c (Proc.devRef .tc r) := by
  by_cases hw : ∃ w : Fin cfg2.W, Pipeline.arrRef spec2 w = r
  · obtain ⟨w, rfl⟩ := hw
    exact (W14_arr m ρ c w).trans (((dat2 (V13 m ρ) c).arrAt_in w (h w rfl) _).trans (A_eq2 (V13 m ρ) c w))
  · exact W14_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
theorem W14_args (c : Dev nD) : ∀ a ∈ argRefs, W14 m ρ c (Proc.devRef .tc a) = m ((c : Thread nD τ).loc a) :=
  fun a ha => (W14_of m ρ c a (argsIn2 a ha)).trans (W13_args m ρ c a ha)
/-- The same read at the TensorCore's references (region 2's exit contents). -/
abbrev V14 : (c : Dev nD) → (b : Ref sig .tc) → Buf (Elt F) ((c : Thread nD τ).loc b) := fun c b => W14 m ρ c b
/-- At region 2's exit each of its arrays holds what the pipeline leaves (`hF2`) and every other buffer what it
    held at entry (`hrest2`): the two hypotheses of Lib/Pipeline/RegionsLoop.lean `unscopedBufs_of_arrays`. -/
theorem hF2 (c : Dev nD) (w : Fin cfg2.W) : (dat2 (V13 m ρ) c).arrAt w cfg2.N = V14 m ρ c (Pipeline.arrRef spec2 w) :=
  (W14_arr m ρ c w).symm
theorem hrest2 (c : Dev nD) : ∀ b, b ∉ Finset.univ.image (Pipeline.arrRef spec2) → V14 m ρ c b = V13 m ρ c b :=
  fun b hb => W14_of_ne m ρ c b fun w e => hb (Finset.mem_image.mpr ⟨w, Finset.mem_univ _, e⟩)

/-- After `hostOps3` (region 3's entry). -/
abbrev W15 : Dev nD → Valuation τ sig (Elt F) := fun c => StableHlo.after hostOps3 (W14 m ρ c)
/-- A reference `hostOps3` does not write keeps its contents across it. -/
theorem W15_of (c : Dev nD) (r : Ref sig .tc) (h : r ∉ hostOps3_W) : W15 m ρ c (Proc.devRef .tc r) = W14 m ρ c (Proc.devRef .tc r) :=
  StableHlo.after_of_writes_sub hostOps3 _ hostOps3_writes h
theorem W15_args (c : Dev nD) : ∀ a ∈ argRefs, W15 m ρ c (Proc.devRef .tc a) = m ((c : Thread nD τ).loc a) :=
  fun a ha => (W15_of m ρ c a (hostOps3_args a ha)).trans (W14_args m ρ c a ha)
/-- The same read at the TensorCore's references (what region 3's proof data take). -/
abbrev V15 : (c : Dev nD) → (b : Ref sig .tc) → Buf (Elt F) ((c : Thread nD τ).loc b) := fun c b => W15 m ρ c b
/-- At region 3's exit: its arrays at what the pipeline leaves (the inputs as entered, each output's write-backs
    folded: `Dat.arrAt … N`), every other buffer as entered (Lib/Pipeline/FrameSuffix.lean `withArrays`). -/
def W16 (c : Dev nD) : Valuation τ sig (Elt F) :=
  Pipeline.withArrays spec3 c (W15 m ρ c) fun w => (dat3 (V15 m ρ) c).arrAt w cfg3.N
theorem W16_arr (c : Dev nD) (w : Fin cfg3.W) :
    W16 m ρ c (Proc.devRef .tc (Pipeline.arrRef spec3 w)) = (dat3 (V15 m ρ) c).arrAt w cfg3.N := by
  unfold W16; exact Pipeline.withArrays_arr spec3 launch3.win.arr_inj c _ _ w
theorem W16_of_ne (c : Dev nD) (b : Ref sig .tc) (hb : ∀ w, Pipeline.arrRef spec3 w ≠ b) :
    W16 m ρ c (Proc.devRef .tc b) = W15 m ρ c (Proc.devRef .tc b) := by
  unfold W16; exact Pipeline.withArrays_of_ne spec3 c _ _ b hb
/-- A reference that is none of region 3's OUTPUT arrays keeps its entry contents across it: an input window's
    array is never written back (`Dat.arrAt_in`, `A_eq3`); any other buffer is left as is. -/
theorem W16_of (c : Dev nD) (r : Ref sig .tc) (h : ∀ w : Fin cfg3.W, Pipeline.arrRef spec3 w = r → (cfg3.win w).isOut = false) :
    W16 m ρ c (Proc.devRef .tc r) = W15 m ρ c (Proc.devRef .tc r) := by
  by_cases hw : ∃ w : Fin cfg3.W, Pipeline.arrRef spec3 w = r
  · obtain ⟨w, rfl⟩ := hw
    exact (W16_arr m ρ c w).trans (((dat3 (V15 m ρ) c).arrAt_in w (h w rfl) _).trans (A_eq3 (V15 m ρ) c w))
  · exact W16_of_ne m ρ c r fun w e => hw ⟨w, e⟩
/-- Every argument among region 3's arrays is an input window's (checked: each argument against each window). -/
theorem argsIn3 : ∀ a ∈ argRefs, ∀ w : Fin cfg3.W, Pipeline.arrRef spec3 w = a → (cfg3.win w).isOut = false :=
  ListAll.forall_mem_of_all_decide (by decide +kernel)
theorem W16_args (c : Dev nD) : ∀ a ∈ argRefs, W16 m ρ c (Proc.devRef .tc a) = m ((c : Thread nD τ).loc a) :=
  fun a ha => (W16_of m ρ c a (argsIn3 a ha)).trans (W15_args m ρ c a ha)
/-- The same read at the TensorCore's references (region 3's exit contents). -/
abbrev V16 : (c : Dev nD) → (b : Ref sig .tc) → Buf (Elt F) ((c : Thread nD τ).loc b) := fun c b => W16 m ρ c b
/-- At region 3's exit each of its arrays holds what the pipeline leaves (`hF3`) and every other buffer what it
    held at entry (`hrest3`): the two hypotheses of Lib/Pipeline/RegionsLoop.lean `unscopedBufs_of_arrays`. -/
theorem hF3 (c : Dev nD) (w : Fin cfg3.W) : (dat3 (V15 m ρ) c).arrAt w cfg3.N = V16 m ρ c (Pipeline.arrRef spec3 w) :=
  (W16_arr m ρ c w).symm
theorem hrest3 (c : Dev nD) : ∀ b, b ∉ Finset.univ.image (Pipeline.arrRef spec3) → V16 m ρ c b = V15 m ρ c b :=
  fun b hb => W16_of_ne m ρ c b fun w e => hb (Finset.mem_image.mpr ⟨w, Finset.mem_univ _, e⟩)

/-! ### The arguments end as launched: no host stretch writes one and no region may change one (a region reads it
    through an input window or bypasses it) -/

theorem W16_main_arg0 (c : Dev nD) : W16 m ρ c (Proc.devRef .tc main_arg0) = m ((c : Thread nD τ).loc main_arg0) :=
  W16_args m ρ c main_arg0 (by decide)
theorem W16_main_arg1 (c : Dev nD) : W16 m ρ c (Proc.devRef .tc main_arg1) = m ((c : Thread nD τ).loc main_arg1) :=
  W16_args m ρ c main_arg1 (by decide)
end Cert.KernelIdeal.Gen

end
-- ==== Proof.Whole.State.lean ====
/- The proof data of the four calls at their entry contents, and the thread state. Laid out as the generated frame of a one-call program is; a call that carries
   scratch between points keeps that scratch in its invariant. -/
module

public import proofs.«01_k».proof.Proof.Whole.Fold0

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- The prefetched tables' admissible contents: no pipeline has a table. -/
abbrev adm : (p : Fin 4) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V7 m ρ) c
  | ⟨2, _⟩ => fun c => dat2 (V13 m ρ) c
  | ⟨3, _⟩ => fun c => dat3 (V15 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W16`, the generator register at some state. -/
abbrev Tₙ (c : Dev nD) : sProp 𝕄 := iprop(StableHlo.held (c : Thread nD τ) (Pipeline.ucRefs τ sig) (W16 m ρ c) ∗ ∃ r, prngReg c r)

end Cert.KernelIdeal.Gen

end
-- ==== Proof.Whole.Record0.lean ====
/- Call 0 as a segment of the run. Laid out as the generated frame of a one-call program is; a call that carries
   scratch between points keeps that scratch in its invariant. -/
module

public import proofs.«01_k».proof.Proof.Whole.State

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (dat0 (V1 m ρ) c).Φ 0 from rfl]
    iintro ⟨Hp, -, Hr⟩
    iapply (hin0 (V1 m ρ) c)
    unfold Pipeline.ΦA
    isplitl [Hr]; · iexact Hr
    iexact Hp
  hout c := by
    rw [Pipeline.ownSems0_none, show (pdats m ρ 0 c).Φ (Fin.last _) = (dat0 (V1 m ρ) c).Φ (Fin.last _) from rfl]
    iintro H
    ihave H := (hout0 (V1 m ρ) c) $$ H
    unfold Pipeline.ΦA
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.Whole.Record1.lean ====
/- Call 1 as a segment of the run. Laid out as the generated frame of a one-call program is; a call that carries
   scratch between points keeps that scratch in its invariant. -/
module

public import proofs.«01_k».proof.Proof.Whole.State

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 1 (custom_call 1) over the thread state: entered from every unscoped buffer at `W7`, left at `W8`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V7 m ρ) c).loose
  hwaits := Pipeline.hwaits_of_owed_zero _ _ _ _ L lv 1 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec1 c (V7 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V7 m ρ c) (A_eq1 (V7 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V7 m ρ) c).Φ 0 from rfl]
    iintro ⟨Hp, -, Hr⟩
    iapply (hin1 (V7 m ρ) c)
    unfold Pipeline.ΦA
    isplitl [Hr]; · iexact Hr
    iexact Hp
  hout c := by
    rw [Pipeline.ownSems0_none, show (pdats m ρ 1 c).Φ (Fin.last _) = (dat1 (V7 m ρ) c).Φ (Fin.last _) from rfl]
    iintro H
    ihave H := (hout1 (V7 m ρ) c) $$ H
    unfold Pipeline.ΦA
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V7 m ρ c) (V8 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.Whole.Record2.lean ====
/- Call 2 as a segment of the run. Laid out as the generated frame of a one-call program is; a call that carries
   scratch between points keeps that scratch in its invariant. -/
module

public import proofs.«01_k».proof.Proof.Whole.State

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 2 (custom_call 2) over the thread state: entered from every unscoped buffer at `W13`, left at `W14`
    (what the next segment is entered from). Its arrays split out of the unscoped buffers
    (`arrays_of_unscopedBufs`) and put back at the exit contents (`unscopedBufs_of_arrays`); the generator register into the
    class invariant `ΦA` and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V13 m ρ) c).loose
  hwaits := Pipeline.hwaits_of_owed_zero _ _ _ _ L lv 2 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec2 c (V13 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V13 m ρ c) (A_eq2 (V13 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V13 m ρ c) (V14 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.Whole.Record3.lean ====
/- Call 3 as a segment of the run. Laid out as the generated frame of a one-call program is; a call that carries
   scratch between points keeps that scratch in its invariant. -/
module

public import proofs.«01_k».proof.Proof.Whole.State

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 3 (custom_call 3) over the thread state: entered from every unscoped buffer at `W15`, left at `W16`
    (what the launch reads at the end). Its arrays split out of the unscoped buffers
    (`arrays_of_unscopedBufs`) and put back at the exit contents (`unscopedBufs_of_arrays`); the generator register into the
    class invariant `ΦA` and out; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V15 m ρ) c).loose
  hwaits := Pipeline.hwaits_of_owed_zero _ _ _ _ L lv 3 fun _ _ => rfl
  pre c := iprop(StableHlo.held (c : Thread nD τ) (Pipeline.ucRefs τ sig) (W15 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V15 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V15 m ρ c) (A_eq3 (V15 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = (dat3 (V15 m ρ) c).Φ 0 from rfl]
    iintro ⟨Hp, -, Hr⟩
    iapply (hin3 (V15 m ρ) c)
    unfold Pipeline.ΦA
    isplitl [Hr]; · iexact Hr
    iexact Hp
  hout c := by
    rw [Pipeline.ownSems0_none, show (pdats m ρ 3 c).Φ (Fin.last _) = (dat3 (V15 m ρ) c).Φ (Fin.last _) from rfl]
    iintro H
    ihave H := (hout3 (V15 m ρ) c) $$ H
    unfold Pipeline.ΦA
    icases H with ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V15 m ρ c) (V16 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Cert.KernelIdeal.Gen

end
-- ==== Proof.Whole.lean ====
/- The frame of the whole kernel: its four calls and the host lines between them as segments, and `frame`. Laid out as the generated frame of a one-call program is; a call that carries
   scratch between points keeps that scratch in its invariant. -/
module

public import proofs.«01_k».proof.Proof.Whole.Record0
public import proofs.«01_k».proof.Proof.Whole.Record1
public import proofs.«01_k».proof.Proof.Whole.Record2
public import proofs.«01_k».proof.Proof.Whole.Record3

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main as segments, and the launch -/

/-- @main's 16 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .host (hseg hostOps1_3 hostOps1_3_sub hostOps1_3_fresh (W5 m ρ)),
    .host (hseg hostOps1_4 hostOps1_4_sub hostOps1_4_fresh (W6 m ρ)),
    .region (reg1 m ρ),
    .host (hseg hostOps2 hostOps2_sub hostOps2_fresh (W8 m ρ)),
    .host (hseg hostOps2_1 hostOps2_1_sub hostOps2_1_fresh (W9 m ρ)),
    .host (hseg hostOps2_2 hostOps2_2_sub hostOps2_2_fresh (W10 m ρ)),
    .host (hseg hostOps2_3 hostOps2_3_sub hostOps2_3_fresh (W11 m ρ)),
    .host (hseg hostOps2_4 hostOps2_4_sub hostOps2_4_fresh (W12 m ρ)),
    .region (reg2 m ρ),
    .host (hseg hostOps3 hostOps3_sub hostOps3_fresh (W14 m ρ)),
    .region (reg3 m ρ) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- The run: at the compiled mesh, from any memory with zero counters, every weakly fair execution of @main on the
    TensorCores terminates, nothing faulting, and every final state has every buffer at the last boundary's contents and
    every semaphore counter of the machine at zero. The launch runs over the segments; the last thread state is read
    against the final state. -/
theorem run_all : θ_run defs (onTc (τ := τ) (main (F := F))) ⟨m, fun _ => 0, ρ⟩ (fun r =>
      (∀ c : Dev nD, ∀ b ∈ Pipeline.ucRefs τ sig, r.2.mem (((c : Thread nD τ)).1, b) = W16 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h hz => ⟨h, funext fun g => hz g (.inr (no_unscoped g.2))⟩)

/-- The frame: the argument arrays end as launched, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c =>
      ⟨(h.1 c _ (mem_uc main_arg0 (by decide))).trans (W16_main_arg0 m ρ c),
       (h.1 c _ (mem_uc main_arg1 (by decide))).trans (W16_main_arg1 m ρ c)⟩, h.2⟩) (run_all m ρ)

end Cert.KernelIdeal.Gen

end
-- ==== Proof.KernelFrame.lean ====
/- The frame of the program at machine words. The program and its idealized form are the same text, so over any float model
   the statement about one is the statement about the other. -/
module

public import proofs.«01_k».proof.Defs
public import proofs.«01_k».proof.Proof.Gen.Kernel
public import proofs.«01_k».proof.Proof.Whole

@[expose] public section

set_option maxRecDepth 16384

namespace Cert.Own

open Idealize.ShloMosaic Idealize.ShloMosaic.Tactic Idealize.SL.Sem

/-- The frame statement of the program over any float model. -/
abbrev FrameK (F : FTy → Type) [FloatOps F] : Prop :=
  ∀ (m : (ℓ : Loc Cert.Kernel.nD Cert.Kernel.τ Cert.Kernel.sig) → Buf (Elt F) ℓ) (g : Dev Cert.Kernel.nD → PrngReg),
    θ_run (Cert.Kernel.defs (F := F)) (onTc (τ := Cert.Kernel.τ) (Cert.Kernel.main (F := F))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

/-- The frame statement of the idealized program over any float model. -/
abbrev FrameKI (F : FTy → Type) [FloatOps F] : Prop :=
  ∀ (m : (ℓ : Loc Cert.KernelIdeal.nD Cert.KernelIdeal.τ Cert.KernelIdeal.sig) → Buf (Elt F) ℓ) (g : Dev Cert.KernelIdeal.nD → PrngReg),
    θ_run (Cert.KernelIdeal.defs (F := F)) (onTc (τ := Cert.KernelIdeal.τ) (Cert.KernelIdeal.main (F := F))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

/-- The two statements are one. -/
theorem frame_eq (F : FTy → Type) [FloatOps F] : FrameK F = FrameKI F := by chain_rfl

/-- The program at machine words runs, and its arguments end unchanged. -/
theorem quiescent_Kernel : Cert.quiescent_Kernel := fun m g _ =>
  (Eq.mpr (frame_eq Bits) (fun m g => Cert.KernelIdeal.Gen.frame m g)) m g

/-- The idealized program runs, and its arguments end unchanged. -/
theorem quiescent_KernelIdeal : Cert.quiescent_KernelIdeal := fun m g _ => Cert.KernelIdeal.Gen.frame m g

end Cert.Own

end
-- ==== Proof.Spec.lean ====
/- The mathematics both programs share, over the extended reals: absolute values, their greatest, and the two clips. -/
module

public import Idealize.ShloMosaic.Lib.Pipeline.ValueKit

@[expose] public section

noncomputable section

namespace Cert.Own

open Idealize.ShloMosaic

/-- The pattern of minus infinity is the least extended real. -/
theorem bot_f32 : Ideal.ofBits .f32 0xFF800000#32 = ⊥ := by
  simp [Ideal.ofBits, Ideal.ieee]

/-- The absolute value. -/
abbrev aabs (x : EReal) : EReal := max x (-x)

/-- The greatest absolute value of an array. -/
def amax {ι : Type} [Fintype ι] (x : ι → EReal) : EReal := Finset.univ.sup fun i => aabs (x i)

theorem amax_le {ι : Type} [Fintype ι] (x : ι → EReal) (b : EReal) : amax x ≤ b ↔ ∀ i, aabs (x i) ≤ b := by
  simp only [amax, Finset.sup_le_iff, Finset.mem_univ, true_imp_iff]

/-- The greatest absolute value does not depend on how the elements are indexed. -/
theorem amax_equiv {ι κ : Type} [Fintype ι] [Fintype κ] (e : κ ≃ ι) (x : ι → EReal) : amax (fun j => x (e j)) = amax x := by
  refine le_antisymm ((amax_le _ _).2 fun j => (amax_le x _).1 le_rfl (e j)) ((amax_le _ _).2 fun i => ?_)
  have h := (amax_le (fun j => x (e j)) _).1 le_rfl (e.symm i)
  simpa only [Equiv.apply_symm_apply] using h

/-- The e5m2 code of a gradient element: the element times the inverse scale, clipped to the format's range. -/
def codeE5 (x inv : EReal) : EReal := min (Ideal.ofBits .bf16 0x4760#16) (max (Ideal.ofBits .bf16 0xC760#16) (x * inv))

/-- The e4m3 code of a weight: the weight times the inverse scale, clipped to the format's range. -/
def codeE4 (x inv : EReal) : EReal := min (Ideal.ofBits .f32 0x43E00000#32) (max (Ideal.ofBits .f32 0xC3E00000#32) (x * inv))

end Cert.Own
-- ==== Proof.Scale.lean ====
/- The power-of-two scale, over the extended reals. The kernel counts the powers of two up to a value and makes a float of
   the exponent's bits; the reference takes the least power of two above the value. The two agree. -/
module

public import proofs.«01_k».proof.Proof.Spec

@[expose] public section

noncomputable section

namespace Cert.Own

open Idealize.ShloMosaic

/-- A power of two. -/
def pow2 (n : ℤ) : EReal := (((2 : ℝ) ^ n : ℝ) : EReal)

theorem pow2_le {m n : ℤ} : pow2 m ≤ pow2 n ↔ m ≤ n := by
  rw [pow2, pow2, EReal.coe_le_coe_iff, zpow_le_zpow_iff_right₀ (by norm_num)]

theorem pow2_lt {m n : ℤ} : pow2 m < pow2 n ↔ m < n := by
  rw [pow2, pow2, EReal.coe_lt_coe_iff, zpow_lt_zpow_iff_right₀ (by norm_num)]

theorem pow2_zero : pow2 0 = 1 := by simp [pow2]

theorem pow2_pos (n : ℤ) : 0 < pow2 n := by
  rw [pow2, ← EReal.coe_zero, EReal.coe_lt_coe_iff]
  positivity

/-- One over a power of two. -/
theorem one_div_pow2 (n : ℤ) : Ideal.div 1 (pow2 n) = pow2 (-n) := by
  rw [Ideal.div, if_neg (pow2_pos n).ne', one_mul, pow2, pow2, zpow_neg, EReal.coe_inv]

/-- A value in the range of the normal numbers lies between two neighbouring powers of two. -/
theorem exists_exponent (x : EReal) (h0 : pow2 (-126) ≤ x) (h1 : x < pow2 126) :
    ∃ e : Fin 253, 1 ≤ e.val ∧ pow2 ((e.val : ℤ) - 127) ≤ x ∧ x < pow2 ((e.val : ℤ) - 126) := by
  have hb : ⊥ < x := (EReal.bot_lt_coe _).trans_le h0
  have ht : x < ⊤ := h1.trans (EReal.coe_lt_top _)
  lift x to ℝ using ⟨ht.ne, hb.ne'⟩
  have hx : 0 < x := by
    have := (pow2_pos (-126)).trans_le h0
    exact_mod_cast this
  obtain ⟨n, hn0, hn1⟩ := exists_mem_Ico_zpow hx (one_lt_two (α := ℝ))
  have g0 : pow2 n ≤ (x : EReal) := EReal.coe_le_coe_iff.2 hn0
  have g1 : (x : EReal) < pow2 (n + 1) := EReal.coe_lt_coe_iff.2 hn1
  have l0 : -126 < n + 1 := pow2_lt.1 (h0.trans_lt g1)
  have l1 : n < 126 := pow2_lt.1 (g0.trans_lt h1)
  refine ⟨⟨(n + 127).toNat, by omega⟩, by dsimp only; omega, ?_, ?_⟩
  · have : (((n + 127).toNat : ℕ) : ℤ) - 127 = n := by omega
    simpa only [this] using g0
  · have : (((n + 127).toNat : ℕ) : ℤ) - 126 = n + 1 := by omega
    simpa only [this] using g1

/-- The fields of a word that holds a number in the exponent bits alone. -/
theorem fields (k : Fin 255) : ((BitVec.ofNat 32 k.val <<< 23#32).extractLsb' 31 1 == 1#1) = false
    ∧ ((BitVec.ofNat 32 k.val <<< 23#32).extractLsb' 23 8).toNat = k.val
    ∧ ((BitVec.ofNat 32 k.val <<< 23#32).extractLsb' 0 23).toNat = 0 := by
  revert k
  decide +kernel

/-- The float of a word that holds a biased exponent alone is a power of two. -/
theorem ofBits_shl (k : ℕ) (h1 : 1 ≤ k) (h2 : k ≤ 254) :
    Ideal.ofBits .f32 (IntOp.shli ArithUnit.host (BitVec.ofNat 32 k) 23#32) = pow2 ((k : ℤ) - 127) := by
  obtain ⟨f1, f2, f3⟩ := fields ⟨k, by omega⟩
  dsimp only at f1 f2 f3
  have hs : IntOp.shli ArithUnit.host (BitVec.ofNat 32 k) 23#32 = BitVec.ofNat 32 k <<< 23#32 := rfl
  rw [hs, Ideal.ofBits, Ideal.ieee]
  simp only [show 8 + 23 = 31 from rfl, f1, f2, f3]
  rw [if_neg (by norm_num; omega), if_neg (by omega), pow2]
  refine EReal.coe_eq_coe_iff.2 ?_
  have h : ((k : ℤ) - 127) = 23 + ((k : ℤ) - (2 ^ (8 - 1) - 1) - (23 : ℕ)) := by norm_num
  rw [h, zpow_add₀ (by norm_num)]
  norm_num

/-- The smallest normal number. -/
theorem c_lo : Ideal.ofBits .f32 8388608#32 = pow2 (-126) := ofBits_shl 1 (by norm_num) (by norm_num)
/-- The end of the range of the scale. -/
theorem c_hi : Ideal.ofBits .f32 2122317824#32 = pow2 126 := ofBits_shl 253 (by norm_num) (by norm_num)
theorem c_two : Ideal.ofBits .f32 1073741824#32 = ((2 : ℝ) : EReal) := by
  rw [show Ideal.ofBits .f32 1073741824#32 = pow2 1 from ofBits_shl 128 (by norm_num) (by norm_num), pow2, zpow_one]
theorem c_126 : Ideal.ofBits .f32 1123811328#32 = ((126 : ℝ) : EReal) := by
  have f1 : ((1123811328#32).extractLsb' 31 1 == 1#1) = false := by decide +kernel
  have f2 : ((1123811328#32).extractLsb' 23 8).toNat = 133 := by decide +kernel
  have f3 : ((1123811328#32).extractLsb' 0 23).toNat = 8126464 := by decide +kernel
  rw [Ideal.ofBits, Ideal.ieee]
  simp only [show 8 + 23 = 31 from rfl, f1, f2, f3]
  rw [if_neg (by norm_num), if_neg (by norm_num)]
  refine EReal.coe_eq_coe_iff.2 ?_
  norm_num
theorem c_top : Ideal.ofBits .f32 2139095040#32 = ⊤ := by
  simp [Ideal.ofBits, Ideal.ieee]

/-- The least power of two above a value in the range of the normal numbers; 1 outside it. -/
def scaleOf (x : EReal) : EReal :=
  if pow2 (-126) ≤ x ∧ x < pow2 126 then
    Finset.univ.fold min ⊤ fun k : Fin 253 => if x < pow2 ((k.val : ℤ) - 126) then pow2 ((k.val : ℤ) - 126) else ⊤
  else 1

/-- The scale, where the value's exponent is known. -/
theorem scaleOf_eq (x : EReal) (h : pow2 (-126) ≤ x ∧ x < pow2 126) (e : Fin 253)
    (g0 : pow2 ((e.val : ℤ) - 127) ≤ x) (g1 : x < pow2 ((e.val : ℤ) - 126)) : scaleOf x = pow2 ((e.val : ℤ) - 126) := by
  rw [scaleOf, if_pos h]
  refine le_antisymm ?_ ?_
  · rw [Finset.fold_min_le]
    exact Or.inr ⟨e, Finset.mem_univ _, by rw [if_pos g1]⟩
  · rw [Finset.le_fold_min]
    refine ⟨le_top, fun k _ => ?_⟩
    split
    · rename_i hk
      rw [pow2_le]
      have := pow2_lt.1 (g0.trans_lt hk)
      omega
    · exact le_top

/-- A sum of one-bit words is the number of those set. -/
theorem count_fold (p : Fin 254 → Prop) [DecidablePred p] (s : Finset (Fin 254)) :
    (s.fold IntOp.addi 0#32 fun k => BitVec.setWidth 32 (BitVec.ofBool (decide (p k)))) = BitVec.ofNat 32 (s.filter p).card := by
  induction s using Finset.induction_on with
  | empty => rfl
  | insert a s ha ih =>
    rw [Finset.fold_insert ha, ih, Finset.filter_insert]
    by_cases h : p a
    · rw [if_pos h, Finset.card_insert_of_notMem (fun hm => ha (Finset.mem_filter.1 hm).1), decide_eq_true h, BitVec.ofNat_add,
        BitVec.add_comm]
      rfl
    · rw [if_neg h, decide_eq_false h]
      exact BitVec.zero_add _

/-- A sum of ones over the numbers below a bound is the bound. -/
theorem count_lt (e : ℕ) (he : e ≤ 254) :
    (Finset.univ.fold IntOp.addi 0#32 fun k : Fin 254 => BitVec.setWidth 32 (BitVec.ofBool (decide (k.val < e))))
      = BitVec.ofNat 32 e := by
  rw [count_fold]
  have h2 : (Finset.univ.filter fun k : Fin 254 => k.val < e).card = e := by
    rw [Fin.card_filter_val_lt]; omega
  rw [h2]

/-- The exponent word the kernel makes of a greatest absolute value `a` and the value `x` it is scaled to. -/
def expWord (a x : EReal) : BitVec 32 :=
  if a = 0 then 0#32 else
    Scalar.select (IntOp.andi (BitVec.ofBool (decide (Ideal.ofBits .f32 8388608#32 ≤ x))) (BitVec.ofBool (decide (x < Ideal.ofBits .f32 2122317824#32))))
      (IntOp.subi (Finset.univ.fold IntOp.addi 0#32 fun k : Fin 254 => BitVec.setWidth 32
        (BitVec.ofBool (decide (Ideal.ofBits .f32 (IntOp.shli ArithUnit.host (IntOp.addi (BitVec.ofNat 32 k.val) 1#32) 23#32) ≤ x)))) 126#32)
      0#32

theorem select_and (p q : Prop) [Decidable p] [Decidable q] {α : Type} (a b : α) :
    Scalar.select (IntOp.andi (BitVec.ofBool (decide p)) (BitVec.ofBool (decide q))) a b = if p ∧ q then a else b := by
  by_cases hp : p <;> by_cases hq : q <;> simp [hp, hq, Scalar.select, IntOp.andi]

theorem expWord_out (a x : EReal) (hx : a = 0 → x = 0) (h : ¬ (pow2 (-126) ≤ x ∧ x < pow2 126)) : expWord a x = 0#32 := by
  rw [expWord, c_lo, c_hi, select_and, if_neg h, ite_self]

theorem expWord_in (a x : EReal) (hx : a = 0 → x = 0) (h : pow2 (-126) ≤ x ∧ x < pow2 126) (e : Fin 253)
    (g0 : pow2 ((e.val : ℤ) - 127) ≤ x) (g1 : x < pow2 ((e.val : ℤ) - 126)) : expWord a x = BitVec.ofNat 32 e.val - 126#32 := by
  have ha : a ≠ 0 := fun h0 => absurd ((pow2_pos _).trans_le h.1) (by rw [hx h0]; exact lt_irrefl _)
  have hc : ∀ k : Fin 254, (Ideal.ofBits .f32 (IntOp.shli ArithUnit.host (IntOp.addi (BitVec.ofNat 32 k.val) 1#32) 23#32) ≤ x) ↔ k.val < e.val := by
    intro k
    have hk : IntOp.addi (BitVec.ofNat 32 k.val) 1#32 = BitVec.ofNat 32 (k.val + 1) := by
      rw [IntOp.addi, BitVec.ofNat_add]
    rw [hk, ofBits_shl _ (by omega) (by omega)]
    constructor
    · intro hle
      have := pow2_lt.1 (hle.trans_lt g1)
      omega
    · intro hlt
      refine le_trans (pow2_le.2 ?_) g0
      omega
  rw [expWord, c_lo, c_hi, select_and, if_neg ha, if_pos h]
  simp only [hc]
  rw [count_lt _ (by omega)]
  rfl

/-- The scale the kernel makes of the exponent word. -/
theorem scale_word (a x : EReal) (hx : a = 0 → x = 0) :
    Ideal.ofBits .f32 (IntOp.shli ArithUnit.host (IntOp.addi (expWord a x) 127#32) 23#32) = scaleOf x := by
  by_cases h : pow2 (-126) ≤ x ∧ x < pow2 126
  · obtain ⟨e, he, g0, g1⟩ := exists_exponent x h.1 h.2
    rw [expWord_in a x hx h e g0 g1, scaleOf_eq x h e g0 g1]
    have hw : ∀ e : Fin 253, IntOp.addi (BitVec.ofNat 32 e.val - 126#32) 127#32 = BitVec.ofNat 32 (e.val + 1) := by decide +kernel
    rw [hw, ofBits_shl _ (by omega) (by omega)]
    congr 1
    push_cast
    ring
  · rw [expWord_out a x hx h, scaleOf, if_neg h, ← pow2_zero]
    exact ofBits_shl 127 (by norm_num) (by norm_num)

/-- The inverse scale the kernel makes of the exponent word, negated. -/
theorem inv_word (a x : EReal) (hx : a = 0 → x = 0) :
    Ideal.ofBits .f32 (IntOp.shli ArithUnit.host (IntOp.addi (-expWord a x) 127#32) 23#32) = Ideal.div 1 (scaleOf x) := by
  by_cases h : pow2 (-126) ≤ x ∧ x < pow2 126
  · obtain ⟨e, he, g0, g1⟩ := exists_exponent x h.1 h.2
    rw [expWord_in a x hx h e g0 g1, scaleOf_eq x h e g0 g1, one_div_pow2]
    have hw : ∀ e : Fin 253, IntOp.addi (-(BitVec.ofNat 32 e.val - 126#32)) 127#32 = BitVec.ofNat 32 (253 - e.val) := by decide +kernel
    rw [hw, ofBits_shl _ (by omega) (by omega)]
    congr 1
    have := e.isLt
    omega
  · have h1 := one_div_pow2 0
    rw [pow2_zero, neg_zero] at h1
    rw [expWord_out a x hx h, scaleOf, if_neg h, h1]
    exact ofBits_shl 127 (by norm_num) (by norm_num)

/-- The reference's power of two. -/
theorem pow_two (k : Fin 253) : Ideal.pow (Ideal.ofBits .f32 1073741824#32)
    (FloatOps.sitofp (F := Ideal) FTy.f32 (BitVec.ofNat 32 k.val) - Ideal.ofBits .f32 1123811328#32) = pow2 ((k.val : ℤ) - 126) := by
  have h1 : FloatOps.sitofp (F := Ideal) FTy.f32 (BitVec.ofNat 32 k.val) = (((k.val : ℝ)) : EReal) := by
    have hi : (BitVec.ofNat 32 k.val).toInt = (k.val : ℤ) := by
      revert k
      decide +kernel
    show ((((BitVec.ofNat 32 k.val).toInt : ℝ)) : EReal) = _
    rw [hi, Int.cast_natCast]
  rw [h1, c_two, c_126, ← EReal.coe_sub]
  show ((Real.rpow 2 ((k.val : ℝ) - 126) : ℝ) : EReal) = _
  rw [pow2]
  congr 1
  have : ((k.val : ℝ) - 126) = (((k.val : ℤ) - 126 : ℤ) : ℝ) := by push_cast; ring
  rw [this]
  exact Real.rpow_intCast 2 _

/-- The reference's scale. -/
theorem ref_scale (x : EReal) :
    Scalar.select (IntOp.andi (BitVec.ofBool (decide (Ideal.ofBits .f32 8388608#32 ≤ x))) (BitVec.ofBool (decide (x < Ideal.ofBits .f32 2122317824#32))))
      (Finset.univ.fold min (Ideal.ofBits .f32 2139095040#32) fun k : Fin 253 =>
        if x < Ideal.pow (Ideal.ofBits .f32 1073741824#32) (FloatOps.sitofp (F := Ideal) FTy.f32 (BitVec.ofNat 32 k.val) - Ideal.ofBits .f32 1123811328#32) then
          Ideal.pow (Ideal.ofBits .f32 1073741824#32) (FloatOps.sitofp (F := Ideal) FTy.f32 (BitVec.ofNat 32 k.val) - Ideal.ofBits .f32 1123811328#32)
        else Ideal.ofBits .f32 2139095040#32)
      1 = scaleOf x := by
  rw [c_lo, c_hi, select_and, c_top]
  simp only [pow_two]
  rfl

end Cert.Own
-- ==== Proof.AmaxDy.lean ====
/- What the maximum call over the gradient leaves: the greatest absolute value of the whole array. -/
module

public import proofs.«01_k».proof.Proof.Whole.Region0
public import proofs.«01_k».proof.Proof.Spec
public import Idealize.ShloMosaic.Lib.Pipeline.ValueKit
public import Idealize.ShloMosaic.Lib.Pipeline.ReadBack
public import Idealize.ShloMosaic.Lib.Tactic

@[expose] public section

noncomputable section

namespace Cert.KernelIdeal.AmaxDy

open Cert.KernelIdeal Cert.KernelIdeal.Gen Cert.Own Idealize.ShloMosaic Idealize.ShloMosaic.TcCoe Idealize.SL.Sem

variable (V : (c : Dev nD) → (b : Ref sig .tc) → Buf (Elt Ideal) ((c : Thread nD τ).loc b))

/-- The pattern of minus infinity in the narrow format is the least extended real. -/
theorem bot_bf16 : Ideal.ofBits .bf16 0xFF80#16 = ⊥ := by
  simp [Ideal.ofBits, Ideal.ieee]

/-- The block's group maxima are at most `b` iff all their elements' absolute values are. -/
theorem pay1_le (v6 : Vec Ideal S1024x3584 .bf16) (g : Fin 16) (j : Fin 3584) (b : EReal) :
    k0_pay1 v6 (ix2 g j) ≤ b ↔ ∀ q : Fin 64, aabs (v6 (ix2 ⟨q.val * 16 + g.val, by omega⟩ j)) ≤ b := by
  pointwise [k0_pay1]
  rw [Finset.fold_max_le, bot_bf16]
  simp only [bot_le, true_and, Finset.mem_univ, true_imp_iff]
  exact Iff.rfl

theorem pay3_le (v6 : Vec Ideal S1024x3584 .bf16) (v17 : Vec Ideal S16x3584 .bf16) (g : Fin 16) (j : Fin 3584) (b : EReal) :
    k0_pay3 v6 v17 (ix2 g j) ≤ b ↔ v17 (ix2 g j) ≤ b ∧ ∀ q : Fin 64, aabs (v6 (ix2 ⟨q.val * 16 + g.val, by omega⟩ j)) ≤ b := by
  rw [← pay1_le, ← max_le_iff]
  pointwise [k0_pay3]

theorem pay2_le (v6 : Vec Ideal S1024x3584 .bf16) (g : Fin 16) (j : Fin 3584) (b : EReal) :
    k0_pay2 v6 (ix2 g j) ≤ b ↔ ∀ q : Fin 64, aabs (v6 (ix2 ⟨q.val * 16 + g.val, by omega⟩ j)) ≤ b := by
  rw [← pay1_le]
  pointwise [k0_pay2]

/-- The last reduction is at most `b` iff every group maximum is. -/
theorem pay4_le (v : Vec Ideal S16x3584 .bf16) (b : EReal) :
    k0_pay4 v ≤ b ↔ ∀ (g : Fin 16) (j : Fin 3584), v (ix2 g j) ≤ b := by
  pointwise [k0_pay4]
  rw [Finset.fold_max_le, bot_f32]
  simp only [bot_le, true_and, Finset.mem_univ, true_imp_iff, Prod.forall]

/-- The block indices of the windows at a grid point. -/
theorem idx : ∀ t : Fin cfg0.N,
    win0_0.index t (0 : Fin 2) = t.val / 10 ∧ win0_0.index t (1 : Fin 2) = t.val % 10
    ∧ win0_1.index t (0 : Fin 2) = 0 ∧ win0_1.index t (1 : Fin 2) = 0 :=
  (by decide +kernel : ∀ t : Fin grid0.N, _)

/-- The first point leaves its block's group maxima in the scratch. -/
theorem acc_first (c : Dev nD) (t : Fin cfg0.N) (h : t.val = 0) :
    (outsAt0 V c t.val t.isLt).2 = k0_pay2 (iblk0 V c 0 t) := by
  rw [outsAt0_A V c t (by omega) (by omega) (by omega)]; frame_out

/-- Every later point leaves the maximum of what was there and its block's group maxima. -/
theorem acc_next (c : Dev nD) (t : Fin cfg0.N) (h : 1 ≤ t.val) :
    (outsAt0 V c t.val t.isLt).2
      = k0_pay3 (iblk0 V c 0 t) (outsAt0 V c (t.val - 1) (Nat.lt_of_le_of_lt (Nat.sub_le _ _) t.isLt)).2 := by
  have hN : t.val < 180 := lt_of_lt_of_eq t.isLt (show cfg0.N = 180 from N_0)
  by_cases h2 : t.val % 180 = 179
  · rw [outsAt0_C V c t (by omega) h h2]; frame_out; rw [read_unread_whole]
  · rw [outsAt0_B V c t (by omega) h h2]; frame_out; rw [read_unread_whole]

/-- The result word at the last point: the last reduction of the scratch. -/
theorem out_last (c : Dev nD) (t : Fin cfg0.N) (h : t.val % 180 = 179) :
    (outsAt0 V c t.val t.isLt).1 (ix2 0 0) = k0_pay4 (outsAt0 V c t.val t.isLt).2 := by
  rw [outsAt0_C V c t (by omega) (by omega) h]; frame_out

/-- After a point, a scratch entry is at most `b` iff the absolute values of its group's elements are, in all blocks so
    far. -/
theorem acc_le (c : Dev nD) (n : ℕ) (hn : n < cfg0.N) (g : Fin 16) (j : Fin 3584) (b : EReal) :
    (outsAt0 V c n hn).2 (ix2 g j) ≤ b
      ↔ ∀ (s : Fin cfg0.N), s.val ≤ n → ∀ q : Fin 64, aabs (iblk0 V c 0 s (ix2 ⟨q.val * 16 + g.val, by omega⟩ j)) ≤ b := by
  induction n with
  | zero =>
    rw [acc_first V c ⟨0, hn⟩ rfl, pay2_le]
    constructor
    · intro h s hs q
      obtain rfl : s = ⟨0, hn⟩ := Fin.ext (Nat.le_zero.mp hs)
      exact h q
    · exact fun h q => h ⟨0, hn⟩ (le_refl _) q
  | succ n ih =>
    rw [acc_next V c ⟨n + 1, hn⟩ (by simp), pay3_le]
    rw [show (outsAt0 V c ((⟨n + 1, hn⟩ : Fin cfg0.N).val - 1) _).2 (ix2 g j) = (outsAt0 V c n (by omega)).2 (ix2 g j) from rfl,
      ih (by omega)]
    constructor
    · rintro ⟨h1, h2⟩ s hs q
      rcases Nat.lt_or_ge n s.val with h | h
      · obtain rfl : s = ⟨n + 1, hn⟩ := Fin.ext (by simp; omega)
        exact h2 q
      · exact h1 s h q
    · exact fun h => ⟨fun s hs q => h s (by omega) q, fun q => h ⟨n + 1, hn⟩ (le_refl _) q⟩

/-- A block's element is the array's element at the block's place. -/
theorem blk_apply (c : Dev nD) (s : Fin cfg0.N) (r : Fin 1024) (j : Fin 3584) (i : S18432x35840.Idx)
    (h0 : (i 0).val = s.val / 10 * 1024 + r.val) (h1 : (i 1).val = s.val % 10 * 3584 + j.val) :
    iblk0 V c 0 s (ix2 r j) = V c main_v0 i := by
  obtain ⟨a, d, rfl⟩ : ∃ (a : Fin 18432) (d : Fin 35840), i = ix2 a d := ⟨i 0, i 1, (ix2_eta i).symm⟩
  replace h0 : a.val = s.val / 10 * 1024 + r.val := h0
  replace h1 : d.val = s.val % 10 * 3584 + j.val := h1
  blk_ext [iblk0, idx s, h0, h1]

/-- The result word at the last point is the greatest absolute value of the array. -/
theorem out_amax (c : Dev nD) (t : Fin cfg0.N) (h : t.val % 180 = 179) :
    (outsAt0 V c t.val t.isLt).1 (ix2 0 0) = amax (V c main_v0 : S18432x35840.Idx → EReal) := by
  have hN : t.val < 180 := lt_of_lt_of_eq t.isLt (show cfg0.N = 180 from N_0)
  rw [out_last V c t h]
  refine eq_of_forall_ge_iff fun b => ?_
  rw [pay4_le, amax_le]
  constructor
  · intro H i
    have i0 : (i 0).val < 18432 := (i 0).isLt
    have i1 : (i 1).val < 35840 := (i 1).isLt
    have hs : (i 0).val / 1024 * 10 + (i 1).val / 3584 < cfg0.N := lt_of_lt_of_eq (by omega) N_0.symm
    have := (acc_le V c t.val t.isLt _ _ b).mp (H ⟨(i 0).val % 16, by omega⟩ ⟨(i 1).val % 3584, by omega⟩) ⟨_, hs⟩ (by simp only; omega) ⟨(i 0).val % 1024 / 16, by omega⟩
    rwa [blk_apply V c _ _ _ i (by simp only; omega) (by simp only; omega)] at this
  · intro H g j
    refine (acc_le V c t.val t.isLt g j b).mpr fun s _ q => ?_
    have hs : s.val < 180 := lt_of_lt_of_eq s.isLt (show cfg0.N = 180 from N_0)
    rw [blk_apply V c s _ _ (ix2 ⟨s.val / 10 * 1024 + (q.val * 16 + g.val), by omega⟩ ⟨s.val % 10 * 3584 + j.val, by omega⟩) rfl rfl]
    exact H _

/-- What a point writes back to window 1's array: what the body left in that window. -/
theorem flushed1 (c : Dev nD) (t : Fin cfg0.N) :
    (dat0 V c).flushed 1 t = (cfg0.win 1).cut (grid0.coords t) ((outsAt0 V c t.val t.isLt).1) := by
  show (cfg0.win 1).cut (grid0.coords t) ((dat0 V c).after 1 t) = _
  rw [after0_1]

/-- What the last point writes back is the greatest absolute value. -/
theorem flushed_amax (c : Dev nD) (t : Fin cfg0.N) (hf : (cfg0.win 1).flush t = true) :
    (dat0 V c).flushed 1 t
      = ((cfg0.win 1).blk t).view.read (Elt Ideal) (fun _ : S1x1.Idx => amax (V c main_v0 : S18432x35840.Idx → EReal)) := by
  have h1 : t.val % 180 = 179 := (flush0_1 t).mp hf
  rw [flushed1]
  funext (y : S1x1.Idx)
  have hy : y = ix2 (0 : Fin 1) (0 : Fin 1) := by
    rw [← ix2_eta y]; exact congrArg₂ ix2 (Subsingleton.elim _ _) (Subsingleton.elim _ _)
  subst hy
  have key := out_amax V c t h1
  generalize amax (V c main_v0 : S18432x35840.Idx → EReal) = A at key ⊢
  exact key

/-- An index of the result is in a point's block iff each coordinate is in the block's range. -/
theorem mem_blk (t : Fin cfg0.N) (i : S1x1.Idx) :
    i ∈ ((cfg0.win 1).blk t).view.set ↔ ∀ a : Fin 2, win0_1.index t a * S1x1.size a ≤ (i a).val ∧ (i a).val < win0_1.index t a * S1x1.size a + S1x1.size a := by
  show i ∈ ((View.whole main_v1).slice (win0_1.rect t)).set ↔ _
  rw [View.set_slice_whole, Rect.mem_set_unit]
  exact Iff.rfl

/-- The result's array after the call: the greatest absolute value of the weight. -/
theorem final_amax (c : Dev nD) :
    (dat0 V c).arrAt 1 cfg0.N = fun _ : S1x1.Idx => amax (V c main_v0 : S18432x35840.Idx → EReal) :=
  (dat0 V c).arrAt_eq_of_cover 1 _ (fun t hf => flushed_amax V c t hf) (fun (i : S1x1.Idx) => by
    have h0 : (i 0).val < 1 := (i 0).isLt
    have h1 : (i 1).val < 1 := (i 1).isLt
    have hN : 179 < cfg0.N := lt_of_lt_of_eq (by norm_num) N_0.symm
    refine ⟨⟨179, hN⟩, (flush0_1 _).mpr rfl, (mem_blk _ i).2 ?_⟩
    obtain ⟨-, -, e0, e1⟩ := idx ⟨179, hN⟩
    intro a
    match a with
    | ⟨0, _⟩ => show win0_1.index _ (0 : Fin 2) * 1 ≤ (i 0).val ∧ (i 0).val < win0_1.index _ (0 : Fin 2) * 1 + 1; rw [e0]; omega
    | ⟨1, _⟩ => show win0_1.index _ (1 : Fin 2) * 1 ≤ (i 1).val ∧ (i 1).val < win0_1.index _ (1 : Fin 2) * 1 + 1; rw [e1]; omega)

end Cert.KernelIdeal.AmaxDy
-- ==== Proof.AmaxW.lean ====
/- What the maximum call over the weight leaves: the greatest absolute value of the whole array. -/
module

public import proofs.«01_k».proof.Proof.Whole.Region1
public import proofs.«01_k».proof.Proof.Spec
public import Idealize.ShloMosaic.Lib.Pipeline.ValueKit
public import Idealize.ShloMosaic.Lib.Pipeline.ReadBack
public import Idealize.ShloMosaic.Lib.Tactic

@[expose] public section

noncomputable section

namespace Cert.KernelIdeal.AmaxW

open Cert.KernelIdeal Cert.KernelIdeal.Gen Cert.Own Idealize.ShloMosaic Idealize.ShloMosaic.TcCoe Idealize.SL.Sem

variable (V : (c : Dev nD) → (b : Ref sig .tc) → Buf (Elt Ideal) ((c : Thread nD τ).loc b))

/-- The block's group maxima are at most `b` iff all their elements' absolute values are. -/
theorem pay1_le (v6 : Vec Ideal S512x3584 .f32) (g : Fin 8) (j : Fin 3584) (b : EReal) :
    k1_pay1 v6 (ix2 g j) ≤ b ↔ ∀ q : Fin 64, aabs (v6 (ix2 ⟨q.val * 8 + g.val, by omega⟩ j)) ≤ b := by
  pointwise [k1_pay1]
  rw [Finset.fold_max_le, bot_f32]
  simp only [bot_le, true_and, Finset.mem_univ, true_imp_iff]
  exact Iff.rfl

theorem pay3_le (v6 : Vec Ideal S512x3584 .f32) (v17 : Vec Ideal S8x3584 .f32) (g : Fin 8) (j : Fin 3584) (b : EReal) :
    k1_pay3 v6 v17 (ix2 g j) ≤ b ↔ v17 (ix2 g j) ≤ b ∧ ∀ q : Fin 64, aabs (v6 (ix2 ⟨q.val * 8 + g.val, by omega⟩ j)) ≤ b := by
  rw [← pay1_le, ← max_le_iff]
  pointwise [k1_pay3]

theorem pay2_le (v6 : Vec Ideal S512x3584 .f32) (g : Fin 8) (j : Fin 3584) (b : EReal) :
    k1_pay2 v6 (ix2 g j) ≤ b ↔ ∀ q : Fin 64, aabs (v6 (ix2 ⟨q.val * 8 + g.val, by omega⟩ j)) ≤ b := by
  rw [← pay1_le]
  pointwise [k1_pay2]

/-- The last reduction is at most `b` iff every group maximum is. -/
theorem pay4_le (v : Vec Ideal S8x3584 .f32) (b : EReal) :
    k1_pay4 v ≤ b ↔ ∀ (g : Fin 8) (j : Fin 3584), v (ix2 g j) ≤ b := by
  pointwise [k1_pay4]
  rw [Finset.fold_max_le, bot_f32]
  simp only [bot_le, true_and, Finset.mem_univ, true_imp_iff, Prod.forall]

/-- The block indices of the windows at a grid point. -/
theorem idx : ∀ t : Fin cfg1.N,
    win1_0.index t (0 : Fin 2) = t.val / 10 ∧ win1_0.index t (1 : Fin 2) = t.val % 10
    ∧ win1_1.index t (0 : Fin 2) = 0 ∧ win1_1.index t (1 : Fin 2) = 0 :=
  (by decide +kernel : ∀ t : Fin grid1.N, _)

/-- The first point leaves its block's group maxima in the scratch. -/
theorem acc_first (c : Dev nD) (t : Fin cfg1.N) (h : t.val = 0) :
    (outsAt1 V c t.val t.isLt).2 = k1_pay2 (iblk1 V c 0 t) := by
  rw [outsAt1_A V c t (by omega) (by omega) (by omega)]; frame_out

/-- Every later point leaves the maximum of what was there and its block's group maxima. -/
theorem acc_next (c : Dev nD) (t : Fin cfg1.N) (h : 1 ≤ t.val) :
    (outsAt1 V c t.val t.isLt).2
      = k1_pay3 (iblk1 V c 0 t) (outsAt1 V c (t.val - 1) (Nat.lt_of_le_of_lt (Nat.sub_le _ _) t.isLt)).2 := by
  have hN : t.val < 100 := lt_of_lt_of_eq t.isLt (show cfg1.N = 100 from N_1)
  by_cases h2 : t.val % 100 = 99
  · rw [outsAt1_C V c t (by omega) h h2]; frame_out; rw [read_unread_whole]
  · rw [outsAt1_B V c t (by omega) h h2]; frame_out; rw [read_unread_whole]

/-- The result word at the last point: the last reduction of the scratch. -/
theorem out_last (c : Dev nD) (t : Fin cfg1.N) (h : t.val % 100 = 99) :
    (outsAt1 V c t.val t.isLt).1 (ix2 0 0) = k1_pay4 (outsAt1 V c t.val t.isLt).2 := by
  rw [outsAt1_C V c t (by omega) (by omega) h]; frame_out

/-- After a point, a scratch entry is at most `b` iff the absolute values of its group's elements are, in all blocks so
    far. -/
theorem acc_le (c : Dev nD) (n : ℕ) (hn : n < cfg1.N) (g : Fin 8) (j : Fin 3584) (b : EReal) :
    (outsAt1 V c n hn).2 (ix2 g j) ≤ b
      ↔ ∀ (s : Fin cfg1.N), s.val ≤ n → ∀ q : Fin 64, aabs (iblk1 V c 0 s (ix2 ⟨q.val * 8 + g.val, by omega⟩ j)) ≤ b := by
  induction n with
  | zero =>
    rw [acc_first V c ⟨0, hn⟩ rfl, pay2_le]
    constructor
    · intro h s hs q
      obtain rfl : s = ⟨0, hn⟩ := Fin.ext (Nat.le_zero.mp hs)
      exact h q
    · exact fun h q => h ⟨0, hn⟩ (le_refl _) q
  | succ n ih =>
    rw [acc_next V c ⟨n + 1, hn⟩ (by simp), pay3_le]
    rw [show (outsAt1 V c ((⟨n + 1, hn⟩ : Fin cfg1.N).val - 1) _).2 (ix2 g j) = (outsAt1 V c n (by omega)).2 (ix2 g j) from rfl,
      ih (by omega)]
    constructor
    · rintro ⟨h1, h2⟩ s hs q
      rcases Nat.lt_or_ge n s.val with h | h
      · obtain rfl : s = ⟨n + 1, hn⟩ := Fin.ext (by simp; omega)
        exact h2 q
      · exact h1 s h q
    · exact fun h => ⟨fun s hs q => h s (by omega) q, fun q => h ⟨n + 1, hn⟩ (le_refl _) q⟩

/-- A block's element is the array's element at the block's place. -/
theorem blk_apply (c : Dev nD) (s : Fin cfg1.N) (r : Fin 512) (j : Fin 3584) (i : S5120x35840.Idx)
    (h0 : (i 0).val = s.val / 10 * 512 + r.val) (h1 : (i 1).val = s.val % 10 * 3584 + j.val) :
    iblk1 V c 0 s (ix2 r j) = V c main_arg1 i := by
  obtain ⟨a, d, rfl⟩ : ∃ (a : Fin 5120) (d : Fin 35840), i = ix2 a d := ⟨i 0, i 1, (ix2_eta i).symm⟩
  replace h0 : a.val = s.val / 10 * 512 + r.val := h0
  replace h1 : d.val = s.val % 10 * 3584 + j.val := h1
  blk_ext [iblk1, idx s, h0, h1]

/-- The result word at the last point is the greatest absolute value of the array. -/
theorem out_amax (c : Dev nD) (t : Fin cfg1.N) (h : t.val % 100 = 99) :
    (outsAt1 V c t.val t.isLt).1 (ix2 0 0) = amax (V c main_arg1 : S5120x35840.Idx → EReal) := by
  have hN : t.val < 100 := lt_of_lt_of_eq t.isLt (show cfg1.N = 100 from N_1)
  rw [out_last V c t h]
  refine eq_of_forall_ge_iff fun b => ?_
  rw [pay4_le, amax_le]
  constructor
  · intro H i
    have i0 : (i 0).val < 5120 := (i 0).isLt
    have i1 : (i 1).val < 35840 := (i 1).isLt
    have hs : (i 0).val / 512 * 10 + (i 1).val / 3584 < cfg1.N := lt_of_lt_of_eq (by omega) N_1.symm
    have := (acc_le V c t.val t.isLt _ _ b).mp (H ⟨(i 0).val % 8, by omega⟩ ⟨(i 1).val % 3584, by omega⟩) ⟨_, hs⟩ (by simp only; omega) ⟨(i 0).val % 512 / 8, by omega⟩
    rwa [blk_apply V c _ _ _ i (by simp only; omega) (by simp only; omega)] at this
  · intro H g j
    refine (acc_le V c t.val t.isLt g j b).mpr fun s _ q => ?_
    have hs : s.val < 100 := lt_of_lt_of_eq s.isLt (show cfg1.N = 100 from N_1)
    rw [blk_apply V c s _ _ (ix2 ⟨s.val / 10 * 512 + (q.val * 8 + g.val), by omega⟩ ⟨s.val % 10 * 3584 + j.val, by omega⟩) rfl rfl]
    exact H _

/-- What a point writes back to window 1's array: what the body left in that window. -/
theorem flushed1 (c : Dev nD) (t : Fin cfg1.N) :
    (dat1 V c).flushed 1 t = (cfg1.win 1).cut (grid1.coords t) ((outsAt1 V c t.val t.isLt).1) := by
  show (cfg1.win 1).cut (grid1.coords t) ((dat1 V c).after 1 t) = _
  rw [after1_1]

/-- What the last point writes back is the greatest absolute value. -/
theorem flushed_amax (c : Dev nD) (t : Fin cfg1.N) (hf : (cfg1.win 1).flush t = true) :
    (dat1 V c).flushed 1 t
      = ((cfg1.win 1).blk t).view.read (Elt Ideal) (fun _ : S1x1.Idx => amax (V c main_arg1 : S5120x35840.Idx → EReal)) := by
  have h1 : t.val % 100 = 99 := (flush1_1 t).mp hf
  rw [flushed1]
  funext (y : S1x1.Idx)
  have hy : y = ix2 (0 : Fin 1) (0 : Fin 1) := by
    rw [← ix2_eta y]; exact congrArg₂ ix2 (Subsingleton.elim _ _) (Subsingleton.elim _ _)
  subst hy
  have key := out_amax V c t h1
  generalize amax (V c main_arg1 : S5120x35840.Idx → EReal) = A at key ⊢
  exact key

/-- An index of the result is in a point's block iff each coordinate is in the block's range. -/
theorem mem_blk (t : Fin cfg1.N) (i : S1x1.Idx) :
    i ∈ ((cfg1.win 1).blk t).view.set ↔ ∀ a : Fin 2, win1_1.index t a * S1x1.size a ≤ (i a).val ∧ (i a).val < win1_1.index t a * S1x1.size a + S1x1.size a := by
  show i ∈ ((View.whole main_v28).slice (win1_1.rect t)).set ↔ _
  rw [View.set_slice_whole, Rect.mem_set_unit]
  exact Iff.rfl

/-- The result's array after the call: the greatest absolute value of the weight. -/
theorem final_amax (c : Dev nD) :
    (dat1 V c).arrAt 1 cfg1.N = fun _ : S1x1.Idx => amax (V c main_arg1 : S5120x35840.Idx → EReal) :=
  (dat1 V c).arrAt_eq_of_cover 1 _ (fun t hf => flushed_amax V c t hf) (fun (i : S1x1.Idx) => by
    have h0 : (i 0).val < 1 := (i 0).isLt
    have h1 : (i 1).val < 1 := (i 1).isLt
    have hN : 99 < cfg1.N := lt_of_lt_of_eq (by norm_num) N_1.symm
    refine ⟨⟨99, hN⟩, (flush1_1 _).mpr rfl, (mem_blk _ i).2 ?_⟩
    obtain ⟨-, -, e0, e1⟩ := idx ⟨99, hN⟩
    intro a
    match a with
    | ⟨0, _⟩ => show win1_1.index _ (0 : Fin 2) * 1 ≤ (i 0).val ∧ (i 0).val < win1_1.index _ (0 : Fin 2) * 1 + 1; rw [e0]; omega
    | ⟨1, _⟩ => show win1_1.index _ (1 : Fin 2) * 1 ≤ (i 1).val ∧ (i 1).val < win1_1.index _ (1 : Fin 2) * 1 + 1; rw [e1]; omega)

end Cert.KernelIdeal.AmaxW
-- ==== Proof.QuantiseW.lean ====
/- What the quantiser call leaves: the code of each weight. -/
module

public import proofs.«01_k».proof.Proof.Whole.Region2
public import proofs.«01_k».proof.Proof.Spec
public import Idealize.ShloMosaic.Lib.Pipeline.ValueKit
public import Idealize.ShloMosaic.Lib.Pipeline.ReadBack
public import Idealize.ShloMosaic.Lib.Tactic

@[expose] public section

noncomputable section

namespace Cert.KernelIdeal.QuantiseW

open Cert.KernelIdeal Cert.KernelIdeal.Gen Cert.Own Idealize.ShloMosaic Idealize.ShloMosaic.TcCoe Idealize.SL.Sem

variable (V : (c : Dev nD) → (b : Ref sig .tc) → Buf (Elt Ideal) ((c : Thread nD τ).loc b))

/-- The codes payload at an index. -/
theorem pay1_apply (v0 : Vec Ideal S512x3584 .f32) (v1 : Elt Ideal .f32) (r : Fin 512) (j : Fin 3584) :
    k2_pay1 v0 v1 (ix2 r j) = codeE4 (v0 (ix2 r j)) v1 := by
  pointwise [k2_pay1, codeE4]

/-- The result: the code of each weight. -/
def codes (inv : Vec Ideal S1x1 .f32) (w : Vec Ideal S5120x35840 .f32) : Vec Ideal S5120x35840 .fp8e4m3 :=
  fun i => codeE4 (w i) (inv (ix2 0 0))

/-- The block indices of the windows at a grid point. -/
theorem idx : ∀ t : Fin cfg2.N,
    win2_1.index t (0 : Fin 2) = t.val / 10 ∧ win2_1.index t (1 : Fin 2) = t.val % 10
    ∧ win2_2.index t (0 : Fin 2) = t.val / 10 ∧ win2_2.index t (1 : Fin 2) = t.val % 10
    ∧ win2_0.index t (0 : Fin 2) = 0 ∧ win2_0.index t (1 : Fin 2) = 0 :=
  (by decide +kernel : ∀ t : Fin grid2.N, _)

/-- The word the body loads is the inverse scale. -/
theorem ld_inv (x : Vec Ideal S1x1 .f32) (h) (h') :
    View.ld x (Rect.unit ![0, 0] ![1, 1] h) (Shape.Idx.first h') = x (ix2 0 0) := by
  refine congrArg x (funext fun a => Fin.ext ?_)
  match a with | ⟨0, _⟩ => rfl | ⟨1, _⟩ => rfl

/-- What every point writes back is its block of `codes`. -/
theorem flushed_codes (c : Dev nD) (t : Fin cfg2.N) :
    (dat2 V c).flushed 2 t = ((cfg2.win 2).blk t).view.read (Elt Ideal) (codes (V c main_v55) (V c main_arg1)) := by
  show (cfg2.win 2).cut (grid2.coords t) ((dat2 V c).after 2 t) = _
  rw [after2_2, outsAt2]
  frame_out
  rw [ld_inv]
  funext y
  obtain ⟨r, n, rfl⟩ : ∃ (r : Fin 512) (n : Fin 3584), y = ix2 r n := ⟨y 0, y 1, (ix2_eta y).symm⟩
  show k2_pay1 (iblk2 V c 1 t) (iblk2 V c 0 t (ix2 0 0)) (ix2 r n)
    = codes (V c main_v55) (V c main_arg1) (((cfg2.win 2).blk t).view.emb (ix2 r n))
  rw [pay1_apply]
  unfold codes
  refine congrArg₂ codeE4 ?_ ?_ <;> blk_ext [iblk2, idx t]

/-- An index of the array is in a point's block iff each coordinate is in the block's range. -/
theorem mem_blk (t : Fin cfg2.N) (i : S5120x35840.Idx) :
    i ∈ ((cfg2.win 2).blk t).view.set ↔ ∀ a : Fin 2, win2_2.index t a * S512x3584.size a ≤ (i a).val ∧ (i a).val < win2_2.index t a * S512x3584.size a + S512x3584.size a := by
  show i ∈ ((View.whole main_v56).slice (win2_2.rect t)).set ↔ _
  rw [View.set_slice_whole, Rect.mem_set_unit]
  exact Iff.rfl

/-- The result's array after the call: the points' blocks tile it. -/
theorem final_codes (c : Dev nD) : (dat2 V c).arrAt 2 cfg2.N = codes (V c main_v55) (V c main_arg1) :=
  (dat2 V c).arrAt_eq_of_cover 2 _ (fun t _ => flushed_codes V c t) (fun (i : S5120x35840.Idx) => by
    have h0 : (i 0).val < 5120 := (i 0).isLt
    have h1 : (i 1).val < 35840 := (i 1).isLt
    have hN : 10 * ((i 0).val / 512) + (i 1).val / 3584 < cfg2.N := lt_of_lt_of_eq (by omega) N_2.symm
    refine ⟨⟨10 * ((i 0).val / 512) + (i 1).val / 3584, hN⟩, flush2_2 _, (mem_blk _ i).2 ?_⟩
    obtain ⟨-, -, e0, e1, -⟩ := idx ⟨10 * ((i 0).val / 512) + (i 1).val / 3584, hN⟩
    intro a
    match a with
    | ⟨0, _⟩ =>
      show win2_2.index _ (0 : Fin 2) * 512 ≤ (i 0).val ∧ (i 0).val < win2_2.index _ (0 : Fin 2) * 512 + 512
      rw [e0]; dsimp only; omega
    | ⟨1, _⟩ =>
      show win2_2.index _ (1 : Fin 2) * 3584 ≤ (i 1).val ∧ (i 1).val < win2_2.index _ (1 : Fin 2) * 3584 + 3584
      rw [e1]; dsimp only; omega)

end Cert.KernelIdeal.QuantiseW
-- ==== Proof.Dgrad.lean ====
/- What the gradient call leaves in its two results, as functions of its three operands: the codes of the incoming gradient
   element by element, and the product over the whole contracted axis, scaled. -/
module

public import proofs.«01_k».proof.Proof.Whole.Region3
public import proofs.«01_k».proof.Proof.Spec
public import Idealize.ShloMosaic.Lib.Pipeline.ValueKit
public import Idealize.ShloMosaic.Lib.Pipeline.ReadBack
public import Idealize.ShloMosaic.Lib.Tactic
public import Idealize.ShloMosaic.Lib.MatmulPlain

@[expose] public section

noncomputable section

namespace Cert.KernelIdeal.Dgrad

open Cert.KernelIdeal Cert.KernelIdeal.Gen Cert.Own Idealize.ShloMosaic Idealize.ShloMosaic.TcCoe Idealize.SL.Sem

variable (V : (c : Dev nD) → (b : Ref sig .tc) → Buf (Elt Ideal) ((c : Thread nD τ).loc b))

/-- The codes payload at an index. -/
theorem pay2_apply (v0 : Elt Ideal .f32) (v3 : Vec Ideal S1x1024x1024 .bf16) (r j : Fin 1024) :
    k3_pay2 v0 v3 (ix3 0 r j) = codeE5 (v3 (ix3 0 r j)) v0 := by
  pointwise [k3_pay2, codeE5]

/-- The accumulation payload at an index: what the accumulator held plus the product of the two blocks. -/
theorem pay4_apply (v18 : Vec Ideal S1024x5120 .f32) (v19 : Vec Ideal S1x1024x1024 .fp8e5m2) (v21 : Vec Ideal S5120x1024 .fp8e4m3)
    (r : Fin 1024) (n : Fin 5120) :
    k3_pay4 v18 v19 v21 (ix2 r n) = v18 (ix2 r n) + ∑ k : Fin 1024, v19 (ix3 0 r k) * v21 (ix2 n k) := by
  pointwise [k3_pay4]

/-- The scaling payload at an index. -/
theorem pay1_apply (v30 : Vec Ideal S1024x5120 .f32) (v31 : Elt Ideal .f32) (r : Fin 1024) (n : Fin 5120) :
    k3_pay1 v30 v31 (ix3 0 r n) = v30 (ix2 r n) * v31 := by
  pointwise [k3_pay1]

/-- The accumulator's starting block is zero. -/
theorem pay3_apply (i : S1024x5120.Idx) : k3_pay3 (F := Ideal) i = 0 := by
  pointwise [k3_pay3]

/-- The block indices of the windows at a grid point. -/
theorem idx : ∀ t : Fin cfg3.N,
    win3_1.index t (0 : Fin 3) = t.val / 35 / 3 ∧ win3_1.index t (1 : Fin 3) = t.val / 35 % 3 ∧ win3_1.index t (2 : Fin 3) = t.val % 35
    ∧ win3_2.index t (0 : Fin 2) = 0 ∧ win3_2.index t (1 : Fin 2) = t.val % 35
    ∧ win3_3.index t (0 : Fin 3) = t.val / 35 / 3 ∧ win3_3.index t (1 : Fin 3) = t.val / 35 % 3 ∧ win3_3.index t (2 : Fin 3) = 0
    ∧ win3_4.index t (0 : Fin 3) = t.val / 35 / 3 ∧ win3_4.index t (1 : Fin 3) = t.val / 35 % 3 ∧ win3_4.index t (2 : Fin 3) = t.val % 35
    ∧ win3_0.index t (0 : Fin 2) = 0 ∧ win3_0.index t (1 : Fin 2) = 0 :=
  (by decide +kernel : ∀ t : Fin grid3.N, _)

/-- The scalar word the body loads first is entry (0, 0) of the scalars. -/
theorem ld_inv (x : Vec Ideal S1x2 .f32) (h) (h') :
    View.ld x (Rect.unit ![0, 0] ![1, 1] h) (Shape.Idx.first h') = x (ix2 0 0) := by
  refine congrArg x (funext fun a => Fin.ext ?_)
  match a with | ⟨0, _⟩ => rfl | ⟨1, _⟩ => rfl

/-- The scalar word the body loads last is entry (0, 1) of the scalars. -/
theorem ld_scale (x : Vec Ideal S1x2 .f32) (h) (h') :
    View.ld x (Rect.unit ![0, 1] ![1, 1] h) (Shape.Idx.first h') = x (ix2 0 1) := by
  refine congrArg x (funext fun a => Fin.ext ?_)
  match a with | ⟨0, _⟩ => rfl | ⟨1, _⟩ => rfl

/-- What every point leaves of the codes: the codes of its block. -/
theorem codes_point (c : Dev nD) (t : Fin cfg3.N) :
    (outsAt3 V c t.val t.isLt).2.1 = k3_pay2 (iblk3 V c 0 t (ix2 0 0)) (iblk3 V c 1 t) := by
  by_cases h0 : t.val % 35 = 0
  · have h1 : ¬t.val % 35 = 34 := by omega
    rw [outsAt3_A V c t h0 h1]; frame_out; rw [ld_inv]
  · by_cases h1 : t.val % 35 = 34
    · rw [outsAt3_C V c t h0 h1]; frame_out; rw [ld_inv]
    · rw [outsAt3_B V c t h0 h1]; frame_out; rw [ld_inv]

/-- What a point adds to the accumulator: the product of its block's codes with its block of the weight codes. -/
def term (c : Dev nD) (t : Fin cfg3.N) (i : S1024x5120.Idx) : EReal :=
  ∑ k : Fin 1024, codeE5 (iblk3 V c 1 t (ix3 0 (i 0) k)) (iblk3 V c 0 t (ix2 0 0)) * iblk3 V c 2 t (ix2 (i 1) k)

theorem step_apply (c : Dev nD) (t : Fin cfg3.N) (acc : Vec Ideal S1024x5120 .f32) (i : S1024x5120.Idx) :
    k3_pay4 acc (k3_pay2 (iblk3 V c 0 t (ix2 0 0)) (iblk3 V c 1 t)) (iblk3 V c 2 t) i = acc i + term V c t i := by
  obtain ⟨r, n, rfl⟩ : ∃ (r : Fin 1024) (n : Fin 5120), i = ix2 r n := ⟨i 0, i 1, (ix2_eta i).symm⟩
  rw [pay4_apply]
  simp only [pay2_apply]
  rfl

/-- The accumulator at the last point of a run: the sum of the run's 35 products. -/
theorem acc_run (c : Dev nD) (t : Fin cfg3.N) (h1 : t.val % 35 = 34) (i : S1024x5120.Idx) :
    (outsAt3 V c t.val t.isLt).2.2 i
      = ∑ s : Fin 35, term V c ⟨35 * (t.val / 35) + s.val, Pipeline.run_point_lt_of_flush t h1 s⟩ i := by
  rw [Pipeline.eq_sum_fin_of_reset_step_apply_of_flush (fun n h => (outsAt3 V c n h).2.2) 35 (fun _ => (0 : EReal)) (term V c)
    (fun t h i => by
      have h1 : ¬t.val % 35 = 34 := by omega
      rw [outsAt3_A V c t h h1]; frame_out; rw [ld_inv, step_apply, pay3_apply])
    (fun t h i => by
      by_cases h1 : t.val % 35 = 34
      · rw [outsAt3_C V c t h h1]; frame_out; rw [ld_inv, step_apply, read_unread_whole]
      · rw [outsAt3_B V c t h h1]; frame_out; rw [ld_inv, step_apply, read_unread_whole])
    t h1 i, zero_add]

/-- The result block at a point that writes it back: the accumulator times the scale. -/
theorem dx_point (c : Dev nD) (t : Fin cfg3.N) (h1 : t.val % 35 = 34) :
    (outsAt3 V c t.val t.isLt).1 = k3_pay1 (outsAt3 V c t.val t.isLt).2.2 (iblk3 V c 0 t (ix2 0 1)) := by
  have h0 : ¬t.val % 35 = 0 := by omega
  rw [outsAt3_C V c t h0 h1]; frame_out; rw [ld_scale]

/-- The first result: each gradient row's codes times each row of weight codes, over the whole contracted axis, scaled. -/
def dx (sc : Vec Ideal S1x2 .f32) (dy : Vec Ideal S6x3072x35840 .bf16) (wq : Vec Ideal S5120x35840 .fp8e4m3) :
    Vec Ideal S6x3072x5120 .bf16 :=
  fun i => (∑ l : Fin 35840, codeE5 (dy (ix3 (i 0) (i 1) l)) (sc (ix2 0 0)) * wq (ix2 (i 2) l)) * sc (ix2 0 1)

/-- The second result: the code of each gradient element. -/
def codes (sc : Vec Ideal S1x2 .f32) (dy : Vec Ideal S6x3072x35840 .bf16) : Vec Ideal S6x3072x35840 .fp8e5m2 :=
  fun i => codeE5 (dy i) (sc (ix2 0 0))

/-- The scalars' block at any point is the whole array of scalars. -/
theorem scal_eq (c : Dev nD) (t : Fin cfg3.N) (a : Fin 1) (b : Fin 2) :
    iblk3 V c 0 t (ix2 a b) = V c main_v61 (ix2 a b) := by
  blk_ext [iblk3, idx t]

/-- The blocks of window 3 lie in the array. -/
theorem idx_facts3 : ∀ t : Fin cfg3.N, 0 ≤ win3_3.index t (0 : Fin 3) ∧ win3_3.index t (0 : Fin 3) ≤ 5
    ∧ 0 ≤ win3_3.index t (1 : Fin 3) ∧ win3_3.index t (1 : Fin 3) ≤ 2
    ∧ 0 ≤ win3_3.index t (2 : Fin 3) ∧ win3_3.index t (2 : Fin 3) ≤ 0
    ∧ 3 * (win3_3.index t (0 : Fin 3) - 0) + 1 * (win3_3.index t (1 : Fin 3) - 0) + 1 * (win3_3.index t (2 : Fin 3) - 0) = t.val / 35 :=
  (by decide +kernel : ∀ t : Fin grid3.N, _)

/-- A point that writes back the block at a given place. -/
abbrev onto3Pt (q0 : Fin 6) (q1 : Fin 3) (q2 : Fin 1) : Fin grid3.N :=
  ⟨35 * (3 * q0.val + 1 * q1.val + 1 * q2.val) + 34, lt_of_lt_of_eq (by omega) N_3.symm⟩
/-- Every block is written back by some point. -/
theorem idx_onto3 : ∀ (q0 : Fin 6) (q1 : Fin 3) (q2 : Fin 1), ∃ t : Fin cfg3.N, (cfg3.win 3).flush t = true ∧ win3_3.index t = ![q0.val + 0, q1.val + 0, q2.val + 0] :=
  fun q0 q1 q2 => ⟨onto3Pt q0 q1 q2, (by decide +kernel : ∀ (q0 : Fin 6) (q1 : Fin 3) (q2 : Fin 1), win3_3.flush (onto3Pt q0 q1 q2) = true ∧ win3_3.index (onto3Pt q0 q1 q2) = ![q0.val + 0, q1.val + 0, q2.val + 0]) q0 q1 q2⟩

/-- An index of the array is in a point's block iff each coordinate is in the block's range. -/
theorem mem_blk3 (t : Fin cfg3.N) (i : S6x3072x5120.Idx) :
    i ∈ ((cfg3.win 3).blk t).view.set ↔ ∀ a : Fin 3, win3_3.index t a * S1x1024x5120.size a ≤ (i a).val ∧ (i a).val < win3_3.index t a * S1x1024x5120.size a + S1x1024x5120.size a := by
  show i ∈ ((View.whole main_v62_0).slice (win3_3.rect t)).set ↔ _
  rw [View.set_slice_whole, Rect.mem_set_unit]
  exact Iff.rfl

/-- Every index is in the block of a point that writes back. -/
theorem covered_iff3 (i : S6x3072x5120.Idx) :
    (∃ t : Fin cfg3.N, (cfg3.win 3).flush t = true ∧ i ∈ ((cfg3.win 3).blk t).view.set) ↔ 0 ≤ (i 0).val ∧ (i 0).val < 6 ∧ 0 ≤ (i 1).val ∧ (i 1).val < 3072 ∧ 0 ≤ (i 2).val ∧ (i 2).val < 5120 := by
  constructor
  · rintro ⟨t, -, hi⟩
    rw [mem_blk3] at hi
    have b0 : win3_3.index t (0 : Fin 3) * 1 ≤ (i 0).val ∧ (i 0).val < win3_3.index t (0 : Fin 3) * 1 + 1 := hi 0
    have b1 : win3_3.index t (1 : Fin 3) * 1024 ≤ (i 1).val ∧ (i 1).val < win3_3.index t (1 : Fin 3) * 1024 + 1024 := hi 1
    have b2 : win3_3.index t (2 : Fin 3) * 5120 ≤ (i 2).val ∧ (i 2).val < win3_3.index t (2 : Fin 3) * 5120 + 5120 := hi 2
    obtain ⟨e0, e1, e2, e3⟩ := idx_facts3 t
    omega
  · intro h
    have hi0 : (i 0).val < 6 := (i 0).isLt
    have hi1 : (i 1).val < 3072 := (i 1).isLt
    have hi2 : (i 2).val < 5120 := (i 2).isLt
    obtain ⟨t, hft, ht⟩ := idx_onto3 ⟨(i 0).val / 1 - 0, by omega⟩ ⟨(i 1).val / 1024 - 0, by omega⟩ ⟨(i 2).val / 5120 - 0, by omega⟩
    have q0 : win3_3.index t (0 : Fin 3) = (i 0).val / 1 - 0 + 0 := congrFun ht 0
    have q1 : win3_3.index t (1 : Fin 3) = (i 1).val / 1024 - 0 + 0 := congrFun ht 1
    have q2 : win3_3.index t (2 : Fin 3) = (i 2).val / 5120 - 0 + 0 := congrFun ht 2
    refine ⟨t, hft, ?_⟩
    rw [mem_blk3]
    intro a
    match a with
    | ⟨0, _⟩ => show win3_3.index t (0 : Fin 3) * 1 ≤ (i 0).val ∧ (i 0).val < win3_3.index t (0 : Fin 3) * 1 + 1; omega
    | ⟨1, _⟩ => show win3_3.index t (1 : Fin 3) * 1024 ≤ (i 1).val ∧ (i 1).val < win3_3.index t (1 : Fin 3) * 1024 + 1024; omega
    | ⟨2, _⟩ => show win3_3.index t (2 : Fin 3) * 5120 ≤ (i 2).val ∧ (i 2).val < win3_3.index t (2 : Fin 3) * 5120 + 5120; omega

/-- The blocks of window 4 lie in the array. -/
theorem idx_facts4 : ∀ t : Fin cfg3.N, 0 ≤ win3_4.index t (0 : Fin 3) ∧ win3_4.index t (0 : Fin 3) ≤ 5
    ∧ 0 ≤ win3_4.index t (1 : Fin 3) ∧ win3_4.index t (1 : Fin 3) ≤ 2
    ∧ 0 ≤ win3_4.index t (2 : Fin 3) ∧ win3_4.index t (2 : Fin 3) ≤ 34
    ∧ 105 * (win3_4.index t (0 : Fin 3) - 0) + 35 * (win3_4.index t (1 : Fin 3) - 0) + 1 * (win3_4.index t (2 : Fin 3) - 0) = t.val :=
  (by decide +kernel : ∀ t : Fin grid3.N, _)

/-- A point that writes back the block at a given place. -/
abbrev onto4Pt (q0 : Fin 6) (q1 : Fin 3) (q2 : Fin 35) : Fin grid3.N :=
  ⟨105 * q0.val + 35 * q1.val + 1 * q2.val, lt_of_lt_of_eq (by omega) N_3.symm⟩
/-- Every block is written back by some point. -/
theorem idx_onto4 : ∀ (q0 : Fin 6) (q1 : Fin 3) (q2 : Fin 35), ∃ t : Fin cfg3.N, (cfg3.win 4).flush t = true ∧ win3_4.index t = ![q0.val + 0, q1.val + 0, q2.val + 0] :=
  fun q0 q1 q2 => ⟨onto4Pt q0 q1 q2, (by decide +kernel : ∀ (q0 : Fin 6) (q1 : Fin 3) (q2 : Fin 35), win3_4.flush (onto4Pt q0 q1 q2) = true ∧ win3_4.index (onto4Pt q0 q1 q2) = ![q0.val + 0, q1.val + 0, q2.val + 0]) q0 q1 q2⟩

/-- An index of the array is in a point's block iff each coordinate is in the block's range. -/
theorem mem_blk4 (t : Fin cfg3.N) (i : S6x3072x35840.Idx) :
    i ∈ ((cfg3.win 4).blk t).view.set ↔ ∀ a : Fin 3, win3_4.index t a * S1x1024x1024.size a ≤ (i a).val ∧ (i a).val < win3_4.index t a * S1x1024x1024.size a + S1x1024x1024.size a := by
  show i ∈ ((View.whole main_v62_1).slice (win3_4.rect t)).set ↔ _
  rw [View.set_slice_whole, Rect.mem_set_unit]
  exact Iff.rfl

/-- Every index is in the block of a point that writes back. -/
theorem covered_iff4 (i : S6x3072x35840.Idx) :
    (∃ t : Fin cfg3.N, (cfg3.win 4).flush t = true ∧ i ∈ ((cfg3.win 4).blk t).view.set) ↔ 0 ≤ (i 0).val ∧ (i 0).val < 6 ∧ 0 ≤ (i 1).val ∧ (i 1).val < 3072 ∧ 0 ≤ (i 2).val ∧ (i 2).val < 35840 := by
  constructor
  · rintro ⟨t, -, hi⟩
    rw [mem_blk4] at hi
    have b0 : win3_4.index t (0 : Fin 3) * 1 ≤ (i 0).val ∧ (i 0).val < win3_4.index t (0 : Fin 3) * 1 + 1 := hi 0
    have b1 : win3_4.index t (1 : Fin 3) * 1024 ≤ (i 1).val ∧ (i 1).val < win3_4.index t (1 : Fin 3) * 1024 + 1024 := hi 1
    have b2 : win3_4.index t (2 : Fin 3) * 1024 ≤ (i 2).val ∧ (i 2).val < win3_4.index t (2 : Fin 3) * 1024 + 1024 := hi 2
    obtain ⟨e0, e1, e2, e3⟩ := idx_facts4 t
    omega
  · intro h
    have hi0 : (i 0).val < 6 := (i 0).isLt
    have hi1 : (i 1).val < 3072 := (i 1).isLt
    have hi2 : (i 2).val < 35840 := (i 2).isLt
    obtain ⟨t, hft, ht⟩ := idx_onto4 ⟨(i 0).val / 1 - 0, by omega⟩ ⟨(i 1).val / 1024 - 0, by omega⟩ ⟨(i 2).val / 1024 - 0, by omega⟩
    have q0 : win3_4.index t (0 : Fin 3) = (i 0).val / 1 - 0 + 0 := congrFun ht 0
    have q1 : win3_4.index t (1 : Fin 3) = (i 1).val / 1024 - 0 + 0 := congrFun ht 1
    have q2 : win3_4.index t (2 : Fin 3) = (i 2).val / 1024 - 0 + 0 := congrFun ht 2
    refine ⟨t, hft, ?_⟩
    rw [mem_blk4]
    intro a
    match a with
    | ⟨0, _⟩ => show win3_4.index t (0 : Fin 3) * 1 ≤ (i 0).val ∧ (i 0).val < win3_4.index t (0 : Fin 3) * 1 + 1; omega
    | ⟨1, _⟩ => show win3_4.index t (1 : Fin 3) * 1024 ≤ (i 1).val ∧ (i 1).val < win3_4.index t (1 : Fin 3) * 1024 + 1024; omega
    | ⟨2, _⟩ => show win3_4.index t (2 : Fin 3) * 1024 ≤ (i 2).val ∧ (i 2).val < win3_4.index t (2 : Fin 3) * 1024 + 1024; omega

/-- What a point writes back to window 3's array: what the body left in that window. -/
theorem flushed3 (c : Dev nD) (t : Fin cfg3.N) :
    (dat3 V c).flushed 3 t = (cfg3.win 3).cut (grid3.coords t) ((outsAt3 V c t.val t.isLt).1) := by
  show (cfg3.win 3).cut (grid3.coords t) ((dat3 V c).after 3 t) = _
  rw [after3_3]

/-- What a point writes back to window 4's array: what the body left in that window. -/
theorem flushed4 (c : Dev nD) (t : Fin cfg3.N) :
    (dat3 V c).flushed 4 t = (cfg3.win 4).cut (grid3.coords t) ((outsAt3 V c t.val t.isLt).2.1) := by
  show (cfg3.win 4).cut (grid3.coords t) ((dat3 V c).after 4 t) = _
  rw [after3_4]

/-- The weight codes' block at a point holds its stretch of the contracted axis. -/
theorem wq_eq (c : Dev nD) (t : Fin cfg3.N) (n : Fin 5120) (k : Fin 1024) (s : Fin 35) (h : t.val % 35 = s.val) :
    iblk3 V c 2 t (ix2 n k) = V c main_v56 (ix2 n ⟨s.val * 1024 + k.val, by omega⟩) := by
  blk_ext [iblk3, idx t, h]

/-- What a run's last point writes back is its block of `dx`. -/
theorem flushed_dx (c : Dev nD) (t : Fin cfg3.N) (hf : (cfg3.win 3).flush t = true) :
    (dat3 V c).flushed 3 t
      = ((cfg3.win 3).blk t).view.read (Elt Ideal) (dx (V c main_v61) (V c main_arg0) (V c main_v56)) := by
  have h1 : t.val % 35 = 34 := (flush3_3 t).mp hf
  rw [flushed3, dx_point V c t h1]
  funext y
  obtain ⟨r, n, rfl⟩ : ∃ (r : Fin 1024) (n : Fin 5120), y = ix3 (0 : Fin 1) r n :=
    ⟨y 1, y 2, by rw [← ix3_eta y]; congr 1; exact Subsingleton.elim _ _⟩
  show k3_pay1 (outsAt3 V c t.val t.isLt).2.2 (iblk3 V c 0 t (ix2 0 1)) (ix3 0 r n)
    = dx (V c main_v61) (V c main_arg0) (V c main_v56) (((cfg3.win 3).blk t).view.emb (ix3 0 r n))
  rw [pay1_apply, acc_run V c t h1, scal_eq]
  unfold dx
  refine congrArg (fun z : EReal => z * V c main_v61 (ix2 0 1)) ?_
  refine Eq.trans ?_ (Fin.sum_mul_add_fin (L := 35840) 35 1024 _ (by norm_num))
  refine Finset.sum_congr rfl fun s _ => Finset.sum_congr rfl fun k _ => ?_
  rw [scal_eq]
  have hs : s.val < 35 := s.isLt
  have hp := Pipeline.run_point_lt_of_flush t h1 s
  have hd : (35 * (t.val / 35) + s.val) / 35 = t.val / 35 := by omega
  have hm : (35 * (t.val / 35) + s.val) % 35 = s.val := by omega
  have hi := idx ⟨35 * (t.val / 35) + s.val, hp⟩
  simp only [hd, hm] at hi
  refine congrArg₂ (fun x y : EReal => codeE5 x (V c main_v61 (ix2 0 0)) * y) ?_ ?_
  · blk_ext [iblk3, idx t, hi]
  · refine (wq_eq V c ⟨35 * (t.val / 35) + s.val, hp⟩ n k s (by simp only [hm])).trans ?_
    have hn : (((cfg3.win 3).blk t).view.emb (ix3 0 r n)) 2 = n := by
      obtain ⟨-, -, -, -, -, -, -, h3, -⟩ := idx t
      refine Fin.ext ?_
      show win3_3.index t (2 : Fin 3) * 5120 + 1 * n.val = n.val
      rw [h3]; omega
    exact congrArg (fun x : Fin 5120 => V c main_v56 (ix2 x ⟨s.val * 1024 + k.val, by omega⟩)) hn.symm

/-- What every point writes back of the codes is its block of `codes`. -/
theorem flushed_codes (c : Dev nD) (t : Fin cfg3.N) :
    (dat3 V c).flushed 4 t
      = ((cfg3.win 4).blk t).view.read (Elt Ideal) (codes (V c main_v61) (V c main_arg0)) := by
  rw [flushed4, codes_point]
  funext y
  obtain ⟨r, n, rfl⟩ : ∃ (r : Fin 1024) (n : Fin 1024), y = ix3 (0 : Fin 1) r n :=
    ⟨y 1, y 2, by rw [← ix3_eta y]; congr 1; exact Subsingleton.elim _ _⟩
  show k3_pay2 (iblk3 V c 0 t (ix2 0 0)) (iblk3 V c 1 t) (ix3 0 r n)
    = codes (V c main_v61) (V c main_arg0) (((cfg3.win 4).blk t).view.emb (ix3 0 r n))
  rw [pay2_apply, scal_eq]
  unfold codes
  congr 1
  blk_ext [iblk3, idx t]

/-- The first result's array after the call. -/
theorem final_dx (c : Dev nD) :
    (dat3 V c).arrAt 3 cfg3.N = dx (V c main_v61) (V c main_arg0) (V c main_v56) :=
  (dat3 V c).arrAt_eq_of_cover 3 _ (fun t hf => flushed_dx V c t hf) (fun i => (covered_iff3 i).2 (by
    have h0 : (i 0).val < 6 := (i 0).isLt; have h1 : (i 1).val < 3072 := (i 1).isLt; have h2 : (i 2).val < 5120 := (i 2).isLt; omega))

/-- The second result's array after the call. -/
theorem final_codes (c : Dev nD) :
    (dat3 V c).arrAt 4 cfg3.N = codes (V c main_v61) (V c main_arg0) :=
  (dat3 V c).arrAt_eq_of_cover 4 _ (fun t _ => flushed_codes V c t) (fun i => (covered_iff4 i).2 (by
    have h0 : (i 0).val < 6 := (i 0).isLt; have h1 : (i 1).val < 3072 := (i 1).isLt; have h2 : (i 2).val < 35840 := (i 2).isLt; omega))

end Cert.KernelIdeal.Dgrad
-- ==== Proof.Host.lean ====
/- What the host lines of the kernel hold between its calls: the two scales, their inverses, and the five results. -/
module

public import proofs.«01_k».proof.Proof.Whole.Fold0
public import proofs.«01_k».proof.Proof.Scale
public import proofs.«01_k».proof.Proof.AmaxDy
public import proofs.«01_k».proof.Proof.AmaxW
public import proofs.«01_k».proof.Proof.QuantiseW
public import proofs.«01_k».proof.Proof.Dgrad
public import Idealize.ShloMosaic.Lib.StableHlo.RunRead

@[expose] public section

noncomputable section

namespace Cert.KernelIdeal.Host

open Cert.KernelIdeal Cert.KernelIdeal.Gen Cert.Own Idealize.ShloMosaic Idealize.ShloMosaic.TcCoe Idealize.SL.Sem

variable (m : (ℓ : Loc nD τ sig) → Buf (Elt Ideal) ℓ) (ρ : Dev nD → PrngReg)

/-! ## The host lines as vectors -/

/-- The exponent word the host lines make of the greatest absolute value and the pattern of the format's reciprocal range. -/
def expVec (q : BitVec 32) (x : FVec Ideal S_ .f32) : IVec S_ 32 :=
  select (cmpf .oeq x (constant S_ .f32 0#32)) (constantI S_ 32 0#32)
    (select (andi (cmpf .oge (mulf x (constant S_ .f32 q)) (constant S_ .f32 0x00800000#32))
        (cmpf .olt (mulf x (constant S_ .f32 q)) (constant S_ .f32 0x7E800000#32)))
      (subi (Host.reduce IntOp.addi
          (extui 32 (cmpf .ole
            (bitcastToFloat .f32 (Host.shli (addi (iotaInDim S254 32 0) (broadcastInDim S254 ![] bcast_S_S254 (constantI S_ 32 1#32)))
              (broadcastInDim S254 ![] bcast_S_S254 (constantI S_ 32 23#32))))
            (broadcastInDim S254 ![] bcast_S_S254 (mulf x (constant S_ .f32 q)))) natLt_1_32)
          (constantI S_ 32 0#32) reducesTo_S254_S_d0 h_S_)
        (constantI S_ 32 126#32))
      (constantI S_ 32 0#32))

/-- The power of two of an exponent word, as the host lines make it. -/
def powVec (e : IVec S_ 32) : FVec Ideal S_ .f32 :=
  bitcastToFloat .f32 (Host.shli (addi e (constantI S_ 32 127#32)) (constantI S_ 32 23#32))

/-- The exponent word of the gradient. -/
theorem exp_dy_vec (c : Dev nD) : W6 m ρ c (Proc.devRef .tc main_v20)
    = expVec 0x37924925#32 (shapeCast S_ (W2 m ρ c (Proc.devRef .tc main_v1)) shapeCasts_S1x1_S_) := by
  after_results_simp
  rfl

/-- The exponent word of the weights. -/
theorem exp_w_vec (c : Dev nD) : W12 m ρ c (Proc.devRef .tc main_v47)
    = expVec 0x3B124925#32 (shapeCast S_ (W8 m ρ c (Proc.devRef .tc main_v28)) shapeCasts_S1x1_S_) := by
  after_results_simp
  rfl

/-- The gradient's scale. -/
theorem scale_dy_vec (c : Dev nD) : W7 m ρ c (Proc.devRef .tc main_v23) = powVec (W6 m ρ c (Proc.devRef .tc main_v20)) := by
  after_results_simp
  rfl

/-- The gradient's inverse scale. -/
theorem inv_dy_vec (c : Dev nD) : W7 m ρ c (Proc.devRef .tc main_v27) = powVec (negi (W6 m ρ c (Proc.devRef .tc main_v20))) := by
  after_results_simp
  rfl

/-- The weights' scale. -/
theorem scale_w_vec (c : Dev nD) : W13 m ρ c (Proc.devRef .tc main_v50) = powVec (W12 m ρ c (Proc.devRef .tc main_v47)) := by
  after_results_simp
  rfl

/-- The weights' inverse scale. -/
theorem inv_w_vec (c : Dev nD) : W13 m ρ c (Proc.devRef .tc main_v55) = shapeCast S1x1 (powVec (negi (W12 m ρ c (Proc.devRef .tc main_v47)))) shapeCasts_S_S1x1 := by
  after_results_simp
  rfl

/-- The two scalars the last call takes. -/
theorem scal_vec (c : Dev nD) : W15 m ρ c (Proc.devRef .tc main_v61) = shapeCast S1x2 (concatenate S2 0
    [⟨S1, broadcastInDim S1 ![] bcast_S_S1 (W14 m ρ c (Proc.devRef .tc main_v27) : FVec Ideal S_ .f32)⟩,
      ⟨S1, broadcastInDim S1 ![] bcast_S_S1 (mulf (W14 m ρ c (Proc.devRef .tc main_v23) : FVec Ideal S_ .f32) (W14 m ρ c (Proc.devRef .tc main_v50) : FVec Ideal S_ .f32))⟩]
    concatenates_S1_S1_S2_d0 : FVec Ideal S2 .f32) shapeCasts_S2_S1x2 := by
  after_results_simp
  rfl

/-! ## Their elements -/

theorem expVec_apply (q : BitVec 32) (x : FVec Ideal S_ .f32) (i : S_.Idx) :
    expVec q x i = expWord (x i) (x i * Ideal.ofBits .f32 q) := by
  have hi : ∀ j : S_.Idx, j = i := fun j => Subsingleton.elim j i
  pointwise [expVec]
  rw [hi ix0]
  rfl

/-- The scale of the value `a` is scaled to. -/
theorem powVec_scale (q : BitVec 32) (x : FVec Ideal S_ .f32) (i : S_.Idx) :
    powVec (expVec q x) i = scaleOf (x i * Ideal.ofBits .f32 q) := by
  have h : powVec (expVec q x) i = Ideal.ofBits .f32 (IntOp.shli ArithUnit.host (IntOp.addi (expVec q x i) 127#32) 23#32) := rfl
  rw [h, expVec_apply]
  exact scale_word _ _ fun h0 => by rw [h0, zero_mul]

theorem powVec_inv (q : BitVec 32) (x : FVec Ideal S_ .f32) (i : S_.Idx) :
    powVec (negi (expVec q x)) i = Ideal.div 1 (scaleOf (x i * Ideal.ofBits .f32 q)) := by
  have h : powVec (negi (expVec q x)) i = Ideal.ofBits .f32 (IntOp.shli ArithUnit.host (IntOp.addi (-expVec q x i) 127#32) 23#32) := rfl
  rw [h, expVec_apply]
  exact inv_word _ _ fun h0 => by rw [h0, zero_mul]

/-! ## The five results as functions of the two arrays -/

/-- The gradient's scale: that of its greatest absolute value over the e5m2 maximum. -/
def scaleDy (dy : S6x3072x35840.Idx → EReal) : EReal := scaleOf (amax dy * Ideal.ofBits .f32 0x37924925#32)
/-- The weights' scale: that of their greatest absolute value over the e4m3 maximum. -/
def scaleW (w : S5120x35840.Idx → EReal) : EReal := scaleOf (amax w * Ideal.ofBits .f32 0x3B124925#32)
/-- The codes of a gradient. -/
def dyCodesOf (dy : S6x3072x35840.Idx → EReal) : S6x3072x35840.Idx → EReal := fun i => codeE5 (dy i) (Ideal.div 1 (scaleDy dy))
/-- The codes of weights. -/
def wCodesOf (w : S5120x35840.Idx → EReal) : S5120x35840.Idx → EReal := fun i => codeE4 (w i) (Ideal.div 1 (scaleW w))
/-- The gradient with respect to the input: the codes' product over the outputs, times both scales. -/
def dxOf (dy : S6x3072x35840.Idx → EReal) (w : S5120x35840.Idx → EReal) : S6x3072x5120.Idx → EReal := fun i =>
  (∑ l : Fin 35840, dyCodesOf dy (ix3 (i 0) (i 1) l) * wCodesOf w (ix2 (i 2) l)) * (scaleDy dy * scaleW w)

/-! ## The scales -/

/-- The gradient as launched. -/
abbrev dyArr (c : Dev nD) : S6x3072x35840.Idx → EReal := m (c, Proc.tc.devRef main_arg0)
/-- The weights as launched. -/
abbrev wArr (c : Dev nD) : S5120x35840.Idx → EReal := m (c, Proc.tc.devRef main_arg1)
/-- The gradient's scale. -/
abbrev sDy (c : Dev nD) : EReal := scaleDy (dyArr m c)
/-- The weights' scale. -/
abbrev sW (c : Dev nD) : EReal := scaleW (wArr m c)

theorem rows (c : Dev nD) : W1 m ρ c (Proc.devRef .tc main_v0)
    = shapeCast S18432x35840 (m (c, Proc.tc.devRef main_arg0)) shapeCasts_S6x3072x35840_S18432x35840 := by
  after_results_simp
  rfl

theorem amax_dy (c : Dev nD) : W2 m ρ c (Proc.devRef .tc main_v1) = fun _ : S1x1.Idx => amax (dyArr m c) := by
  refine (W2_arr m ρ c 1).trans ((AmaxDy.final_amax (V1 m ρ) c).trans ?_)
  funext i
  have h : (V1 m ρ c main_v0 : S18432x35840.Idx → EReal) = fun j => dyArr m c (Shape.reshapeEquiv shapeCasts_S6x3072x35840_S18432x35840 j) :=
    rows m ρ c
  rw [h]
  exact amax_equiv _ _

theorem amax_w (c : Dev nD) : W8 m ρ c (Proc.devRef .tc main_v28) = fun _ : S1x1.Idx => amax (wArr m c) := by
  refine (W8_arr m ρ c 1).trans ((AmaxW.final_amax (V7 m ρ) c).trans ?_)
  funext i
  have h : (V7 m ρ c main_arg1 : S5120x35840.Idx → EReal) = wArr m c := W7_args m ρ c main_arg1 (by decide)
  rw [h]

theorem scale_dy (c : Dev nD) : W7 m ρ c (Proc.devRef .tc main_v23) = fun _ : S_.Idx => sDy m c := by
  rw [scale_dy_vec, exp_dy_vec, amax_dy]
  exact funext fun i => powVec_scale _ _ i

theorem inv_dy (c : Dev nD) : W7 m ρ c (Proc.devRef .tc main_v27) = fun _ : S_.Idx => Ideal.div 1 (sDy m c) := by
  rw [inv_dy_vec, exp_dy_vec, amax_dy]
  exact funext fun i => powVec_inv _ _ i

theorem scale_w (c : Dev nD) : W13 m ρ c (Proc.devRef .tc main_v50) = fun _ : S_.Idx => sW m c := by
  rw [scale_w_vec, exp_w_vec, amax_w]
  exact funext fun i => powVec_scale _ _ i

theorem inv_w (c : Dev nD) : W13 m ρ c (Proc.devRef .tc main_v55) = fun _ : S1x1.Idx => Ideal.div 1 (sW m c) := by
  rw [inv_w_vec, exp_w_vec, amax_w]
  exact funext fun i => powVec_inv _ _ _

/-- A buffer the second scale's lines do not write. -/
theorem carry (c : Dev nD) (r : Ref sig .tc) (h2 : ∀ w : Fin cfg1.W, Pipeline.arrRef spec1 w = r → (cfg1.win w).isOut = false)
    (h3 : r ∉ hostOps2_W) (h4 : r ∉ hostOps2_1_W) (h5 : r ∉ hostOps2_2_W) (h6 : r ∉ hostOps2_3_W) (h7 : r ∉ hostOps2_4_W)
    (h8 : ∀ w : Fin cfg2.W, Pipeline.arrRef spec2 w = r → (cfg2.win w).isOut = false) :
    W14 m ρ c (Proc.devRef .tc r) = W7 m ρ c (Proc.devRef .tc r) := by
  rw [W14_of m ρ c r h8, W13_of m ρ c r h7, W12_of m ρ c r h6, W11_of m ρ c r h5, W10_of m ρ c r h4, W9_of m ρ c r h3, W8_of m ρ c r h2]

theorem scale_dy14 (c : Dev nD) : W14 m ρ c (Proc.devRef .tc main_v23) = fun _ : S_.Idx => sDy m c :=
  (carry m ρ c main_v23 (by decide +kernel) (by decide +kernel) (by decide +kernel) (by decide +kernel) (by decide +kernel) (by decide +kernel) (by decide +kernel)).trans
    (scale_dy m ρ c)

theorem inv_dy14 (c : Dev nD) : W14 m ρ c (Proc.devRef .tc main_v27) = fun _ : S_.Idx => Ideal.div 1 (sDy m c) :=
  (carry m ρ c main_v27 (by decide +kernel) (by decide +kernel) (by decide +kernel) (by decide +kernel) (by decide +kernel) (by decide +kernel) (by decide +kernel)).trans
    (inv_dy m ρ c)

theorem scale_w14 (c : Dev nD) : W14 m ρ c (Proc.devRef .tc main_v50) = fun _ : S_.Idx => sW m c :=
  (W14_of m ρ c main_v50 (by decide +kernel)).trans (scale_w m ρ c)

theorem scal0 (c : Dev nD) : (W15 m ρ c (Proc.devRef .tc main_v61) : S1x2.Idx → EReal) (ix2 0 0) = Ideal.div 1 (sDy m c) := by
  rw [scal_vec, inv_dy14, scale_dy14, scale_w14]
  pointwise

theorem scal1 (c : Dev nD) : (W15 m ρ c (Proc.devRef .tc main_v61) : S1x2.Idx → EReal) (ix2 0 1) = sDy m c * sW m c := by
  rw [scal_vec, inv_dy14, scale_dy14, scale_w14]
  pointwise

/-! ## The five results -/

/-- The codes of the gradient. -/
abbrev dyCodes (c : Dev nD) : S6x3072x35840.Idx → EReal := dyCodesOf (dyArr m c)
/-- The codes of the weights. -/
abbrev wCodes (c : Dev nD) : S5120x35840.Idx → EReal := wCodesOf (wArr m c)
/-- The gradient with respect to the input. -/
abbrev dxArr (c : Dev nD) : S6x3072x5120.Idx → EReal := dxOf (dyArr m c) (wArr m c)

theorem w_codes14 (c : Dev nD) : W14 m ρ c (Proc.devRef .tc main_v56) = wCodes m c := by
  refine (W14_arr m ρ c 2).trans ((QuantiseW.final_codes (V13 m ρ) c).trans ?_)
  have h0 : (V13 m ρ c main_arg1 : S5120x35840.Idx → EReal) = wArr m c := W13_args m ρ c main_arg1 (by decide)
  have h1 : (V13 m ρ c main_v55 : S1x1.Idx → EReal) = fun _ => Ideal.div 1 (sW m c) := inv_w m ρ c
  rw [h0, h1]
  rfl

theorem dy_codes16 (c : Dev nD) : W16 m ρ c (Proc.devRef .tc main_v62_1) = dyCodes m c := by
  refine (W16_arr m ρ c 4).trans ((Dgrad.final_codes (V15 m ρ) c).trans ?_)
  have h0 : (V15 m ρ c main_arg0 : S6x3072x35840.Idx → EReal) = dyArr m c := W15_args m ρ c main_arg0 (by decide)
  rw [h0]
  funext i
  rw [Dgrad.codes, show (V15 m ρ c main_v61 : S1x2.Idx → EReal) (ix2 0 0) = _ from scal0 m ρ c]
  rfl

theorem dx16 (c : Dev nD) : W16 m ρ c (Proc.devRef .tc main_v62_0) = dxArr m c := by
  refine (W16_arr m ρ c 3).trans ((Dgrad.final_dx (V15 m ρ) c).trans ?_)
  have h0 : (V15 m ρ c main_arg0 : S6x3072x35840.Idx → EReal) = dyArr m c := W15_args m ρ c main_arg0 (by decide)
  have h1 : (V15 m ρ c main_v56 : S5120x35840.Idx → EReal) = wCodes m c :=
    (W15_of m ρ c main_v56 (by decide +kernel)).trans (w_codes14 m ρ c)
  rw [h0, h1]
  funext i
  rw [Dgrad.dx, show (V15 m ρ c main_v61 : S1x2.Idx → EReal) (ix2 0 0) = _ from scal0 m ρ c,
    show (V15 m ρ c main_v61 : S1x2.Idx → EReal) (ix2 0 1) = _ from scal1 m ρ c]
  rfl

theorem w_codes16 (c : Dev nD) : W16 m ρ c (Proc.devRef .tc main_v56) = wCodes m c :=
  (W16_of m ρ c main_v56 (by decide +kernel)).trans ((W15_of m ρ c main_v56 (by decide +kernel)).trans (w_codes14 m ρ c))

theorem scale_dy16 (c : Dev nD) : W16 m ρ c (Proc.devRef .tc main_v23) = fun _ : S_.Idx => sDy m c :=
  (W16_of m ρ c main_v23 (by decide +kernel)).trans ((W15_of m ρ c main_v23 (by decide +kernel)).trans (scale_dy14 m ρ c))

theorem scale_w16 (c : Dev nD) : W16 m ρ c (Proc.devRef .tc main_v50) = fun _ : S_.Idx => sW m c :=
  (W16_of m ρ c main_v50 (by decide +kernel)).trans ((W15_of m ρ c main_v50 (by decide +kernel)).trans (scale_w14 m ρ c))

end Cert.KernelIdeal.Host
-- ==== Proof.RefHost.lean ====
/- What the reference computes: its scales by the host lines, its three arrays by one call. -/
module

public import proofs.«01_k».proof.Proof.Host
public import proofs.«01_k».proof.Proof.Gen.ReferenceIdeal.Value
public import Idealize.ShloMosaic.Lib.StableHlo.RunRead

@[expose] public section

noncomputable section

namespace Cert.ReferenceIdeal.Host

open Cert.ReferenceIdeal Cert.ReferenceIdeal.Gen Cert.Own Idealize.ShloMosaic Idealize.ShloMosaic.TcCoe Idealize.SL.Sem
open Cert.KernelIdeal.Host (scaleDy scaleW dyCodesOf wCodesOf dxOf)

variable (m : (ℓ : Loc nD τ sig) → Buf (Elt Ideal) ℓ) (ρ : Dev nD → PrngReg)

/-! ## The host lines as vectors -/

/-- The scale the host lines make of a greatest absolute value and the pattern of the format's reciprocal range. -/
def scaleVec (q : BitVec 32) (x : FVec Ideal S_ .f32) : FVec Ideal S_ .f32 :=
  select (andi (cmpf .oge (mulf x (constant S_ .f32 q)) (constant S_ .f32 0x00800000#32))
        (cmpf .olt (mulf x (constant S_ .f32 q)) (constant S_ .f32 0x7E800000#32)))
    (Host.reduce FloatOps.minimumf
      (select (cmpf .ogt
          (Host.powf (broadcastInDim S253 ![] bcast_S_S253 (constant (F := Ideal) S_ .f32 0x40000000#32))
            (subf (sitofp .f32 (iotaInDim S253 32 0)) (broadcastInDim S253 ![] bcast_S_S253 (constant (F := Ideal) S_ .f32 0x42FC0000#32))))
          (broadcastInDim S253 ![] bcast_S_S253 (mulf x (constant S_ .f32 q))))
        (Host.powf (broadcastInDim S253 ![] bcast_S_S253 (constant (F := Ideal) S_ .f32 0x40000000#32))
            (subf (sitofp .f32 (iotaInDim S253 32 0)) (broadcastInDim S253 ![] bcast_S_S253 (constant (F := Ideal) S_ .f32 0x42FC0000#32))))
        (broadcastInDim S253 ![] bcast_S_S253 (constant (F := Ideal) S_ .f32 0x7F800000#32)))
      (constant S_ .f32 0x7F800000#32) reducesTo_S253_S_d0 h_S_)
    (constant S_ .f32 0x3F800000#32)

/-- The greatest absolute value of the gradient, as the host lines compute it. -/
abbrev maxDy (c : Dev nD) : FVec Ideal S_ .f32 :=
  extf .f32 (Host.reduce (FloatOps.maximumf (F := Ideal)) (Host.absf (F := Ideal) (m (c, Proc.tc.devRef main_arg0)) : FVec Ideal S6x3072x35840 .bf16)
    (constant (F := Ideal) S_ .bf16 0xFF80#16) reducesTo_S6x3072x35840_S_d0_1_2 h_S_ : FVec Ideal S_ .bf16) bitsLt_bf16_f32

/-- The greatest absolute value of the weights, as the host lines compute it. -/
abbrev maxW (c : Dev nD) : FVec Ideal S_ .f32 :=
  Host.reduce (FloatOps.maximumf (F := Ideal)) (Host.absf (F := Ideal) (m (c, Proc.tc.devRef main_arg1)) : FVec Ideal S5120x35840 .f32)
    (constant (F := Ideal) S_ .f32 0xFF800000#32) reducesTo_S5120x35840_S_d0_1 h_S_

theorem scale_dy_vec (c : Dev nD) : V m c main_v16 = scaleVec 0x37924925#32 (maxDy m c) := by
  dsimp only [V]
  simp only [List.flatten_cons, List.flatten_nil, List.append_nil, List.cons_append, List.nil_append]
  after_results_simp
  try simp -implicitDefEqProofs only [StableHlo.TRef.toBuf, StableHlo.TRef.ofBuf, cast_cast, cast_eq]
  try unfold maxDy
  generalize extf .f32 (Host.reduce (FloatOps.maximumf (F := Ideal)) (Host.absf (F := Ideal) (m (c, Proc.tc.devRef main_arg0)) : FVec Ideal S6x3072x35840 .bf16)
    (constant (F := Ideal) S_ .bf16 0xFF80#16) reducesTo_S6x3072x35840_S_d0_1_2 h_S_ : FVec Ideal S_ .bf16) bitsLt_bf16_f32 = x
  rfl

theorem scale_w_vec (c : Dev nD) : V m c main_v33 = scaleVec 0x3B124925#32 (maxW m c) := by
  dsimp only [V]
  simp only [List.flatten_cons, List.flatten_nil, List.append_nil, List.cons_append, List.nil_append]
  after_results_simp
  try simp -implicitDefEqProofs only [StableHlo.TRef.toBuf, StableHlo.TRef.ofBuf, cast_cast, cast_eq]
  try unfold maxW
  generalize (Host.reduce (FloatOps.maximumf (F := Ideal)) (Host.absf (F := Ideal) (m (c, Proc.tc.devRef main_arg1)) : FVec Ideal S5120x35840 .f32)
    (constant (F := Ideal) S_ .f32 0xFF800000#32) reducesTo_S5120x35840_S_d0_1 h_S_ : FVec Ideal S_ .f32) = x
  rfl

theorem inv_dy_vec (c : Dev nD) : V m c main_v35
    = shapeCast S1x1 (Host.divf (constant (F := Ideal) S_ .f32 0x3F800000#32) (V m c main_v16)) shapeCasts_S_S1x1 := by
  rw [scale_dy_vec]
  dsimp only [V]
  simp only [List.flatten_cons, List.flatten_nil, List.append_nil, List.cons_append, List.nil_append]
  after_results_simp
  try simp -implicitDefEqProofs only [StableHlo.TRef.toBuf, StableHlo.TRef.ofBuf, cast_cast, cast_eq]
  try unfold maxDy
  generalize extf .f32 (Host.reduce (FloatOps.maximumf (F := Ideal)) (Host.absf (F := Ideal) (m (c, Proc.tc.devRef main_arg0)) : FVec Ideal S6x3072x35840 .bf16)
    (constant (F := Ideal) S_ .bf16 0xFF80#16) reducesTo_S6x3072x35840_S_d0_1_2 h_S_ : FVec Ideal S_ .bf16) bitsLt_bf16_f32 = x
  rfl

theorem inv_w_vec (c : Dev nD) : V m c main_v36
    = shapeCast S1x1 (Host.divf (constant (F := Ideal) S_ .f32 0x3F800000#32) (V m c main_v33)) shapeCasts_S_S1x1 := by
  rw [scale_w_vec]
  dsimp only [V]
  simp only [List.flatten_cons, List.flatten_nil, List.append_nil, List.cons_append, List.nil_append]
  after_results_simp
  try simp -implicitDefEqProofs only [StableHlo.TRef.toBuf, StableHlo.TRef.ofBuf, cast_cast, cast_eq]
  try unfold maxW
  generalize (Host.reduce (FloatOps.maximumf (F := Ideal)) (Host.absf (F := Ideal) (m (c, Proc.tc.devRef main_arg1)) : FVec Ideal S5120x35840 .f32)
    (constant (F := Ideal) S_ .f32 0xFF800000#32) reducesTo_S5120x35840_S_d0_1 h_S_ : FVec Ideal S_ .f32) = x
  rfl

theorem scale_both_vec (c : Dev nD) : V m c main_v38
    = shapeCast (α := Ideal .f32) S1x1 (mulf (φ := .f32) (s := S_) (V m c main_v16 : FVec Ideal S_ .f32) (V m c main_v33 : FVec Ideal S_ .f32)) shapeCasts_S_S1x1 := by
  rw [scale_dy_vec, scale_w_vec]
  dsimp only [V]
  simp only [List.flatten_cons, List.flatten_nil, List.append_nil, List.cons_append, List.nil_append]
  after_results_simp
  try simp -implicitDefEqProofs only [StableHlo.TRef.toBuf, StableHlo.TRef.ofBuf, cast_cast, cast_eq]
  try unfold maxDy
  generalize extf .f32 (Host.reduce (FloatOps.maximumf (F := Ideal)) (Host.absf (F := Ideal) (m (c, Proc.tc.devRef main_arg0)) : FVec Ideal S6x3072x35840 .bf16)
    (constant (F := Ideal) S_ .bf16 0xFF80#16) reducesTo_S6x3072x35840_S_d0_1_2 h_S_ : FVec Ideal S_ .bf16) bitsLt_bf16_f32 = x
  try unfold maxW
  generalize (Host.reduce (FloatOps.maximumf (F := Ideal)) (Host.absf (F := Ideal) (m (c, Proc.tc.devRef main_arg1)) : FVec Ideal S5120x35840 .f32)
    (constant (F := Ideal) S_ .f32 0xFF800000#32) reducesTo_S5120x35840_S_d0_1 h_S_ : FVec Ideal S_ .f32) = y
  rfl

/-! ## Their elements -/

theorem scaleVec_apply (q : BitVec 32) (x : FVec Ideal S_ .f32) (i : S_.Idx) : scaleVec q x i = scaleOf (x i * Ideal.ofBits .f32 q) := by
  have hi : ∀ j : S_.Idx, j = i := fun j => Subsingleton.elim j i
  pointwise [scaleVec]
  rw [hi ix0]
  exact ref_scale _

/-- The pattern of minus infinity is the least extended real. -/
theorem bot_bf16 : Ideal.ofBits .bf16 0xFF80#16 = ⊥ := by
  simp [Ideal.ofBits, Ideal.ieee]

/-- A fold of the maximum over indices that reach every element is the greatest absolute value. -/
theorem fold_amax {κ ι : Type} [Fintype κ] [Fintype ι] (f : κ → ι) (hf : Function.Surjective f) (x : ι → EReal) :
    (Finset.univ.fold max ⊥ fun k => aabs (x (f k))) = amax x := by
  refine le_antisymm ?_ ((amax_le _ _).2 fun i => ?_)
  · exact Finset.fold_max_le _ |>.2 ⟨bot_le, fun k _ => (amax_le x _).1 le_rfl (f k)⟩
  · obtain ⟨k, rfl⟩ := hf i
    exact Finset.le_fold_max _ |>.2 (Or.inr ⟨k, Finset.mem_univ _, le_rfl⟩)

theorem maxDy_apply (c : Dev nD) (i : S_.Idx) : maxDy m c i = amax (m (c, Proc.tc.devRef main_arg0) : S6x3072x35840.Idx → EReal) := by
  unfold maxDy
  pointwise
  rw [bot_bf16]
  exact fold_amax (fun k : Fin 6 × Fin 3072 × Fin 35840 => (ix3 k.1 k.2.1 k.2.2 : S6x3072x35840.Idx))
    (fun j => ⟨(j 0, j 1, j 2), ix3_eta j⟩) _

theorem maxW_apply (c : Dev nD) (i : S_.Idx) : maxW m c i = amax (m (c, Proc.tc.devRef main_arg1) : S5120x35840.Idx → EReal) := by
  unfold maxW
  pointwise
  rw [bot_f32]
  exact fold_amax (fun k : Fin 5120 × Fin 35840 => (ix2 k.1 k.2 : S5120x35840.Idx)) (fun j => ⟨(j 0, j 1), ix2_eta j⟩) _

/-- The gradient as launched. -/
abbrev dyArr (c : Dev nD) : S6x3072x35840.Idx → EReal := m (c, Proc.tc.devRef main_arg0)
/-- The weights as launched. -/
abbrev wArr (c : Dev nD) : S5120x35840.Idx → EReal := m (c, Proc.tc.devRef main_arg1)

theorem scale_dy (c : Dev nD) : V m c main_v16 = fun _ : S_.Idx => scaleDy (dyArr m c) := by
  rw [scale_dy_vec]
  funext i
  rw [scaleVec_apply, maxDy_apply]
  rfl

theorem scale_w (c : Dev nD) : V m c main_v33 = fun _ : S_.Idx => scaleW (wArr m c) := by
  rw [scale_w_vec]
  funext i
  rw [scaleVec_apply, maxW_apply]
  rfl

/-- The pattern of one. -/
theorem one_f32 : Ideal.ofBits .f32 0x3F800000#32 = 1 := by
  rw [show Ideal.ofBits .f32 0x3F800000#32 = pow2 0 from ofBits_shl 127 (by norm_num) (by norm_num), pow2_zero]

theorem inv_dy (c : Dev nD) : V m c main_v35 = fun _ : S1x1.Idx => Ideal.div 1 (scaleDy (dyArr m c)) := by
  rw [inv_dy_vec, scale_dy]
  generalize scaleDy (dyArr m c) = s
  funext i
  show Ideal.div (Ideal.ofBits .f32 0x3F800000#32) s = Ideal.div 1 s
  rw [one_f32]

theorem inv_w (c : Dev nD) : V m c main_v36 = fun _ : S1x1.Idx => Ideal.div 1 (scaleW (wArr m c)) := by
  rw [inv_w_vec, scale_w]
  generalize scaleW (wArr m c) = s
  funext i
  show Ideal.div (Ideal.ofBits .f32 0x3F800000#32) s = Ideal.div 1 s
  rw [one_f32]

theorem scale_both (c : Dev nD) : V m c main_v38 = fun _ : S1x1.Idx => scaleDy (dyArr m c) * scaleW (wArr m c) := by
  rw [scale_both_vec, scale_dy, scale_w]
  rfl

end Cert.ReferenceIdeal.Host
-- ==== Proof.RefValue.lean ====
/- What the reference's call leaves in its three arrays. -/
module

public import proofs.«01_k».proof.Proof.RefHost
public import Idealize.ShloMosaic.Lib.Pipeline.ValueKit
public import Idealize.ShloMosaic.Lib.Tactic

@[expose] public section

noncomputable section

namespace Cert.ReferenceIdeal.Own

open Cert.ReferenceIdeal Cert.ReferenceIdeal.Gen Cert.ReferenceIdeal.Host Cert.Own Idealize.ShloMosaic Idealize.ShloMosaic.TcCoe Idealize.SL.Sem
open Cert.KernelIdeal.Host (scaleDy scaleW dyCodesOf wCodesOf dxOf)

variable (m : (ℓ : Loc nD τ sig) → Buf (Elt Ideal) ℓ) (ρ : Dev nD → PrngReg)

/-- The codes of the gradient at an index. -/
theorem pay1_apply (v0 : Vec Ideal S1x1 .f32) (v4 : Vec Ideal S6x3072x35840 .bf16) (b : Fin 6) (r : Fin 3072) (l : Fin 35840) :
    k0_pay1 v0 v4 (ix3 b r l) = codeE5 (v4 (ix3 b r l)) (v0 (ix2 0 0)) := by
  pointwise [k0_pay1, codeE5]

/-- The codes of the weights at an index. -/
theorem pay2_apply (v12 : Vec Ideal S5120x35840 .f32) (v13 : Vec Ideal S1x1 .f32) (n : Fin 5120) (l : Fin 35840) :
    k0_pay2 v12 v13 (ix2 n l) = codeE4 (v12 (ix2 n l)) (v13 (ix2 0 0)) := by
  pointwise [k0_pay2, codeE4]

/-- The product at an index. -/
theorem pay3_apply (v0 : Vec Ideal S1x1 .f32) (v4 : Vec Ideal S6x3072x35840 .bf16) (v12 : Vec Ideal S5120x35840 .f32)
    (v13 v26 : Vec Ideal S1x1 .f32) (b : Fin 6) (r : Fin 3072) (n : Fin 5120) :
    k0_pay3 v0 v4 v12 v13 v26 (ix3 b r n)
      = (∑ l : Fin 35840, k0_pay1 v0 v4 (ix3 b r l) * k0_pay2 v12 v13 (ix2 n l)) * v26 (ix2 0 0) := by
  pointwise [k0_pay3]

/-- The block indices of the windows at the one grid point. -/
theorem idx : ∀ t : Fin cfg0.N,
    win0_0.index t (0 : Fin 3) = 0 ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = 0 ∧ win0_5.index t (1 : Fin 3) = 0 ∧ win0_5.index t (2 : Fin 3) = 0
    ∧ win0_6.index t (0 : Fin 3) = 0 ∧ win0_6.index t (1 : Fin 3) = 0 ∧ win0_6.index t (2 : Fin 3) = 0
    ∧ win0_7.index t (0 : Fin 2) = 0 ∧ win0_7.index t (1 : Fin 2) = 0 :=
  (by decide +kernel : ∀ t : Fin grid0.N, _)

/-! ## The blocks are the whole arrays -/

theorem blk_dy (c : Dev nD) (t : Fin cfg0.N) (b : Fin 6) (r : Fin 3072) (l : Fin 35840) :
    iblk m c 0 t (ix3 b r l) = dyArr m c (ix3 b r l) := by
  refine Eq.trans (b := V m c main_arg0 (ix3 b r l)) ?_ (congrFun (V_main_arg0 m c) _)
  blk_ext [iblk, idx t]

theorem blk_w (c : Dev nD) (t : Fin cfg0.N) (n : Fin 5120) (l : Fin 35840) :
    iblk m c 1 t (ix2 n l) = wArr m c (ix2 n l) := by
  refine Eq.trans (b := V m c main_arg1 (ix2 n l)) ?_ (congrFun (V_main_arg1 m c) _)
  blk_ext [iblk, idx t]

theorem read2 (t : Fin cfg0.N) (A : FVec Ideal S1x1 .f32) : ((cfg0.win 2).blk t).view.read (Elt Ideal) A (ix2 0 0) = A (ix2 0 0) := by
  obtain ⟨-, -, -, -, -, e0, e1, -⟩ := idx t
  refine congrArg A (funext fun a => Fin.ext ?_)
  match a with
  | ⟨0, _⟩ => show win0_2.index t (0 : Fin 2) * 1 + 1 * 0 = 0; rw [e0]
  | ⟨1, _⟩ => show win0_2.index t (1 : Fin 2) * 1 + 1 * 0 = 0; rw [e1]

theorem read3 (t : Fin cfg0.N) (A : FVec Ideal S1x1 .f32) : ((cfg0.win 3).blk t).view.read (Elt Ideal) A (ix2 0 0) = A (ix2 0 0) := by
  obtain ⟨-, -, -, -, -, -, -, e0, e1, -⟩ := idx t
  refine congrArg A (funext fun a => Fin.ext ?_)
  match a with
  | ⟨0, _⟩ => show win0_3.index t (0 : Fin 2) * 1 + 1 * 0 = 0; rw [e0]
  | ⟨1, _⟩ => show win0_3.index t (1 : Fin 2) * 1 + 1 * 0 = 0; rw [e1]

theorem read4 (t : Fin cfg0.N) (A : FVec Ideal S1x1 .f32) : ((cfg0.win 4).blk t).view.read (Elt Ideal) A (ix2 0 0) = A (ix2 0 0) := by
  obtain ⟨-, -, -, -, -, -, -, -, -, e0, e1, -⟩ := idx t
  refine congrArg A (funext fun a => Fin.ext ?_)
  match a with
  | ⟨0, _⟩ => show win0_4.index t (0 : Fin 2) * 1 + 1 * 0 = 0; rw [e0]
  | ⟨1, _⟩ => show win0_4.index t (1 : Fin 2) * 1 + 1 * 0 = 0; rw [e1]

theorem blk_dy_inv (c : Dev nD) (t : Fin cfg0.N) : iblk m c 2 t (ix2 0 0) = Ideal.div 1 (scaleDy (dyArr m c)) :=
  (read2 t (V m c main_v35)).trans (congrFun (inv_dy m c) (ix2 0 0))

theorem blk_w_inv (c : Dev nD) (t : Fin cfg0.N) : iblk m c 3 t (ix2 0 0) = Ideal.div 1 (scaleW (wArr m c)) :=
  (read3 t (V m c main_v36)).trans (congrFun (inv_w m c) (ix2 0 0))

theorem blk_scale (c : Dev nD) (t : Fin cfg0.N) : iblk m c 4 t (ix2 0 0) = scaleDy (dyArr m c) * scaleW (wArr m c) :=
  (read4 t (V m c main_v38)).trans (congrFun (scale_both m c) (ix2 0 0))

theorem codes_dy (c : Dev nD) (t : Fin cfg0.N) (b : Fin 6) (r : Fin 3072) (l : Fin 35840) :
    k0_pay1 (iblk m c 2 t) (iblk m c 0 t) (ix3 b r l) = dyCodesOf (dyArr m c) (ix3 b r l) := by
  rw [pay1_apply]
  exact congrArg₂ codeE5 (blk_dy m c t b r l) (blk_dy_inv m c t)

theorem codes_w (c : Dev nD) (t : Fin cfg0.N) (n : Fin 5120) (l : Fin 35840) :
    k0_pay2 (iblk m c 1 t) (iblk m c 3 t) (ix2 n l) = wCodesOf (wArr m c) (ix2 n l) := by
  rw [pay2_apply]
  exact congrArg₂ codeE4 (blk_w m c t n l) (blk_w_inv m c t)

theorem prod (c : Dev nD) (t : Fin cfg0.N) (b : Fin 6) (r : Fin 3072) (n : Fin 5120) :
    k0_pay3 (iblk m c 2 t) (iblk m c 0 t) (iblk m c 1 t) (iblk m c 3 t) (iblk m c 4 t) (ix3 b r n)
      = dxOf (dyArr m c) (wArr m c) (ix3 b r n) := by
  rw [pay3_apply]
  exact congrArg₂ (fun x y : EReal => x * y)
    (Finset.sum_congr rfl fun l _ => congrArg₂ (fun x y : EReal => x * y) (codes_dy m c t b r l) (codes_w m c t n l)) (blk_scale m c t)

/-! ## What the one point writes back -/

theorem emb5 (t : Fin cfg0.N) (b : Fin 6) (r : Fin 3072) (n : Fin 5120) :
    ((cfg0.win 5).blk t).view.emb (ix3 b r n) = (ix3 b r n : S6x3072x5120.Idx) := by
  obtain ⟨-, -, -, -, -, -, -, -, -, -, -, e0, e1, e2, -⟩ := idx t
  refine funext fun a => Fin.ext ?_
  match a with
  | ⟨0, _⟩ => show win0_5.index t (0 : Fin 3) * 6 + 1 * b.val = b.val; rw [e0]; omega
  | ⟨1, _⟩ => show win0_5.index t (1 : Fin 3) * 3072 + 1 * r.val = r.val; rw [e1]; omega
  | ⟨2, _⟩ => show win0_5.index t (2 : Fin 3) * 5120 + 1 * n.val = n.val; rw [e2]; omega

theorem emb6 (t : Fin cfg0.N) (b : Fin 6) (r : Fin 3072) (l : Fin 35840) :
    ((cfg0.win 6).blk t).view.emb (ix3 b r l) = (ix3 b r l : S6x3072x35840.Idx) := by
  obtain ⟨-, -, -, -, -, -, -, -, -, -, -, -, -, -, e0, e1, e2, -⟩ := idx t
  refine funext fun a => Fin.ext ?_
  match a with
  | ⟨0, _⟩ => show win0_6.index t (0 : Fin 3) * 6 + 1 * b.val = b.val; rw [e0]; omega
  | ⟨1, _⟩ => show win0_6.index t (1 : Fin 3) * 3072 + 1 * r.val = r.val; rw [e1]; omega
  | ⟨2, _⟩ => show win0_6.index t (2 : Fin 3) * 35840 + 1 * l.val = l.val; rw [e2]; omega

theorem emb7 (t : Fin cfg0.N) (n : Fin 5120) (l : Fin 35840) :
    ((cfg0.win 7).blk t).view.emb (ix2 n l) = (ix2 n l : S5120x35840.Idx) := by
  obtain ⟨-, -, -, -, -, -, -, -, -, -, -, -, -, -, -, -, -, e0, e1⟩ := idx t
  refine funext fun a => Fin.ext ?_
  match a with
  | ⟨0, _⟩ => show win0_7.index t (0 : Fin 2) * 5120 + 1 * n.val = n.val; rw [e0]; omega
  | ⟨1, _⟩ => show win0_7.index t (1 : Fin 2) * 35840 + 1 * l.val = l.val; rw [e1]; omega

theorem flushed_dx (c : Dev nD) (t : Fin cfg0.N) :
    (dats m 0 c).flushed 5 t = ((cfg0.win 5).blk t).view.read (Elt Ideal) (dxOf (dyArr m c) (wArr m c)) := by
  rw [Value.flushed5]
  frame_out
  funext y
  obtain ⟨b, r, n, rfl⟩ : ∃ (b : Fin 6) (r : Fin 3072) (n : Fin 5120), y = ix3 b r n := ⟨y 0, y 1, y 2, (ix3_eta y).symm⟩
  show k0_pay3 (iblk m c 2 t) (iblk m c 0 t) (iblk m c 1 t) (iblk m c 3 t) (iblk m c 4 t) (ix3 b r n)
    = dxOf (dyArr m c) (wArr m c) (((cfg0.win 5).blk t).view.emb (ix3 b r n))
  exact (prod m c t b r n).trans (congrArg (dxOf (dyArr m c) (wArr m c)) (emb5 t b r n).symm)

theorem flushed_dy (c : Dev nD) (t : Fin cfg0.N) :
    (dats m 0 c).flushed 6 t = ((cfg0.win 6).blk t).view.read (Elt Ideal) (dyCodesOf (dyArr m c)) := by
  rw [Value.flushed6]
  frame_out
  funext y
  obtain ⟨b, r, l, rfl⟩ : ∃ (b : Fin 6) (r : Fin 3072) (l : Fin 35840), y = ix3 b r l := ⟨y 0, y 1, y 2, (ix3_eta y).symm⟩
  show k0_pay1 (iblk m c 2 t) (iblk m c 0 t) (ix3 b r l) = dyCodesOf (dyArr m c) (((cfg0.win 6).blk t).view.emb (ix3 b r l))
  exact (codes_dy m c t b r l).trans (congrArg (dyCodesOf (dyArr m c)) (emb6 t b r l).symm)

theorem flushed_w (c : Dev nD) (t : Fin cfg0.N) :
    (dats m 0 c).flushed 7 t = ((cfg0.win 7).blk t).view.read (Elt Ideal) (wCodesOf (wArr m c)) := by
  rw [Value.flushed7]
  frame_out
  funext y
  obtain ⟨n, l, rfl⟩ : ∃ (n : Fin 5120) (l : Fin 35840), y = ix2 n l := ⟨y 0, y 1, (ix2_eta y).symm⟩
  show k0_pay2 (iblk m c 1 t) (iblk m c 3 t) (ix2 n l) = wCodesOf (wArr m c) (((cfg0.win 7).blk t).view.emb (ix2 n l))
  exact (codes_w m c t n l).trans (congrArg (wCodesOf (wArr m c)) (emb7 t n l).symm)

/-! ## The arrays after the call -/

/-- The one grid point. -/
abbrev t0 : Fin cfg0.N := ⟨0, by decide +kernel⟩

theorem final_dx (c : Dev nD) : (dats m 0 c).arrAt 5 cfg0.N = dxOf (dyArr m c) (wArr m c) :=
  (dats m 0 c).arrAt_eq_of_cover 5 _ (fun t _ => flushed_dx m c t) (fun (i : S6x3072x5120.Idx) =>
    ⟨t0, flush0_5 _, Finset.mem_map.2 ⟨ix3 (i 0) (i 1) (i 2), Finset.mem_univ _, (emb5 t0 _ _ _).trans (ix3_eta i)⟩⟩)

theorem final_dy (c : Dev nD) : (dats m 0 c).arrAt 6 cfg0.N = dyCodesOf (dyArr m c) :=
  (dats m 0 c).arrAt_eq_of_cover 6 _ (fun t _ => flushed_dy m c t) (fun (i : S6x3072x35840.Idx) =>
    ⟨t0, flush0_6 _, Finset.mem_map.2 ⟨ix3 (i 0) (i 1) (i 2), Finset.mem_univ _, (emb6 t0 _ _ _).trans (ix3_eta i)⟩⟩)

theorem final_w (c : Dev nD) : (dats m 0 c).arrAt 7 cfg0.N = wCodesOf (wArr m c) :=
  (dats m 0 c).arrAt_eq_of_cover 7 _ (fun t _ => flushed_w m c t) (fun (i : S5120x35840.Idx) =>
    ⟨t0, flush0_7 _, Finset.mem_map.2 ⟨ix2 (i 0) (i 1), Finset.mem_univ _, (emb7 t0 _ _).trans (ix2_eta i)⟩⟩)

end Cert.ReferenceIdeal.Own
-- ==== Proof.Claim.lean ====
/- Kernel and reference leave the same five arrays. -/
module

public import proofs.«01_k».proof.Defs
public import proofs.«01_k».proof.Proof.Whole
public import proofs.«01_k».proof.Proof.Host
public import proofs.«01_k».proof.Proof.RefValue

@[expose] public section

noncomputable section

namespace Cert.KernelIdeal.Host

open Cert.KernelIdeal Cert.KernelIdeal.Gen Idealize.ShloMosaic Idealize.ShloMosaic.TcCoe Idealize.SL.Sem

/-- What the kernel leaves in its five results. -/
theorem run_values (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v62_0) = dxArr m c
      ∧ r.2.mem ((c.tc : Thread nD τ).loc main_v62_1) = dyCodes m c
      ∧ r.2.mem ((c.tc : Thread nD τ).loc main_v23) = (fun _ : S_.Idx => sDy m c)
      ∧ r.2.mem ((c.tc : Thread nD τ).loc main_v56) = wCodes m c
      ∧ r.2.mem ((c.tc : Thread nD τ).loc main_v50) = (fun _ : S_.Idx => sW m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run _ _ _).mono (fun r h c =>
    ⟨(h.1 c _ (mem_uc main_v62_0 (by decide))).trans (dx16 m ρ c),
     (h.1 c _ (mem_uc main_v62_1 (by decide))).trans (dy_codes16 m ρ c),
     (h.1 c _ (mem_uc main_v23 (by decide))).trans (scale_dy16 m ρ c),
     (h.1 c _ (mem_uc main_v56 (by decide))).trans (w_codes16 m ρ c),
     (h.1 c _ (mem_uc main_v50 (by decide))).trans (scale_w16 m ρ c),
     (h.1 c _ (mem_uc main_arg0 (by decide))).trans (W16_main_arg0 m ρ c),
     (h.1 c _ (mem_uc main_arg1 (by decide))).trans (W16_main_arg1 m ρ c)⟩) (run_all m ρ)

end Cert.KernelIdeal.Host

namespace Cert.ReferenceIdeal.Own

open Cert.ReferenceIdeal Cert.ReferenceIdeal.Gen Cert.ReferenceIdeal.Host Idealize.ShloMosaic Idealize.ShloMosaic.TcCoe Idealize.SL.Sem
open Cert.KernelIdeal.Host (scaleDy scaleW dyCodesOf wCodesOf dxOf)

/-- What the reference leaves in its five results. -/
theorem run_values (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v39_0) = dxOf (dyArr m c) (wArr m c)
      ∧ r.2.mem ((c.tc : Thread nD τ).loc main_v39_1) = dyCodesOf (dyArr m c)
      ∧ r.2.mem ((c.tc : Thread nD τ).loc main_v16) = (fun _ : S_.Idx => scaleDy (dyArr m c))
      ∧ r.2.mem ((c.tc : Thread nD τ).loc main_v39_2) = wCodesOf (wArr m c)
      ∧ r.2.mem ((c.tc : Thread nD τ).loc main_v33) = (fun _ : S_.Idx => scaleW (wArr m c))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run _ _ _).mono (fun r h c =>
    ⟨(Value.post5 m r h c).trans (final_dx m c), (Value.post6 m r h c).trans (final_dy m c),
     ((h c).2 main_v16 (Pipeline.mem_restRefs_of _ rfl (fun w => by fin_cases w <;> exact fun h => by cases h))).trans (scale_dy m c),
     (Value.post7 m r h c).trans (final_w m c),
     ((h c).2 main_v33 (Pipeline.mem_restRefs_of _ rfl (fun w => by fin_cases w <;> exact fun h => by cases h))).trans (scale_w m c),
     Value.kept_main_arg0 m r h c, Value.kept_main_arg1 m r h c⟩) (run_main m ρ)

end Cert.ReferenceIdeal.Own

namespace Cert.Own

open Idealize.ShloMosaic Idealize.ShloMosaic.TcCoe Idealize.SL.Sem
open Cert.KernelIdeal.Host (scaleDy scaleW dyCodesOf wCodesOf dxOf dxArr dyCodes sDy wCodes sW)

/-- Over the reals, the kernel and its reference leave the same product, codes and scales. -/
theorem algebraic_Kernel : Cert.algebraic_KernelIdeal_ReferenceIdeal := by
  intro m g m' g' _ harg
  refine ⟨fun c => dxArr m c, fun c => dyCodes m c, fun c => (fun _ : Cert.KernelIdeal.S_.Idx => sDy m c), fun c => wCodes m c,
    fun c => (fun _ : Cert.KernelIdeal.S_.Idx => sW m c), Cert.KernelIdeal.Host.run_values m g, ?_⟩
  refine (θ_run _ _ _).mono (fun r h c => ?_) (Cert.ReferenceIdeal.Own.run_values m' g')
  obtain ⟨h0, h1, h2, h3, h4, h5⟩ := h c
  obtain ⟨e0, e1⟩ := harg c
  have e0 : Cert.ReferenceIdeal.Host.dyArr m' c = Cert.KernelIdeal.Host.dyArr m c := e0
  have e1 : Cert.ReferenceIdeal.Host.wArr m' c = Cert.KernelIdeal.Host.wArr m c := e1
  refine ⟨h0.trans ?_, h1.trans ?_, h2.trans ?_, h3.trans ?_, h4.trans ?_, h5⟩
  · exact congrArg₂ dxOf e0 e1
  · exact congrArg dyCodesOf e0
  · exact funext fun _ => congrArg scaleDy e0
  · exact congrArg wCodesOf e1
  · exact funext fun _ => congrArg scaleW e1

end Cert.Own
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.KernelFrame
public import proofs.«01_k».proof.Proof.Claim
public import Idealize.ShloMosaic.Adequacy
public import Idealize.ShloMosaic.Init

@[expose] public section

noncomputable section

namespace Cert.Proof

open Idealize.ShloMosaic Idealize.SL.Sem

/-- Every claim of the certificate: the three programs stop without fault with their arguments unchanged, the ideal
    program is the printed one, and kernel and reference leave, over the extended reals, the same five arrays. -/
theorem claim : Cert.Claim :=
  ⟨Cert.Kernel.Gen.facts, Cert.KernelIdeal.Gen.facts, Cert.ReferenceIdeal.Gen.facts,
   Cert.Own.quiescent_Kernel, Cert.Own.quiescent_KernelIdeal,
   fun m ρ _ => Cert.ReferenceIdeal.Gen.frame m ρ,
   trivial, Cert.Own.algebraic_Kernel⟩

end Cert.Proof

end
